-- ==== Defs.lean ====
def Pre_Kernel [hPre_drawn : Cert.Pre_drawn.Facts] (m : (ℓ : Loc Cert.Kernel.nD Cert.Kernel.τ Cert.Kernel.sig) → Buf (Elt Bits) ℓ) : Prop :=
  ∀ c : Dev Cert.Kernel.nD,
    (Cert.Pre_drawn.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_KernelIdeal_drawn_finite [hPre_drawn_finite : Cert.Pre_drawn_finite.Facts] (m : (ℓ : Loc Cert.KernelIdeal.nD Cert.KernelIdeal.τ Cert.KernelIdeal.sig) → Buf (Elt Ideal) ℓ) : Prop :=
  ∀ c : Dev Cert.KernelIdeal.nD,
    (Cert.Pre_drawn_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def Pre_ReferenceIdeal_drawn_finite [hPre_drawn_finite : Cert.Pre_drawn_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] [hPre_drawn : Cert.Pre_drawn.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_drawn_finite [hKernelIdeal : Cert.KernelIdeal.Facts] [hPre_drawn_finite : Cert.Pre_drawn_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_drawn_finite [hReferenceIdeal : Cert.ReferenceIdeal.Facts] [hPre_drawn_finite : Cert.Pre_drawn_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_drawn_finite [hKernelIdeal : Cert.KernelIdeal.Facts] [hReferenceIdeal : Cert.ReferenceIdeal.Facts] [hPre_drawn_finite : Cert.Pre_drawn_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v260) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_drawn : Cert.Pre_drawn.Facts) (hPre_drawn_finite : Cert.Pre_drawn_finite.Facts),
    quiescent_Kernel (hKernel := hKernel) (hPre_drawn := hPre_drawn)
    ∧ quiescent_KernelIdeal (hKernelIdeal := hKernelIdeal) (hPre_drawn := hPre_drawn)
    ∧ quiescent_KernelIdeal_pre_drawn_finite (hKernelIdeal := hKernelIdeal) (hPre_drawn_finite := hPre_drawn_finite)
    ∧ quiescent_ReferenceIdeal (hReferenceIdeal := hReferenceIdeal) (hPre_drawn := hPre_drawn)
    ∧ quiescent_ReferenceIdeal_pre_drawn_finite (hReferenceIdeal := hReferenceIdeal) (hPre_drawn_finite := hPre_drawn_finite)
    ∧ preserves_Kernel_KernelIdeal
    ∧ algebraic_KernelIdeal_ReferenceIdeal_pre_drawn_finite (hKernelIdeal := hKernelIdeal) (hReferenceIdeal := hReferenceIdeal) (hPre_drawn_finite := hPre_drawn_finite)
-- ==== Pre_drawn.lean ====
abbrev S100000x128 : Shape := ⟨2, ![100000, 128]⟩
abbrev S100000 : Shape := ⟨1, ![100000]⟩
abbrev S4x128x32 : Shape := ⟨3, ![4, 128, 32]⟩
abbrev S4x32 : Shape := ⟨2, ![4, 32]⟩
abbrev S4x32x1 : Shape := ⟨3, ![4, 32, 1]⟩
abbrev S4x1 : Shape := ⟨2, ![4, 1]⟩
abbrev S512x128 : Shape := ⟨2, ![512, 128]⟩
abbrev S128 : Shape := ⟨1, ![128]⟩
abbrev S32x8 : Shape := ⟨2, ![32, 8]⟩
abbrev S264x128 : Shape := ⟨2, ![264, 128]⟩
abbrev S128x128 : Shape := ⟨2, ![128, 128]⟩
abbrev S99999 : Shape := ⟨1, ![99999]⟩
abbrev S_ : Shape := ⟨0, ![]⟩

class Facts : Prop where
  slices_S100000_S99999_0 : S100000.Slices ![0] S99999
  slices_S100000_S99999_1 : S100000.Slices ![1] S99999
  reducesTo_S99999_S_d0 : S99999.ReducesTo [0] S_
  h_S_ : 0 < S_.numel
  bcast_S_S100000 : S_.BroadcastsInDim S100000 (![] : Fin 0 → Fin S100000.rank)
  reducesTo_S100000_S_d0 : S100000.ReducesTo [0] S_

variable [Facts]

def fn_part1 {F : FTy → Type} [FloatOps F] (main_arg3 : IVec S100000 32) (main_v15 : IVec S_ 1) (main_c_6 : IVec S_ 32) : IVec S_ 1 :=
  let main_v16 : IVec S100000 32 := broadcastInDim S100000 ![] bcast_S_S100000 main_c_6
  let main_v17 : IVec S100000 1 := cmpi .slt main_arg3 main_v16
  let main_c_7 : IVec S_ 1 := constantI S_ 1 1#1
  let main_v18 : IVec S_ 1 := (fun x v => Host.reduce IntOp.andi x v reducesTo_S100000_S_d0 h_S_) main_v17 main_c_7
  let main_v19 : IVec S_ 1 := andi main_v15 main_v18
  main_v19

def fn {F : FTy → Type} [FloatOps F] (main_arg0 : FVec F S100000x128 .f32) (main_arg1 : IVec S100000 32) (main_arg2 : IVec S100000 1) (main_arg3 : IVec S100000 32) (main_arg4 : FVec F S4x128x32 .f32) (main_arg5 : FVec F S4x32 .f32) (main_arg6 : FVec F S4x32x1 .f32) (main_arg7 : FVec F S4x1 .f32) (main_arg8 : FVec F S512x128 .f32) (main_arg9 : FVec F S128 .f32) (main_arg10 : FVec F S32x8 .f32) (main_arg11 : FVec F S264x128 .f32) (main_arg12 : FVec F S128 .f32) (main_arg13 : FVec F S128x128 .f32) (main_arg14 : FVec F S128 .f32) (main_arg15 : FVec F S128 .f32) (main_arg16 : FVec F S128 .f32) : IVec S_ 1 :=
  let main_v0 : IVec S99999 32 := (extractStridedSlice S99999 ![0] · slices_S100000_S99999_0) main_arg1
  let main_v1 : IVec S99999 32 := (extractStridedSlice S99999 ![1] · slices_S100000_S99999_1) main_arg1
  let main_v2 : IVec S99999 1 := cmpi .sle main_v0 main_v1
  let main_c : IVec S_ 1 := constantI S_ 1 1#1
  let main_v3 : IVec S_ 1 := (fun x v => Host.reduce IntOp.andi x v reducesTo_S99999_S_d0 h_S_) main_v2 main_c
  let main_c_0 : IVec S_ 32 := constantI S_ 32 0#32
  let main_v4 : IVec S100000 32 := broadcastInDim S100000 ![] bcast_S_S100000 main_c_0
  let main_v5 : IVec S100000 1 := cmpi .sge main_arg1 main_v4
  let main_c_1 : IVec S_ 1 := constantI S_ 1 1#1
  let main_v6 : IVec S_ 1 := (fun x v => Host.reduce IntOp.andi x v reducesTo_S100000_S_d0 h_S_) main_v5 main_c_1
  let main_v7 : IVec S_ 1 := andi main_v3 main_v6
  let main_c_2 : IVec S_ 32 := constantI S_ 32 256#32
  let main_v8 : IVec S100000 32 := broadcastInDim S100000 ![] bcast_S_S100000 main_c_2
  let main_v9 : IVec S100000 1 := cmpi .slt main_arg1 main_v8
  let main_c_3 : IVec S_ 1 := constantI S_ 1 1#1
  let main_v10 : IVec S_ 1 := (fun x v => Host.reduce IntOp.andi x v reducesTo_S100000_S_d0 h_S_) main_v9 main_c_3
  let main_v11 : IVec S_ 1 := andi main_v7 main_v10
  let main_c_4 : IVec S_ 32 := constantI S_ 32 0#32
  let main_v12 : IVec S100000 32 := broadcastInDim S100000 ![] bcast_S_S100000 main_c_4
  let main_v13 : IVec S100000 1 := cmpi .sge main_arg3 main_v12
  let main_c_5 : IVec S_ 1 := constantI S_ 1 1#1
  let main_v14 : IVec S_ 1 := (fun x v => Host.reduce IntOp.andi x v reducesTo_S100000_S_d0 h_S_) main_v13 main_c_5
  let main_v15 : IVec S_ 1 := andi main_v11 main_v14
  let main_c_6 : IVec S_ 32 := constantI S_ 32 32#32
  fn_part1 (F := F) main_arg3 main_v15 main_c_6
-- ==== Pre_drawn_finite.lean ====
abbrev S100000x128 : Shape := ⟨2, ![100000, 128]⟩
abbrev S100000 : Shape := ⟨1, ![100000]⟩
abbrev S4x128x32 : Shape := ⟨3, ![4, 128, 32]⟩
abbrev S4x32 : Shape := ⟨2, ![4, 32]⟩
abbrev S4x32x1 : Shape := ⟨3, ![4, 32, 1]⟩
abbrev S4x1 : Shape := ⟨2, ![4, 1]⟩
abbrev S512x128 : Shape := ⟨2, ![512, 128]⟩
abbrev S128 : Shape := ⟨1, ![128]⟩
abbrev S32x8 : Shape := ⟨2, ![32, 8]⟩
abbrev S264x128 : Shape := ⟨2, ![264, 128]⟩
abbrev S128x128 : Shape := ⟨2, ![128, 128]⟩
abbrev S99999 : Shape := ⟨1, ![99999]⟩
abbrev S_ : Shape := ⟨0, ![]⟩

class Facts : Prop where
  slices_S100000_S99999_0 : S100000.Slices ![0] S99999
  slices_S100000_S99999_1 : S100000.Slices ![1] S99999
  reducesTo_S99999_S_d0 : S99999.ReducesTo [0] S_
  h_S_ : 0 < S_.numel
  bcast_S_S100000 : S_.BroadcastsInDim S100000 (![] : Fin 0 → Fin S100000.rank)
  reducesTo_S100000_S_d0 : S100000.ReducesTo [0] S_
  bcast_S_S4x32x1 : S_.BroadcastsInDim S4x32x1 (![] : Fin 0 → Fin S4x32x1.rank)
  reducesTo_S4x32x1_S_d0_1_2 : S4x32x1.ReducesTo [0, 1, 2] S_
  bcast_S_S4x1 : S_.BroadcastsInDim S4x1 (![] : Fin 0 → Fin S4x1.rank)
  reducesTo_S4x1_S_d0_1 : S4x1.ReducesTo [0, 1] S_

variable [Facts]

def fn_part1 {F : FTy → Type} [FloatOps F] (main_arg3 : IVec S100000 32) (main_arg6 : FVec F S4x32x1 .f32) (main_arg7 : FVec F S4x1 .f32) (main_v15 : IVec S_ 1) (main_c_6 : IVec S_ 32) : IVec S_ 1 :=
  let main_v16 : IVec S100000 32 := broadcastInDim S100000 ![] bcast_S_S100000 main_c_6
  let main_v17 : IVec S100000 1 := cmpi .slt main_arg3 main_v16
  let main_c_7 : IVec S_ 1 := constantI S_ 1 1#1
  let main_v18 : IVec S_ 1 := (fun x v => Host.reduce IntOp.andi x v reducesTo_S100000_S_d0 h_S_) main_v17 main_c_7
  let main_v19 : IVec S_ 1 := andi main_v15 main_v18
  let main_v20 : FVec F S4x32x1 .f32 := Host.absf main_arg6
  let main_cst : FVec F S_ .f32 := constant S_ .f32 0x7F800000#32
  let main_v21 : FVec F S4x32x1 .f32 := broadcastInDim S4x32x1 ![] bcast_S_S4x32x1 main_cst
  let main_v22 : IVec S4x32x1 1 := cmpf .olt main_v20 main_v21
  let main_c_8 : IVec S_ 1 := constantI S_ 1 1#1
  let main_v23 : IVec S_ 1 := (fun x v => Host.reduce IntOp.andi x v reducesTo_S4x32x1_S_d0_1_2 h_S_) main_v22 main_c_8
  let main_v24 : IVec S_ 1 := andi main_v19 main_v23
  let main_v25 : FVec F S4x1 .f32 := Host.absf main_arg7
  let main_cst_9 : FVec F S_ .f32 := constant S_ .f32 0x7F800000#32
  let main_v26 : FVec F S4x1 .f32 := broadcastInDim S4x1 ![] bcast_S_S4x1 main_cst_9
  let main_v27 : IVec S4x1 1 := cmpf .olt main_v25 main_v26
  let main_c_10 : IVec S_ 1 := constantI S_ 1 1#1
  let main_v28 : IVec S_ 1 := (fun x v => Host.reduce IntOp.andi x v reducesTo_S4x1_S_d0_1 h_S_) main_v27 main_c_10
  let main_v29 : IVec S_ 1 := andi main_v24 main_v28
  main_v29

def fn {F : FTy → Type} [FloatOps F] (main_arg0 : FVec F S100000x128 .f32) (main_arg1 : IVec S100000 32) (main_arg2 : IVec S100000 1) (main_arg3 : IVec S100000 32) (main_arg4 : FVec F S4x128x32 .f32) (main_arg5 : FVec F S4x32 .f32) (main_arg6 : FVec F S4x32x1 .f32) (main_arg7 : FVec F S4x1 .f32) (main_arg8 : FVec F S512x128 .f32) (main_arg9 : FVec F S128 .f32) (main_arg10 : FVec F S32x8 .f32) (main_arg11 : FVec F S264x128 .f32) (main_arg12 : FVec F S128 .f32) (main_arg13 : FVec F S128x128 .f32) (main_arg14 : FVec F S128 .f32) (main_arg15 : FVec F S128 .f32) (main_arg16 : FVec F S128 .f32) : IVec S_ 1 :=
  let main_v0 : IVec S99999 32 := (extractStridedSlice S99999 ![0] · slices_S100000_S99999_0) main_arg1
  let main_v1 : IVec S99999 32 := (extractStridedSlice S99999 ![1] · slices_S100000_S99999_1) main_arg1
  let main_v2 : IVec S99999 1 := cmpi .sle main_v0 main_v1
  let main_c : IVec S_ 1 := constantI S_ 1 1#1
  let main_v3 : IVec S_ 1 := (fun x v => Host.reduce IntOp.andi x v reducesTo_S99999_S_d0 h_S_) main_v2 main_c
  let main_c_0 : IVec S_ 32 := constantI S_ 32 0#32
  let main_v4 : IVec S100000 32 := broadcastInDim S100000 ![] bcast_S_S100000 main_c_0
  let main_v5 : IVec S100000 1 := cmpi .sge main_arg1 main_v4
  let main_c_1 : IVec S_ 1 := constantI S_ 1 1#1
  let main_v6 : IVec S_ 1 := (fun x v => Host.reduce IntOp.andi x v reducesTo_S100000_S_d0 h_S_) main_v5 main_c_1
  let main_v7 : IVec S_ 1 := andi main_v3 main_v6
  let main_c_2 : IVec S_ 32 := constantI S_ 32 256#32
  let main_v8 : IVec S100000 32 := broadcastInDim S100000 ![] bcast_S_S100000 main_c_2
  let main_v9 : IVec S100000 1 := cmpi .slt main_arg1 main_v8
  let main_c_3 : IVec S_ 1 := constantI S_ 1 1#1
  let main_v10 : IVec S_ 1 := (fun x v => Host.reduce IntOp.andi x v reducesTo_S100000_S_d0 h_S_) main_v9 main_c_3
  let main_v11 : IVec S_ 1 := andi main_v7 main_v10
  let main_c_4 : IVec S_ 32 := constantI S_ 32 0#32
  let main_v12 : IVec S100000 32 := broadcastInDim S100000 ![] bcast_S_S100000 main_c_4
  let main_v13 : IVec S100000 1 := cmpi .sge main_arg3 main_v12
  let main_c_5 : IVec S_ 1 := constantI S_ 1 1#1
  let main_v14 : IVec S_ 1 := (fun x v => Host.reduce IntOp.andi x v reducesTo_S100000_S_d0 h_S_) main_v13 main_c_5
  let main_v15 : IVec S_ 1 := andi main_v11 main_v14
  let main_c_6 : IVec S_ 32 := constantI S_ 32 32#32
  fn_part1 (F := F) main_arg3 main_arg6 main_arg7 main_v15 main_c_6
-- ==== Kernel.lean ====
abbrev S100000x128 : Shape := ⟨2, ![100000, 128]⟩
abbrev S100000 : Shape := ⟨1, ![100000]⟩
abbrev S4x128x32 : Shape := ⟨3, ![4, 128, 32]⟩
abbrev S4x32 : Shape := ⟨2, ![4, 32]⟩
abbrev S4x32x1 : Shape := ⟨3, ![4, 32, 1]⟩
abbrev S4x1 : Shape := ⟨2, ![4, 1]⟩
abbrev S512x128 : Shape := ⟨2, ![512, 128]⟩
abbrev S128 : Shape := ⟨1, ![128]⟩
abbrev S32x8 : Shape := ⟨2, ![32, 8]⟩
abbrev S264x128 : Shape := ⟨2, ![264, 128]⟩
abbrev S128x128 : Shape := ⟨2, ![128, 128]⟩
abbrev S128x4x32 : Shape := ⟨3, ![128, 4, 32]⟩
abbrev S1x128 : Shape := ⟨2, ![1, 128]⟩
abbrev S4x4 : Shape := ⟨2, ![4, 4]⟩
abbrev S_ : Shape := ⟨0, ![]⟩
abbrev S4x1x4 : Shape := ⟨3, ![4, 1, 4]⟩
abbrev S4x32x4 : Shape := ⟨3, ![4, 32, 4]⟩
abbrev S128x4 : Shape := ⟨2, ![128, 4]⟩
abbrev S1x4 : Shape := ⟨2, ![1, 4]⟩
abbrev S20x1x5000 : Shape := ⟨3, ![20, 1, 5000]⟩
abbrev S100000x1 : Shape := ⟨2, ![100000, 1]⟩
abbrev S32 : Shape := ⟨1, ![32]⟩
abbrev S1x32 : Shape := ⟨2, ![1, 32]⟩
abbrev S100000x32 : Shape := ⟨2, ![100000, 32]⟩
abbrev S100000x7 : Shape := ⟨2, ![100000, 7]⟩
abbrev S100000x40 : Shape := ⟨2, ![100000, 40]⟩
abbrev S20 : Shape := ⟨1, ![20]⟩
abbrev S8x128 : Shape := ⟨2, ![8, 128]⟩
abbrev S256x128 : Shape := ⟨2, ![256, 128]⟩
abbrev S5000x128 : Shape := ⟨2, ![5000, 128]⟩
abbrev S1x1x5000 : Shape := ⟨3, ![1, 1, 5000]⟩
abbrev S5000x40 : Shape := ⟨2, ![5000, 40]⟩
abbrev S256x512 : Shape := ⟨2, ![256, 512]⟩
abbrev S256x4 : Shape := ⟨2, ![256, 4]⟩
abbrev S256x1 : Shape := ⟨2, ![256, 1]⟩
abbrev S256x32 : Shape := ⟨2, ![256, 32]⟩
abbrev S1x5000 : Shape := ⟨2, ![1, 5000]⟩
abbrev S5000x4 : Shape := ⟨2, ![5000, 4]⟩
abbrev S5000x1 : Shape := ⟨2, ![5000, 1]⟩
abbrev S5000x640 : Shape := ⟨2, ![5000, 640]⟩
abbrev S1 : Shape := ⟨1, ![1]⟩
abbrev S40x5000 : Shape := ⟨2, ![40, 5000]⟩
abbrev S40x640 : Shape := ⟨2, ![40, 640]⟩
abbrev S40x128 : Shape := ⟨2, ![40, 128]⟩
abbrev S40x4 : Shape := ⟨2, ![40, 4]⟩
abbrev S40x40 : Shape := ⟨2, ![40, 40]⟩
abbrev S40x32 : Shape := ⟨2, ![40, 32]⟩
abbrev S40x1 : Shape := ⟨2, ![40, 1]⟩
abbrev S256x5000 : Shape := ⟨2, ![256, 5000]⟩
abbrev S256x640 : Shape := ⟨2, ![256, 640]⟩
abbrev S256x40 : Shape := ⟨2, ![256, 40]⟩
abbrev S4x512 : Shape := ⟨2, ![4, 512]⟩
abbrev S256 : Shape := ⟨1, ![256]⟩
abbrev S256x8 : Shape := ⟨2, ![256, 8]⟩

abbrev nBuf : Space → Nat
  | .hbm => 86
  | .vmem => 27
  | .smem => 2
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S100000, .i1⟩
  | .hbm, ⟨3, _⟩ => ⟨S100000, .i32⟩
  | .hbm, ⟨4, _⟩ => ⟨S4x128x32, .f32⟩
  | .hbm, ⟨5, _⟩ => ⟨S4x32, .f32⟩
  | .hbm, ⟨6, _⟩ => ⟨S4x32x1, .f32⟩
  | .hbm, ⟨7, _⟩ => ⟨S4x1, .f32⟩
  | .hbm, ⟨8, _⟩ => ⟨S512x128, .f32⟩
  | .hbm, ⟨9, _⟩ => ⟨S128, .f32⟩
  | .hbm, ⟨10, _⟩ => ⟨S32x8, .f32⟩
  | .hbm, ⟨11, _⟩ => ⟨S264x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128x4x32, .f32⟩
  | .hbm, ⟨18, _⟩ => ⟨S128x128, .f32⟩
  | .hbm, ⟨19, _⟩ => ⟨S128x128, .bf16⟩
  | .hbm, ⟨20, _⟩ => ⟨S1x128, .f32⟩
  | .hbm, ⟨21, _⟩ => ⟨S4x32, .f32⟩
  | .hbm, ⟨22, _⟩ => ⟨S4x32x1, .f32⟩
  | .hbm, ⟨23, _⟩ => ⟨S4x4, .i32⟩
  | .hbm, ⟨24, _⟩ => ⟨S4x4, .i32⟩
  | .hbm, ⟨25, _⟩ => ⟨S_, .i32⟩
  | .hbm, ⟨26, _⟩ => ⟨S4x4, .i32⟩
  | .hbm, ⟨27, _⟩ => ⟨S4x4, .i32⟩
  | .hbm, ⟨28, _⟩ => ⟨S4x4, .i1⟩
  | .hbm, ⟨29, _⟩ => ⟨S4x4, .f32⟩
  | .hbm, ⟨30, _⟩ => ⟨S4x1x4, .f32⟩
  | .hbm, ⟨31, _⟩ => ⟨S4x32x4, .f32⟩
  | .hbm, ⟨32, _⟩ => ⟨S4x32x4, .f32⟩
  | .hbm, ⟨33, _⟩ => ⟨S4x32x4, .f32⟩
  | .hbm, ⟨34, _⟩ => ⟨S128x4, .f32⟩
  | .hbm, ⟨35, _⟩ => ⟨S1x4, .f32⟩
  | .hbm, ⟨36, _⟩ => ⟨S20x1x5000, .i32⟩
  | .hbm, ⟨37, _⟩ => ⟨S100000x1, .i32⟩
  | .hbm, ⟨38, _⟩ => ⟨S32, .i32⟩
  | .hbm, ⟨39, _⟩ => ⟨S1x32, .i32⟩
  | .hbm, ⟨40, _⟩ => ⟨S100000x32, .i32⟩
  | .hbm, ⟨41, _⟩ => ⟨S100000x32, .i32⟩
  | .hbm, ⟨42, _⟩ => ⟨S100000x32, .i1⟩
  | .hbm, ⟨43, _⟩ => ⟨S100000x1, .i1⟩
  | .hbm, ⟨44, _⟩ => ⟨S_, .i1⟩
  | .hbm, ⟨45, _⟩ => ⟨S100000x7, .i1⟩
  | .hbm, ⟨46, _⟩ => ⟨S100000x40, .i1⟩
  | .hbm, ⟨47, _⟩ => ⟨S100000x40, .bf16⟩
  | .hbm, ⟨48, _⟩ => ⟨S20, .i32⟩
  | .hbm, ⟨49, _⟩ => ⟨S20, .i32⟩
  | .hbm, ⟨50, _⟩ => ⟨S_, .i32⟩
  | .hbm, ⟨51, _⟩ => ⟨S_, .i32⟩
  | .hbm, ⟨52, _⟩ => ⟨S20, .i32⟩
  | .hbm, ⟨53, _⟩ => ⟨S20, .i32⟩
  | .hbm, ⟨54, _⟩ => ⟨S20, .i32⟩
  | .hbm, ⟨55, _⟩ => ⟨S_, .i32⟩
  | .hbm, ⟨56, _⟩ => ⟨S20, .i32⟩
  | .hbm, ⟨57, _⟩ => ⟨S20, .i1⟩
  | .hbm, ⟨58, _⟩ => ⟨S20, .i32⟩
  | .hbm, ⟨59, _⟩ => ⟨S20, .i32⟩
  | .hbm, ⟨60, _⟩ => ⟨S_, .i32⟩
  | .hbm, ⟨61, _⟩ => ⟨S20, .i32⟩
  | .hbm, ⟨62, _⟩ => ⟨S20, .i1⟩
  | .hbm, ⟨63, _⟩ => ⟨S20, .i1⟩
  | .hbm, ⟨64, _⟩ => ⟨S_, .i32⟩
  | .hbm, ⟨65, _⟩ => ⟨S20, .i32⟩
  | .hbm, ⟨66, _⟩ => ⟨S20, .i32⟩
  | .hbm, ⟨67, _⟩ => ⟨S20, .i32⟩
  | .hbm, ⟨68, _⟩ => ⟨S_, .i32⟩
  | .hbm, ⟨69, _⟩ => ⟨S20, .i32⟩
  | .hbm, ⟨70, _⟩ => ⟨S20, .i32⟩
  | .hbm, ⟨71, _⟩ => ⟨S_, .i32⟩
  | .hbm, ⟨72, _⟩ => ⟨S20, .i32⟩
  | .hbm, ⟨73, _⟩ => ⟨S20, .i32⟩
  | .hbm, ⟨74, _⟩ => ⟨S_, .i32⟩
  | .hbm, ⟨75, _⟩ => ⟨S20, .i32⟩
  | .hbm, ⟨76, _⟩ => ⟨S20, .i1⟩
  | .hbm, ⟨77, _⟩ => ⟨S128x128, .f32⟩
  | .hbm, ⟨78, _⟩ => ⟨S128x128, .f32⟩
  | .hbm, ⟨79, _⟩ => ⟨S8x128, .f32⟩
  | .hbm, ⟨80, _⟩ => ⟨S1x128, .f32⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S256x128, .f32⟩
  | .local _ .vmem, ⟨0, _⟩ => ⟨S5000x128, .f32⟩
  | .local _ .vmem, ⟨1, _⟩ => ⟨S5000x128, .f32⟩
  | .local _ .vmem, ⟨2, _⟩ => ⟨S1x1x5000, .i32⟩
  | .local _ .vmem, ⟨3, _⟩ => ⟨S1x1x5000, .i32⟩
  | .local _ .vmem, ⟨4, _⟩ => ⟨S5000x40, .bf16⟩
  | .local _ .vmem, ⟨5, _⟩ => ⟨S5000x40, .bf16⟩
  | .local _ .vmem, ⟨6, _⟩ => ⟨S128x128, .bf16⟩
  | .local _ .vmem, ⟨7, _⟩ => ⟨S1x128, .f32⟩
  | .local _ .vmem, ⟨8, _⟩ => ⟨S128x4, .f32⟩
  | .local _ .vmem, ⟨9, _⟩ => ⟨S1x4, .f32⟩
  | .local _ .vmem, ⟨10, _⟩ => ⟨S512x128, .f32⟩
  | .local _ .vmem, ⟨11, _⟩ => ⟨S1x128, .f32⟩
  | .local _ .vmem, ⟨12, _⟩ => ⟨S32x8, .f32⟩
  | .local _ .vmem, ⟨13, _⟩ => ⟨S128x128, .f32⟩
  | .local _ .vmem, ⟨14, _⟩ => ⟨S128x128, .f32⟩
  | .local _ .vmem, ⟨15, _⟩ => ⟨S8x128, .f32⟩
  | .local _ .vmem, ⟨16, _⟩ => ⟨S1x128, .f32⟩
  | .local _ .vmem, ⟨17, _⟩ => ⟨S128x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S256x128, .f32⟩
  | .local _ .vmem, ⟨22, _⟩ => ⟨S256x512, .f32⟩
  | .local _ .vmem, ⟨23, _⟩ => ⟨S256x128, .f32⟩
  | .local _ .vmem, ⟨24, _⟩ => ⟨S256x4, .f32⟩
  | .local _ .vmem, ⟨25, _⟩ => ⟨S256x1, .f32⟩
  | .local _ .vmem, ⟨26, _⟩ => ⟨S256x32, .f32⟩
  | .local _ .smem, ⟨0, _⟩ => ⟨S20, .i32⟩
  | .local _ .smem, ⟨1, _⟩ => ⟨S20, .i32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_1 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_v8 : Ref sig .tc := ⟨.hbm, 59, rfl⟩
abbrev main_call0_c : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_c_0 : Ref sig .tc := ⟨.hbm, 64, rfl⟩
abbrev main_call0_v12 : Ref sig .tc := ⟨.hbm, 65, rfl⟩
abbrev main_call0_v13 : Ref sig .tc := ⟨.hbm, 66, rfl⟩
abbrev main_v31 : Ref sig .tc := ⟨.hbm, 67, rfl⟩
abbrev main_c_2 : Ref sig .tc := ⟨.hbm, 68, rfl⟩
abbrev main_v32 : Ref sig .tc := ⟨.hbm, 69, rfl⟩
abbrev main_v33 : Ref sig .tc := ⟨.hbm, 70, rfl⟩
abbrev main_c_3 : Ref sig .tc := ⟨.hbm, 71, rfl⟩
abbrev main_v34 : Ref sig .tc := ⟨.hbm, 72, rfl⟩
abbrev main_v36 : Ref sig .tc := ⟨.hbm, 73, rfl⟩
abbrev main_c_4 : Ref sig .tc := ⟨.hbm, 74, rfl⟩
abbrev main_v37 : Ref sig .tc := ⟨.hbm, 75, rfl⟩
abbrev main_v38 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v35 : Ref sig .tc := ⟨.smem, 0, rfl⟩
abbrev main_v39 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21

abbrev nD : Nat := 1
abbrev τ : Topo := Topo.v7x

variable {F : FTy → Type} [FloatOps F]

abbrev grid0 : Pipeline.Grid := ⟨1, ![20], ![false]⟩

abbrev pre0 : Pipeline.Prefetch sig := ⟨2, ![main_v35.idx, main_v39.idx], fun | 0 => main_v35.names | 1 => main_v39.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v43 : Index := Scalar.indexCast arg0
  ![v43.toNat]
def k0_mult1 (v44 : BitVec 32) : BitVec 32 :=
  v44

def k0_chk1 (v44 : BitVec 32) : Prop :=
  (8 ∣ (k0_mult1 v44).toNat)
theorem k0_mult1_dvd : ∀ (v44 : BitVec 32) (k0_hw1 : k0_chk1 v44), 8 ∣ (k0_mult1 v44).toNat := fun v44 k0_hw1 => k0_hw1

def k0_off2 (i : grid0.Coords) : Fin 1 → Nat :=
  let arg0 : BitVec 32 := BitVec.ofNat 32 (i 0).val
  let v46 : Index := Scalar.indexCast arg0
  ![v46.toNat]
def k0_off3 (v44 : BitVec 32) : Fin 2 → Nat :=
  let v45 : BitVec 32 := v44
  let v66 : Index := Scalar.indexCast v45
  let c0_22 : Index := 0#32
  ![v66.toNat, 0]
def k0_cond2 (v47 : BitVec 32) : BitVec 1 :=
  let c0_i32_16 : BitVec 32 := 0#32
  let v48 : BitVec 1 := Scalar.cmpi .eq v47 c0_i32_16
  let v49 : BitVec 32 := Scalar.extui v48
  let c0_i32_17 : BitVec 32 := 0#32
  let v50 : BitVec 1 := Scalar.cmpi .ne v49 c0_i32_17
  v50

def k0_off4 (v44 : BitVec 32) : Fin 2 → Nat :=
  let v45 : BitVec 32 := v44
  let v74 : Index := Scalar.indexCast v45
  let c128 : Index := 128#32
  ![v74.toNat, 128]
def k0_off5 (v44 : BitVec 32) : Fin 2 → Nat :=
  let v45 : BitVec 32 := v44
  let v82 : Index := Scalar.indexCast v45
  let c256 : Index := 256#32
  ![v82.toNat, 256]
def k0_off6 (v44 : BitVec 32) : Fin 2 → Nat :=
  let v45 : BitVec 32 := v44
  let v90 : Index := Scalar.indexCast v45
  let c384 : Index := 384#32
  ![v90.toNat, 384]
def k0_off7 (v44 : BitVec 32) : Fin 2 → Nat :=
  let v45 : BitVec 32 := v44
  let v98 : Index := Scalar.indexCast v45
  let c0_27 : Index := 0#32
  ![v98.toNat, 0]
def k0_off8 (v44 : BitVec 32) : Fin 2 → Nat :=
  let v45 : BitVec 32 := v44
  let v106 : Index := Scalar.indexCast v45
  let c0_29 : Index := 0#32
  ![v106.toNat, 0]
def k0_off9 (v44 : BitVec 32) : Fin 2 → Nat :=
  let v45 : BitVec 32 := v44
  let v115 : Index := Scalar.indexCast v45
  let c0_33 : Index := 0#32
  ![v115.toNat, 0]
def k0_off10 (v44 : BitVec 32) : Fin 2 → Nat :=
  let v45 : BitVec 32 := v44
  let v123 : Index := Scalar.indexCast v45
  let c0_35 : Index := 0#32
  ![v123.toNat, 0]

def k0_chk2 (v44 : BitVec 32) (v47 : BitVec 32) : Prop :=
  (∀ (k0_h2 : k0_cond2 v47 = 1#1), ∀ a, (k0_off3 v44) a + S40x128.size a ≤ S256x512.size a) ∧
  (∀ (k0_h2 : k0_cond2 v47 = 1#1), ∀ a, (k0_off4 v44) a + S40x128.size a ≤ S256x512.size a) ∧
  (∀ (k0_h2 : k0_cond2 v47 = 1#1), ∀ a, (k0_off5 v44) a + S40x128.size a ≤ S256x512.size a) ∧
  (∀ (k0_h2 : k0_cond2 v47 = 1#1), ∀ a, (k0_off6 v44) a + S40x128.size a ≤ S256x512.size a) ∧
  (∀ (k0_h2 : k0_cond2 v47 = 1#1), ∀ a, (k0_off7 v44) a + S40x128.size a ≤ S256x128.size a) ∧
  (∀ (k0_h2 : k0_cond2 v47 = 1#1), ∀ a, (k0_off8 v44) a + S40x4.size a ≤ S256x4.size a) ∧
  (∀ (k0_h2 : k0_cond2 v47 = 1#1), ∀ a, (k0_off9 v44) a + S40x32.size a ≤ S256x32.size a) ∧
  (∀ (k0_h2 : k0_cond2 v47 = 1#1), ∀ a, (k0_off10 v44) a + S40x1.size a ≤ S256x1.size a)
theorem k0_off3_inb : ∀ (v44 : BitVec 32) (v47 : BitVec 32) (k0_hw2 : k0_chk2 v44 v47), ∀ (k0_h2 : k0_cond2 v47 = 1#1), ∀ a, (k0_off3 v44) a + S40x128.size a ≤ S256x512.size a := fun v44 v47 k0_hw2 k0_h2 => k0_hw2.1 k0_h2
theorem k0_off4_inb : ∀ (v44 : BitVec 32) (v47 : BitVec 32) (k0_hw2 : k0_chk2 v44 v47), ∀ (k0_h2 : k0_cond2 v47 = 1#1), ∀ a, (k0_off4 v44) a + S40x128.size a ≤ S256x512.size a := fun v44 v47 k0_hw2 k0_h2 => k0_hw2.2.1 k0_h2
theorem k0_off5_inb : ∀ (v44 : BitVec 32) (v47 : BitVec 32) (k0_hw2 : k0_chk2 v44 v47), ∀ (k0_h2 : k0_cond2 v47 = 1#1), ∀ a, (k0_off5 v44) a + S40x128.size a ≤ S256x512.size a := fun v44 v47 k0_hw2 k0_h2 => k0_hw2.2.2.1 k0_h2
theorem k0_off6_inb : ∀ (v44 : BitVec 32) (v47 : BitVec 32) (k0_hw2 : k0_chk2 v44 v47), ∀ (k0_h2 : k0_cond2 v47 = 1#1), ∀ a, (k0_off6 v44) a + S40x128.size a ≤ S256x512.size a := fun v44 v47 k0_hw2 k0_h2 => k0_hw2.2.2.2.1 k0_h2
theorem k0_off7_inb : ∀ (v44 : BitVec 32) (v47 : BitVec 32) (k0_hw2 : k0_chk2 v44 v47), ∀ (k0_h2 : k0_cond2 v47 = 1#1), ∀ a, (k0_off7 v44) a + S40x128.size a ≤ S256x128.size a := fun v44 v47 k0_hw2 k0_h2 => k0_hw2.2.2.2.2.1 k0_h2
theorem k0_off8_inb : ∀ (v44 : BitVec 32) (v47 : BitVec 32) (k0_hw2 : k0_chk2 v44 v47), ∀ (k0_h2 : k0_cond2 v47 = 1#1), ∀ a, (k0_off8 v44) a + S40x4.size a ≤ S256x4.size a := fun v44 v47 k0_hw2 k0_h2 => k0_hw2.2.2.2.2.2.1 k0_h2
theorem k0_off9_inb : ∀ (v44 : BitVec 32) (v47 : BitVec 32) (k0_hw2 : k0_chk2 v44 v47), ∀ (k0_h2 : k0_cond2 v47 = 1#1), ∀ a, (k0_off9 v44) a + S40x32.size a ≤ S256x32.size a := fun v44 v47 k0_hw2 k0_h2 => k0_hw2.2.2.2.2.2.2.1 k0_h2
theorem k0_off10_inb : ∀ (v44 : BitVec 32) (v47 : BitVec 32) (k0_hw2 : k0_chk2 v44 v47), ∀ (k0_h2 : k0_cond2 v47 = 1#1), ∀ a, (k0_off10 v44) a + S40x1.size a ≤ S256x1.size a := fun v44 v47 k0_hw2 k0_h2 => k0_hw2.2.2.2.2.2.2.2 k0_h2

def k0_cond4 (i : grid0.Coords) : BitVec 1 :=
  let arg0 : BitVec 32 := BitVec.ofNat 32 (i 0).val
  let c19_i32 : BitVec 32 := 19#32
  let v54 : BitVec 1 := Scalar.cmpi .eq arg0 c19_i32
  let v55 : BitVec 32 := Scalar.extui v54
  let c0_i32_20 : BitVec 32 := 0#32
  let v56 : BitVec 1 := Scalar.cmpi .ne v55 c0_i32_20
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x5000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x40 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceIdeal.lean ====
abbrev S100000x128 : Shape := ⟨2, ![100000, 128]⟩
abbrev S100000 : Shape := ⟨1, ![100000]⟩
abbrev S4x128x32 : Shape := ⟨3, ![4, 128, 32]⟩
abbrev S4x32 : Shape := ⟨2, ![4, 32]⟩
abbrev S4x32x1 : Shape := ⟨3, ![4, 32, 1]⟩
abbrev S4x1 : Shape := ⟨2, ![4, 1]⟩
abbrev S512x128 : Shape := ⟨2, ![512, 128]⟩
abbrev S128 : Shape := ⟨1, ![128]⟩
abbrev S32x8 : Shape := ⟨2, ![32, 8]⟩
abbrev S264x128 : Shape := ⟨2, ![264, 128]⟩
abbrev S128x128 : Shape := ⟨2, ![128, 128]⟩
abbrev S100000x1 : Shape := ⟨2, ![100000, 1]⟩
abbrev S256 : Shape := ⟨1, ![256]⟩
abbrev S1x256 : Shape := ⟨2, ![1, 256]⟩
abbrev S100000x256 : Shape := ⟨2, ![100000, 256]⟩
abbrev S1x128x32 : Shape := ⟨3, ![1, 128, 32]⟩
abbrev S128x32 : Shape := ⟨2, ![128, 32]⟩
abbrev S100000x32 : Shape := ⟨2, ![100000, 32]⟩
abbrev S1x32 : Shape := ⟨2, ![1, 32]⟩
abbrev S32 : Shape := ⟨1, ![32]⟩
abbrev S1x32x1 : Shape := ⟨3, ![1, 32, 1]⟩
abbrev S32x1 : Shape := ⟨2, ![32, 1]⟩
abbrev S1x1 : Shape := ⟨2, ![1, 1]⟩
abbrev S1 : Shape := ⟨1, ![1]⟩
abbrev S_ : Shape := ⟨0, ![]⟩
abbrev S256x128 : Shape := ⟨2, ![256, 128]⟩
abbrev S256x512 : Shape := ⟨2, ![256, 512]⟩
abbrev S1x128 : Shape := ⟨2, ![1, 128]⟩
abbrev S256x1 : Shape := ⟨2, ![256, 1]⟩
abbrev S256x8 : Shape := ⟨2, ![256, 8]⟩
abbrev S256x264 : Shape := ⟨2, ![256, 264]⟩

abbrev nBuf : Space → Nat
  | .hbm => 364
  | .vmem => 0
  | .smem => 0
  | _ => 0

abbrev hbmTy0_0 (i : Nat) : BufTy := match i % 128 with
  | 0 => ⟨S100000x128, .f32⟩
  | 1 => ⟨S100000, .i32⟩
  | 2 => ⟨S100000, .i1⟩
  | 3 => ⟨S100000, .i32⟩
  | 4 => ⟨S4x128x32, .f32⟩
  | 5 => ⟨S4x32, .f32⟩
  | 6 => ⟨S4x32x1, .f32⟩
  | 7 => ⟨S4x1, .f32⟩
  | 8 => ⟨S512x128, .f32⟩
  | 9 => ⟨S128, .f32⟩
  | 10 => ⟨S32x8, .f32⟩
  | 11 => ⟨S264x128, .f32⟩
  | 12 => ⟨S128, .f32⟩
  | 13 => ⟨S128x128, .f32⟩
  | 14 => ⟨S128, .f32⟩
  | 15 => ⟨S128, .f32⟩
  | 16 => ⟨S128, .f32⟩
  | 17 => ⟨S100000x1, .i32⟩
  | 18 => ⟨S256, .i32⟩
  | 19 => ⟨S1x256, .i32⟩
  | 20 => ⟨S100000x256, .i32⟩
  | 21 => ⟨S100000x256, .i32⟩
  | 22 => ⟨S100000x256, .i1⟩
  | 23 => ⟨S1x128x32, .f32⟩
  | 24 => ⟨S128x32, .f32⟩
  | 25 => ⟨S100000x32, .f32⟩
  | 26 => ⟨S1x32, .f32⟩
  | 27 => ⟨S32, .f32⟩
  | 28 => ⟨S1x32, .f32⟩
  | 29 => ⟨S100000x32, .f32⟩
  | 30 => ⟨S100000x32, .f32⟩
  | 31 => ⟨S100000x32, .f32⟩
  | 32 => ⟨S1x32x1, .f32⟩
  | 33 => ⟨S32x1, .f32⟩
  | 34 => ⟨S100000x1, .f32⟩
  | 35 => ⟨S1x1, .f32⟩
  | 36 => ⟨S1, .f32⟩
  | 37 => ⟨S1x1, .f32⟩
  | 38 => ⟨S100000x1, .f32⟩
  | 39 => ⟨S100000x1, .f32⟩
  | 40 => ⟨S100000, .f32⟩
  | 41 => ⟨S100000x1, .f32⟩
  | 42 => ⟨S_, .f32⟩
  | 43 => ⟨S_, .f32⟩
  | 44 => ⟨S100000x256, .f32⟩
  | 45 => ⟨S100000x256, .f32⟩
  | 46 => ⟨S100000x256, .f32⟩
  | 47 => ⟨S_, .f32⟩
  | 48 => ⟨S256, .f32⟩
  | 49 => ⟨S_, .i32⟩
  | 50 => ⟨S100000, .i32⟩
  | 51 => ⟨S100000, .i1⟩
  | 52 => ⟨S_, .i32⟩
  | 53 => ⟨S100000, .i32⟩
  | 54 => ⟨S100000, .i32⟩
  | 55 => ⟨S100000, .i32⟩
  | 56 => ⟨S100000x1, .i32⟩
  | 57 => ⟨S100000, .f32⟩
  | 58 => ⟨S100000, .f32⟩
  | 59 => ⟨S100000, .f32⟩
  | 60 => ⟨S_, .f32⟩
  | 61 => ⟨S256, .f32⟩
  | 62 => ⟨S100000x1, .i32⟩
  | 63 => ⟨S256, .f32⟩
  | 64 => ⟨S_, .i32⟩
  | 65 => ⟨S100000, .i32⟩
  | 66 => ⟨S100000, .i1⟩
  | 67 => ⟨S_, .i32⟩
  | 68 => ⟨S100000, .i32⟩
  | 69 => ⟨S100000, .i32⟩
  | 70 => ⟨S100000, .i32⟩
  | 71 => ⟨S100000x1, .i32⟩
  | 72 => ⟨S100000, .f32⟩
  | 73 => ⟨S100000, .f32⟩
  | 74 => ⟨S100000x1, .f32⟩
  | 75 => ⟨S100000x128, .f32⟩
  | 76 => ⟨S100000x128, .f32⟩
  | 77 => ⟨S_, .f32⟩
  | 78 => ⟨S256x128, .f32⟩
  | 79 => ⟨S100000x1, .i32⟩
  | 80 => ⟨S256x128, .f32⟩
  | 81 => ⟨S1x128x32, .f32⟩
  | 82 => ⟨S128x32, .f32⟩
  | 83 => ⟨S100000x32, .f32⟩
  | 84 => ⟨S1x32, .f32⟩
  | 85 => ⟨S32, .f32⟩
  | 86 => ⟨S1x32, .f32⟩
  | 87 => ⟨S100000x32, .f32⟩
  | 88 => ⟨S100000x32, .f32⟩
  | 89 => ⟨S100000x32, .f32⟩
  | 90 => ⟨S1x32x1, .f32⟩
  | 91 => ⟨S32x1, .f32⟩
  | 92 => ⟨S100000x1, .f32⟩
  | 93 => ⟨S1x1, .f32⟩
  | 94 => ⟨S1, .f32⟩
  | 95 => ⟨S1x1, .f32⟩
  | 96 => ⟨S100000x1, .f32⟩
  | 97 => ⟨S100000x1, .f32⟩
  | 98 => ⟨S100000, .f32⟩
  | 99 => ⟨S100000x1, .f32⟩
  | 100 => ⟨S_, .f32⟩
  | 101 => ⟨S_, .f32⟩
  | 102 => ⟨S100000x256, .f32⟩
  | 103 => ⟨S100000x256, .f32⟩
  | 104 => ⟨S100000x256, .f32⟩
  | 105 => ⟨S_, .f32⟩
  | 106 => ⟨S256, .f32⟩
  | 107 => ⟨S_, .i32⟩
  | 108 => ⟨S100000, .i32⟩
  | 109 => ⟨S100000, .i1⟩
  | 110 => ⟨S_, .i32⟩
  | 111 => ⟨S100000, .i32⟩
  | 112 => ⟨S100000, .i32⟩
  | 113 => ⟨S100000, .i32⟩
  | 114 => ⟨S100000x1, .i32⟩
  | 115 => ⟨S100000, .f32⟩
  | 116 => ⟨S100000, .f32⟩
  | 117 => ⟨S100000, .f32⟩
  | 118 => ⟨S_, .f32⟩
  | 119 => ⟨S256, .f32⟩
  | 120 => ⟨S100000x1, .i32⟩
  | 121 => ⟨S256, .f32⟩
  | 122 => ⟨S_, .i32⟩
  | 123 => ⟨S100000, .i32⟩
  | 124 => ⟨S100000, .i1⟩
  | 125 => ⟨S_, .i32⟩
  | 126 => ⟨S100000, .i32⟩
  | 127 => ⟨S100000, .i32⟩
  | _ => ⟨S100000x128, .f32⟩

abbrev hbmTy0_1 (i : Nat) : BufTy := match i % 128 with
  | 0 => ⟨S100000, .i32⟩
  | 1 => ⟨S100000x1, .i32⟩
  | 2 => ⟨S100000, .f32⟩
  | 3 => ⟨S100000, .f32⟩
  | 4 => ⟨S100000x1, .f32⟩
  | 5 => ⟨S100000x128, .f32⟩
  | 6 => ⟨S100000x128, .f32⟩
  | 7 => ⟨S_, .f32⟩
  | 8 => ⟨S256x128, .f32⟩
  | 9 => ⟨S100000x1, .i32⟩
  | 10 => ⟨S256x128, .f32⟩
  | 11 => ⟨S1x128x32, .f32⟩
  | 12 => ⟨S128x32, .f32⟩
  | 13 => ⟨S100000x32, .f32⟩
  | 14 => ⟨S1x32, .f32⟩
  | 15 => ⟨S32, .f32⟩
  | 16 => ⟨S1x32, .f32⟩
  | 17 => ⟨S100000x32, .f32⟩
  | 18 => ⟨S100000x32, .f32⟩
  | 19 => ⟨S100000x32, .f32⟩
  | 20 => ⟨S1x32x1, .f32⟩
  | 21 => ⟨S32x1, .f32⟩
  | 22 => ⟨S100000x1, .f32⟩
  | 23 => ⟨S1x1, .f32⟩
  | 24 => ⟨S1, .f32⟩
  | 25 => ⟨S1x1, .f32⟩
  | 26 => ⟨S100000x1, .f32⟩
  | 27 => ⟨S100000x1, .f32⟩
  | 28 => ⟨S100000, .f32⟩
  | 29 => ⟨S100000x1, .f32⟩
  | 30 => ⟨S_, .f32⟩
  | 31 => ⟨S_, .f32⟩
  | 32 => ⟨S100000x256, .f32⟩
  | 33 => ⟨S100000x256, .f32⟩
  | 34 => ⟨S100000x256, .f32⟩
  | 35 => ⟨S_, .f32⟩
  | 36 => ⟨S256, .f32⟩
  | 37 => ⟨S_, .i32⟩
  | 38 => ⟨S100000, .i32⟩
  | 39 => ⟨S100000, .i1⟩
  | 40 => ⟨S_, .i32⟩
  | 41 => ⟨S100000, .i32⟩
  | 42 => ⟨S100000, .i32⟩
  | 43 => ⟨S100000, .i32⟩
  | 44 => ⟨S100000x1, .i32⟩
  | 45 => ⟨S100000, .f32⟩
  | 46 => ⟨S100000, .f32⟩
  | 47 => ⟨S100000, .f32⟩
  | 48 => ⟨S_, .f32⟩
  | 49 => ⟨S256, .f32⟩
  | 50 => ⟨S100000x1, .i32⟩
  | 51 => ⟨S256, .f32⟩
  | 52 => ⟨S_, .i32⟩
  | 53 => ⟨S100000, .i32⟩
  | 54 => ⟨S100000, .i1⟩
  | 55 => ⟨S_, .i32⟩
  | 56 => ⟨S100000, .i32⟩
  | 57 => ⟨S100000, .i32⟩
  | 58 => ⟨S100000, .i32⟩
  | 59 => ⟨S100000x1, .i32⟩
  | 60 => ⟨S100000, .f32⟩
  | 61 => ⟨S100000, .f32⟩
  | 62 => ⟨S100000x1, .f32⟩
  | 63 => ⟨S100000x128, .f32⟩
  | 64 => ⟨S100000x128, .f32⟩
  | 65 => ⟨S_, .f32⟩
  | 66 => ⟨S256x128, .f32⟩
  | 67 => ⟨S100000x1, .i32⟩
  | 68 => ⟨S256x128, .f32⟩
  | 69 => ⟨S1x128x32, .f32⟩
  | 70 => ⟨S128x32, .f32⟩
  | 71 => ⟨S100000x32, .f32⟩
  | 72 => ⟨S1x32, .f32⟩
  | 73 => ⟨S32, .f32⟩
  | 74 => ⟨S1x32, .f32⟩
  | 75 => ⟨S100000x32, .f32⟩
  | 76 => ⟨S100000x32, .f32⟩
  | 77 => ⟨S100000x32, .f32⟩
  | 78 => ⟨S1x32x1, .f32⟩
  | 79 => ⟨S32x1, .f32⟩
  | 80 => ⟨S100000x1, .f32⟩
  | 81 => ⟨S1x1, .f32⟩
  | 82 => ⟨S1, .f32⟩
  | 83 => ⟨S1x1, .f32⟩
  | 84 => ⟨S100000x1, .f32⟩
  | 85 => ⟨S100000x1, .f32⟩
  | 86 => ⟨S100000, .f32⟩
  | 87 => ⟨S100000x1, .f32⟩
  | 88 => ⟨S_, .f32⟩
  | 89 => ⟨S_, .f32⟩
  | 90 => ⟨S100000x256, .f32⟩
  | 91 => ⟨S100000x256, .f32⟩
  | 92 => ⟨S100000x256, .f32⟩
  | 93 => ⟨S_, .f32⟩
  | 94 => ⟨S256, .f32⟩
  | 95 => ⟨S_, .i32⟩
  | 96 => ⟨S100000, .i32⟩
  | 97 => ⟨S100000, .i1⟩
  | 98 => ⟨S_, .i32⟩
  | 99 => ⟨S100000, .i32⟩
  | 100 => ⟨S100000, .i32⟩
  | 101 => ⟨S100000, .i32⟩
  | 102 => ⟨S100000x1, .i32⟩
  | 103 => ⟨S100000, .f32⟩
  | 104 => ⟨S100000, .f32⟩
  | 105 => ⟨S100000, .f32⟩
  | 106 => ⟨S_, .f32⟩
  | 107 => ⟨S256, .f32⟩
  | 108 => ⟨S100000x1, .i32⟩
  | 109 => ⟨S256, .f32⟩
  | 110 => ⟨S_, .i32⟩
  | 111 => ⟨S100000, .i32⟩
  | 112 => ⟨S100000, .i1⟩
  | 113 => ⟨S_, .i32⟩
  | 114 => ⟨S100000, .i32⟩
  | 115 => ⟨S100000, .i32⟩
  | 116 => ⟨S100000, .i32⟩
  | 117 => ⟨S100000x1, .i32⟩
  | 118 => ⟨S100000, .f32⟩
  | 119 => ⟨S100000, .f32⟩
  | 120 => ⟨S100000x1, .f32⟩
  | 121 => ⟨S100000x128, .f32⟩
  | 122 => ⟨S100000x128, .f32⟩
  | 123 => ⟨S_, .f32⟩
  | 124 => ⟨S256x128, .f32⟩
  | 125 => ⟨S100000x1, .i32⟩
  | 126 => ⟨S256x128, .f32⟩
  | 127 => ⟨S256x512, .f32⟩
  | _ => ⟨S100000x128, .f32⟩

abbrev hbmTy0_2 (i : Nat) : BufTy := match i % 128 with
  | 0 => ⟨S256x128, .f32⟩
  | 1 => ⟨S1x128, .f32⟩
  | 2 => ⟨S256x128, .f32⟩
  | 3 => ⟨S256x128, .f32⟩
  | 4 => ⟨S100000, .f32⟩
  | 5 => ⟨S100000x1, .f32⟩
  | 6 => ⟨S100000x128, .f32⟩
  | 7 => ⟨S100000x128, .f32⟩
  | 8 => ⟨S_, .f32⟩
  | 9 => ⟨S256x128, .f32⟩
  | 10 => ⟨S100000x1, .i32⟩
  | 11 => ⟨S256x128, .f32⟩
  | 12 => ⟨S_, .f32⟩
  | 13 => ⟨S256, .f32⟩
  | 14 => ⟨S100000x1, .i32⟩
  | 15 => ⟨S256, .f32⟩
  | 16 => ⟨S256x1, .f32⟩
  | 17 => ⟨S_, .f32⟩
  | 18 => ⟨S256x1, .f32⟩
  | 19 => ⟨S256x1, .f32⟩
  | 20 => ⟨S256x128, .f32⟩
  | 21 => ⟨S256x128, .f32⟩
  | 22 => ⟨S_, .i32⟩
  | 23 => ⟨S256, .i32⟩
  | 24 => ⟨S100000x1, .i32⟩
  | 25 => ⟨S256, .i32⟩
  | 26 => ⟨S_, .i32⟩
  | 27 => ⟨S256, .i32⟩
  | 28 => ⟨S256, .i32⟩
  | 29 => ⟨S_, .i32⟩
  | 30 => ⟨S_, .i32⟩
  | 31 => ⟨S_, .i32⟩
  | 32 => ⟨S256, .i32⟩
  | 33 => ⟨S256, .i32⟩
  | 34 => ⟨S_, .i32⟩
  | 35 => ⟨S256, .i32⟩
  | 36 => ⟨S256, .i32⟩
  | 37 => ⟨S_, .i32⟩
  | 38 => ⟨S256, .i32⟩
  | 39 => ⟨S256, .i1⟩
  | 40 => ⟨S_, .i32⟩
  | 41 => ⟨S256, .i32⟩
  | 42 => ⟨S256, .i32⟩
  | 43 => ⟨S256, .i32⟩
  | 44 => ⟨S256x1, .i32⟩
  | 45 => ⟨S256x8, .f32⟩
  | 46 => ⟨S256x264, .f32⟩
  | 47 => ⟨S256x128, .f32⟩
  | 48 => ⟨S1x128, .f32⟩
  | 49 => ⟨S256x128, .f32⟩
  | 50 => ⟨S256x128, .f32⟩
  | 51 => ⟨S_, .f32⟩
  | 52 => ⟨S256x128, .f32⟩
  | 53 => ⟨S256x128, .f32⟩
  | 54 => ⟨S256x128, .f32⟩
  | 55 => ⟨S_, .f32⟩
  | 56 => ⟨S256x128, .f32⟩
  | 57 => ⟨S256x128, .f32⟩
  | 58 => ⟨S256x128, .f32⟩
  | 59 => ⟨S256x128, .f32⟩
  | 60 => ⟨S256x128, .f32⟩
  | 61 => ⟨S1x128, .f32⟩
  | 62 => ⟨S256x128, .f32⟩
  | 63 => ⟨S256x128, .f32⟩
  | 64 => ⟨S_, .f32⟩
  | 65 => ⟨S256, .f32⟩
  | 66 => ⟨S256x1, .f32⟩
  | 67 => ⟨S_, .f32⟩
  | 68 => ⟨S256x1, .f32⟩
  | 69 => ⟨S256x1, .f32⟩
  | 70 => ⟨S_, .i32⟩
  | 71 => ⟨S_, .f32⟩
  | 72 => ⟨S256, .f32⟩
  | 73 => ⟨S256x1, .f32⟩
  | 74 => ⟨S_, .f32⟩
  | 75 => ⟨S256x1, .f32⟩
  | 76 => ⟨S256x1, .f32⟩
  | 77 => ⟨S256x128, .f32⟩
  | 78 => ⟨S256x128, .f32⟩
  | 79 => ⟨S256x128, .f32⟩
  | 80 => ⟨S_, .f32⟩
  | 81 => ⟨S_, .f32⟩
  | 82 => ⟨S_, .f32⟩
  | 83 => ⟨S_, .f32⟩
  | 84 => ⟨S256, .f32⟩
  | 85 => ⟨S256x1, .f32⟩
  | 86 => ⟨S256x1, .f32⟩
  | 87 => ⟨S256x1, .f32⟩
  | 88 => ⟨S_, .f32⟩
  | 89 => ⟨S_, .i1⟩
  | 90 => ⟨S_, .f32⟩
  | 91 => ⟨S_, .f32⟩
  | 92 => ⟨S256x1, .f32⟩
  | 93 => ⟨S256x1, .f32⟩
  | 94 => ⟨S256x128, .f32⟩
  | 95 => ⟨S256x128, .f32⟩
  | 96 => ⟨S_, .f32⟩
  | 97 => ⟨S256x1, .f32⟩
  | 98 => ⟨S256x1, .f32⟩
  | 99 => ⟨S256x1, .f32⟩
  | 100 => ⟨S256x128, .f32⟩
  | 101 => ⟨S256x128, .f32⟩
  | 102 => ⟨S1x128, .f32⟩
  | 103 => ⟨S256x128, .f32⟩
  | 104 => ⟨S256x128, .f32⟩
  | 105 => ⟨S1x128, .f32⟩
  | 106 => ⟨S256x128, .f32⟩
  | 107 => ⟨S256x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v25 : Ref sig .tc := ⟨.hbm, 46, rfl⟩
abbrev main_cst_0 : Ref sig .tc := ⟨.hbm, 47, rfl⟩
abbrev main_v26 : Ref sig .tc := ⟨.hbm, 48, rfl⟩
abbrev main_c : Ref sig .tc := ⟨.hbm, 49, rfl⟩
abbrev main_v27 : Ref sig .tc := ⟨.hbm, 50, rfl⟩
abbrev main_v28 : Ref sig .tc := ⟨.hbm, 51, rfl⟩
abbrev main_c_1 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_2 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_3 : Ref sig .tc := ⟨.hbm, 64, rfl⟩
abbrev main_v39 : Ref sig .tc := ⟨.hbm, 65, rfl⟩
abbrev main_v40 : Ref sig .tc := ⟨.hbm, 66, rfl⟩
abbrev main_c_4 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_5 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_6 : Ref sig .tc := ⟨.hbm, 100, rfl⟩
abbrev main_call1_v0 : Ref sig .tc := ⟨.hbm, 101, rfl⟩
abbrev main_call1_v1 : Ref sig .tc := ⟨.hbm, 102, rfl⟩
abbrev main_call1_v2 : Ref sig .tc := ⟨.hbm, 103, rfl⟩
abbrev main_v72 : Ref sig .tc := ⟨.hbm, 104, rfl⟩
abbrev main_cst_7 : Ref sig .tc := ⟨.hbm, 105, rfl⟩
abbrev main_v73 : Ref sig .tc := ⟨.hbm, 106, rfl⟩
abbrev main_c_8 : Ref sig .tc := ⟨.hbm, 107, rfl⟩
abbrev main_v74 : Ref sig .tc := ⟨.hbm, 108, rfl⟩
abbrev main_v75 : Ref sig .tc := ⟨.hbm, 109, rfl⟩
abbrev main_c_9 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_10 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_c_11 : Ref sig .tc := ⟨.hbm, 122, rfl⟩
abbrev main_v86 : Ref sig .tc := ⟨.hbm, 123, rfl⟩
abbrev main_v87 : Ref sig .tc := ⟨.hbm, 124, rfl⟩
abbrev main_c_12 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_13 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_cst_14 : Ref sig .tc := ⟨.hbm, 158, rfl⟩
abbrev main_call2_v0 : Ref sig .tc := ⟨.hbm, 159, rfl⟩
abbrev main_call2_v1 : Ref sig .tc := ⟨.hbm, 160, rfl⟩
abbrev main_call2_v2 : Ref sig .tc := ⟨.hbm, 161, rfl⟩
abbrev main_v119 : Ref sig .tc := ⟨.hbm, 162, rfl⟩
abbrev main_cst_15 : Ref sig .tc := ⟨.hbm, 163, rfl⟩
abbrev main_v120 : Ref sig .tc := ⟨.hbm, 164, rfl⟩
abbrev main_c_16 : Ref sig .tc := ⟨.hbm, 165, rfl⟩
abbrev main_v121 : Ref sig .tc := ⟨.hbm, 166, rfl⟩
abbrev main_v122 : Ref sig .tc := ⟨.hbm, 167, rfl⟩
abbrev main_c_17 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_cst_18 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_c_19 : Ref sig .tc := ⟨.hbm, 180, rfl⟩
abbrev main_v133 : Ref sig .tc := ⟨.hbm, 181, rfl⟩
abbrev main_v134 : Ref sig .tc := ⟨.hbm, 182, rfl⟩
abbrev main_c_20 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_cst_21 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_cst_22 : Ref sig .tc := ⟨.hbm, 216, rfl⟩
abbrev main_call3_v0 : Ref sig .tc := ⟨.hbm, 217, rfl⟩
abbrev main_call3_v1 : Ref sig .tc := ⟨.hbm, 218, rfl⟩
abbrev main_call3_v2 : Ref sig .tc := ⟨.hbm, 219, rfl⟩
abbrev main_v166 : Ref sig .tc := ⟨.hbm, 220, rfl⟩
abbrev main_cst_23 : Ref sig .tc := ⟨.hbm, 221, rfl⟩
abbrev main_v167 : Ref sig .tc := ⟨.hbm, 222, rfl⟩
abbrev main_c_24 : Ref sig .tc := ⟨.hbm, 223, rfl⟩
abbrev main_v168 : Ref sig .tc := ⟨.hbm, 224, rfl⟩
abbrev main_v169 : Ref sig .tc := ⟨.hbm, 225, rfl⟩
abbrev main_c_25 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_cst_26 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_c_27 : Ref sig .tc := ⟨.hbm, 238, rfl⟩
abbrev main_v180 : Ref sig .tc := ⟨.hbm, 239, rfl⟩
abbrev main_v181 : Ref sig .tc := ⟨.hbm, 240, rfl⟩
abbrev main_c_28 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_cst_29 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_cst_30 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_cst_31 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_cst_32 : Ref sig .tc := ⟨.hbm, 273, rfl⟩
abbrev main_v210 : Ref sig .tc := ⟨.hbm, 274, rfl⟩
abbrev main_v211 : Ref sig .tc := ⟨.hbm, 275, rfl⟩
abbrev main_v212 : Ref sig .tc := ⟨.hbm, 276, rfl⟩
abbrev main_v213 : Ref sig .tc := ⟨.hbm, 277, rfl⟩
abbrev main_c_33 : Ref sig .tc := ⟨.hbm, 278, rfl⟩
abbrev main_v214 : Ref sig .tc := ⟨.hbm, 279, rfl⟩
abbrev main_v215 : Ref sig .tc := ⟨.hbm, 280, rfl⟩
abbrev main_v216 : Ref sig .tc := ⟨.hbm, 281, rfl⟩
abbrev main_c_34 : Ref sig .tc := ⟨.hbm, 282, rfl⟩
abbrev main_v217 : Ref sig .tc := ⟨.hbm, 283, rfl⟩
abbrev main_v218 : Ref sig .tc := ⟨.hbm, 284, rfl⟩
abbrev main_c_35 : Ref sig .tc := ⟨.hbm, 285, rfl⟩
abbrev main_c_36 : Ref sig .tc := ⟨.hbm, 286, rfl⟩
abbrev main_call4_v0 : Ref sig .tc := ⟨.hbm, 287, rfl⟩
abbrev main_call4_v1 : Ref sig .tc := ⟨.hbm, 288, rfl⟩
abbrev main_call4_v2 : Ref sig .tc := ⟨.hbm, 289, rfl⟩
abbrev main_call4_v3 : Ref sig .tc := ⟨.hbm, 290, rfl⟩
abbrev main_call4_v4 : Ref sig .tc := ⟨.hbm, 291, rfl⟩
abbrev main_v219 : Ref sig .tc := ⟨.hbm, 292, rfl⟩
abbrev main_c_37 : Ref sig .tc := ⟨.hbm, 293, rfl⟩
abbrev main_v220 : Ref sig .tc := ⟨.hbm, 294, rfl⟩
abbrev main_v221 : Ref sig .tc := ⟨.hbm, 295, rfl⟩
abbrev main_c_38 : Ref sig .tc := ⟨.hbm, 296, rfl⟩
abbrev main_v222 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩
abbrev main_v228 : Ref sig .tc := ⟨.hbm, 303, rfl⟩
abbrev main_v229 : Ref sig .tc := ⟨.hbm, 304, rfl⟩
abbrev main_v230 : Ref sig .tc := ⟨.hbm, 305, rfl⟩
abbrev main_v231 : Ref sig .tc := ⟨.hbm, 306, rfl⟩
abbrev main_cst_39 : Ref sig .tc := ⟨.hbm, 307, rfl⟩
abbrev main_v232 : Ref sig .tc := ⟨.hbm, 308, rfl⟩
abbrev main_v233 : Ref sig .tc := ⟨.hbm, 309, rfl⟩
abbrev main_v234 : Ref sig .tc := ⟨.hbm, 310, rfl⟩
abbrev main_cst_40 : Ref sig .tc := ⟨.hbm, 311, rfl⟩
abbrev main_v235 : Ref sig .tc := ⟨.hbm, 312, rfl⟩
abbrev main_v236 : Ref sig .tc := ⟨.hbm, 313, rfl⟩
abbrev main_v237 : Ref sig .tc := ⟨.hbm, 314, rfl⟩
abbrev main_v238 : Ref sig .tc := ⟨.hbm, 315, rfl⟩
abbrev main_v239 : Ref sig .tc := ⟨.hbm, 316, rfl⟩
abbrev main_v240 : Ref sig .tc := ⟨.hbm, 317, rfl⟩
abbrev main_v241 : Ref sig .tc := ⟨.hbm, 318, rfl⟩
abbrev main_v242 : Ref sig .tc := ⟨.hbm, 319, rfl⟩
abbrev main_cst_41 : Ref sig .tc := ⟨.hbm, 320, rfl⟩
abbrev main_v243 : Ref sig .tc := ⟨.hbm, 321, rfl⟩
abbrev main_v244 : Ref sig .tc := ⟨.hbm, 322, rfl⟩
abbrev main_cst_42 : Ref sig .tc := ⟨.hbm, 323, rfl⟩
abbrev main_v245 : Ref sig .tc := ⟨.hbm, 324, rfl⟩
abbrev main_v246 : Ref sig .tc := ⟨.hbm, 325, rfl⟩
abbrev main_c_43 : Ref sig .tc := ⟨.hbm, 326, rfl⟩
abbrev main_call5_cst : Ref sig .tc := ⟨.hbm, 327, rfl⟩
abbrev main_call5_v0 : Ref sig .tc := ⟨.hbm, 328, rfl⟩
abbrev main_call5_v1 : Ref sig .tc := ⟨.hbm, 329, rfl⟩
abbrev main_call5_cst_0 : Ref sig .tc := ⟨.hbm, 330, rfl⟩
abbrev main_call5_v2 : Ref sig .tc := ⟨.hbm, 331, rfl⟩
abbrev main_call5_v3 : Ref sig .tc := ⟨.hbm, 332, rfl⟩
abbrev main_call5_v4 : Ref sig .tc := ⟨.hbm, 333, rfl⟩
abbrev main_call5_v5 : Ref sig .tc := ⟨.hbm, 334, rfl⟩
abbrev main_call5_v6 : Ref sig .tc := ⟨.hbm, 335, rfl⟩
abbrev main_call5_v7 : Ref sig .tc := ⟨.hbm, 336, rfl⟩
abbrev main_call5_cst_1 : Ref sig .tc := ⟨.hbm, 337, rfl⟩
abbrev main_call5_v8 : Ref sig .tc := ⟨.hbm, 338, rfl⟩
abbrev main_call5_cst_2 : Ref sig .tc := ⟨.hbm, 339, rfl⟩
abbrev main_call5_v9 : Ref sig .tc := ⟨.hbm, 340, rfl⟩
abbrev main_call5_v10 : Ref sig .tc := ⟨.hbm, 341, rfl⟩
abbrev main_call5_v11 : Ref sig .tc := ⟨.hbm, 342, rfl⟩
abbrev main_call5_v12 : Ref sig .tc := ⟨.hbm, 343, rfl⟩
abbrev main_call5_cst_3 : Ref sig .tc := ⟨.hbm, 344, rfl⟩
abbrev main_call5_v13 : Ref sig .tc := ⟨.hbm, 345, rfl⟩
abbrev main_call5_cst_4 : Ref sig .tc := ⟨.hbm, 346, rfl⟩
abbrev main_call5_call0_v0 : Ref sig .tc := ⟨.hbm, 347, rfl⟩
abbrev main_call5_call0_v1 : Ref sig .tc := ⟨.hbm, 348, rfl⟩
abbrev main_v247 : Ref sig .tc := ⟨.hbm, 349, rfl⟩
abbrev main_v248 : Ref sig .tc := ⟨.hbm, 350, rfl⟩
abbrev main_v249 : Ref sig .tc := ⟨.hbm, 351, rfl⟩
abbrev main_cst_44 : Ref sig .tc := ⟨.hbm, 352, rfl⟩
abbrev main_v250 : Ref sig .tc := ⟨.hbm, 353, rfl⟩
abbrev main_v251 : Ref sig .tc := ⟨.hbm, 354, rfl⟩
abbrev main_v252 : Ref sig .tc := ⟨.hbm, 355, rfl⟩
abbrev main_v253 : Ref sig .tc := ⟨.hbm, 356, rfl⟩
abbrev main_v254 : Ref sig .tc := ⟨.hbm, 357, rfl⟩
abbrev main_v255 : Ref sig .tc := ⟨.hbm, 358, rfl⟩
abbrev main_v256 : Ref sig .tc := ⟨.hbm, 359, rfl⟩
abbrev main_v257 : Ref sig .tc := ⟨.hbm, 360, rfl⟩
abbrev main_v258 : Ref sig .tc := ⟨.hbm, 361, rfl⟩
abbrev main_v259 : Ref sig .tc := ⟨.hbm, 362, rfl⟩
abbrev main_v260 : Ref sig .tc := ⟨.hbm, 363, rfl⟩

abbrev nD : Nat := 1
abbrev τ : Topo := Topo.v7x

variable {F : FTy → Type} [FloatOps F]
-- ==== Proof.PreFacts.lean ====
module

public import proofs.«01_k».proof.Pre_drawn
public import Idealize.ShloMosaic.Lib.Affine
public import Idealize.ShloMosaic.Lib.ReduceAll
public import Idealize.ShloMosaic.Lib.Tactic
public import Idealize.ShloMosaic.Lib.StableHlo.ReadAt
public import Idealize.ShloMosaic.PureOps.Ideal

@[expose] public section

noncomputable section

namespace Cert.Proof

open Idealize.ShloMosaic Idealize.ShloMosaic.Tactic Cert.Pre_drawn

/-- What the drawn integer arguments satisfy: the segment ids are below 256 and sorted, the depths below 32. -/
structure Drawn (bat dep : IVec S100000 32) : Prop where
  /-- The ids are below 256. -/
  bat_lt : ∀ i : Fin 100000, (bat (ix1 i)).toNat < 256
  /-- Each id is at most the next. -/
  bat_le : ∀ i : Fin 99999, (bat (ix1 ⟨i.val, by omega⟩)).toNat ≤ (bat (ix1 ⟨1 + i.val, by omega⟩)).toNat
  /-- The depths are below 32. -/
  dep_lt : ∀ i : Fin 100000, (dep (ix1 i)).toNat < 32

/-- A conjunction of bits is 1 when both are. -/
theorem andi_one {x y : IVec S_ 1} (h : andi x y = fun _ => 1#1) : x = (fun _ => 1#1) ∧ y = fun _ => 1#1 := by
  constructor <;> funext j <;> have := congrFun h j <;> revert this <;>
    · show IntOp.andi (x j) (y j) = 1#1 → _
      generalize x j = a; generalize y j = b; revert a b; decide

instance : Subsingleton S_.Idx := ⟨fun a b => by funext k; exact k.elim0⟩

/-- A word between two small signed bounds, as a natural number. -/
theorem toNat_lt_of_signed {x : BitVec 32} {n : ℕ} (hn : n < 2 ^ 31) (h0 : (0 : Int) ≤ x.toInt) (h1 : x.toInt < (BitVec.ofNat 32 n).toInt) : x.toNat < n := by
  rw [BitVec.toInt_eq_toNat_cond] at h0 h1
  rw [BitVec.toInt_eq_toNat_cond, BitVec.toNat_ofNat] at h1
  have := x.isLt
  split at h0 <;> split at h1 <;> split at h1 <;> omega

/-- Two small words compared as signed ones compare as naturals. -/
theorem toNat_le_of_signed {x y : BitVec 32} (hx : x.toNat < 256) (hy : y.toNat < 256) (h : x.toInt ≤ y.toInt) : x.toNat ≤ y.toNat := by
  rw [BitVec.toInt_eq_toNat_cond, BitVec.toInt_eq_toNat_cond] at h
  split at h <;> split at h <;> omega

variable {F : FTy → Type} [FloatOps F] [Cert.Pre_drawn.Facts]

/-- The precondition's integer part, read back. -/
theorem drawn_of (a0 : FVec F S100000x128 .f32) (a1 : IVec S100000 32) (a2 : IVec S100000 1) (a3 : IVec S100000 32) (a4 : FVec F S4x128x32 .f32) (a5 : FVec F S4x32 .f32) (a6 : FVec F S4x32x1 .f32) (a7 : FVec F S4x1 .f32) (a8 : FVec F S512x128 .f32) (a9 : FVec F S128 .f32) (a10 : FVec F S32x8 .f32) (a11 : FVec F S264x128 .f32) (a12 : FVec F S128 .f32) (a13 : FVec F S128x128 .f32) (a14 a15 a16 : FVec F S128 .f32)
    (h : Cert.Pre_drawn.fn (F := F) a0 a1 a2 a3 a4 a5 a6 a7 a8 a9 a10 a11 a12 a13 a14 a15 a16 = fun _ => 1#1) : Drawn a1 a3 := by
  dsimp only [Cert.Pre_drawn.fn, Cert.Pre_drawn.fn_part1] at h
  obtain ⟨h, h5⟩ := andi_one h
  obtain ⟨h, h4⟩ := andi_one h
  obtain ⟨h, h3⟩ := andi_one h
  obtain ⟨h1, h2⟩ := andi_one h
  have g2 := fun i : Fin 100000 => IntOp.cmpi_sge.mp (Host.reduce_andi_all _ _ _ _ _ (congrFun h2 ix0) (ix1 i))
  have g3 := fun i : Fin 100000 => IntOp.cmpi_slt.mp (Host.reduce_andi_all _ _ _ _ _ (congrFun h3 ix0) (ix1 i))
  have g4 := fun i : Fin 100000 => IntOp.cmpi_sge.mp (Host.reduce_andi_all _ _ _ _ _ (congrFun h4 ix0) (ix1 i))
  have g5 := fun i : Fin 100000 => IntOp.cmpi_slt.mp (Host.reduce_andi_all _ _ _ _ _ (congrFun h5 ix0) (ix1 i))
  have g1 := fun i : Fin 99999 => IntOp.cmpi_sle.mp (Host.reduce_andi_all _ _ _ _ _ (congrFun h1 ix0) (ix1 i))
  clear h h1 h2 h3 h4 h5
  have hb : ∀ i : Fin 100000, (a1 (ix1 i)).toNat < 256 := fun i => toNat_lt_of_signed (by decide) (g2 i) (g3 i)
  refine ⟨hb, fun i => toNat_le_of_signed (hb _) (hb _) ?_, fun i => toNat_lt_of_signed (by decide) (g4 i) (g5 i)⟩
  have e := g1 i
  have e0 : extractStridedSlice S99999 ![0] a1 Facts.slices_S100000_S99999_0 (ix1 i) = a1 (ix1 ⟨i.val, by omega⟩) := by
    pointwise
  have e1 : extractStridedSlice S99999 ![1] a1 Facts.slices_S100000_S99999_1 (ix1 i) = a1 (ix1 ⟨1 + i.val, by omega⟩) := by
    pointwise
  rw [e0, e1] at e; exact e

end Cert.Proof

end
-- ==== Proof.PreFin.lean ====
module

public import proofs.«01_k».proof.Proof.PreFacts
public import proofs.«01_k».proof.Pre_drawn_finite
public import Idealize.ShloMosaic.Lib.Affine
public import Idealize.ShloMosaic.Lib.ReduceAll
public import Idealize.ShloMosaic.Lib.Tactic
public import Idealize.ShloMosaic.Lib.StableHlo.ReadAt
public import Idealize.ShloMosaic.PureOps.Ideal

@[expose] public section

noncomputable section

namespace Cert.Proof

open Idealize.ShloMosaic Idealize.ShloMosaic.Tactic Cert.Pre_drawn

variable {F : FTy → Type} [FloatOps F] [Cert.Pre_drawn.Facts] [Cert.Pre_drawn_finite.Facts]

/-- The finite precondition is the integer one and two more tests. -/
theorem drawn_of_finite (a0 : FVec F S100000x128 .f32) (a1 : IVec S100000 32) (a2 : IVec S100000 1) (a3 : IVec S100000 32) (a4 : FVec F S4x128x32 .f32) (a5 : FVec F S4x32 .f32) (a6 : FVec F S4x32x1 .f32) (a7 : FVec F S4x1 .f32) (a8 : FVec F S512x128 .f32) (a9 : FVec F S128 .f32) (a10 : FVec F S32x8 .f32) (a11 : FVec F S264x128 .f32) (a12 : FVec F S128 .f32) (a13 : FVec F S128x128 .f32) (a14 a15 a16 : FVec F S128 .f32)
    (h : Cert.Pre_drawn_finite.fn (F := F) a0 a1 a2 a3 a4 a5 a6 a7 a8 a9 a10 a11 a12 a13 a14 a15 a16 = fun _ => 1#1) :
    Drawn a1 a3 ∧ (∀ i, cmpf .olt (Host.absf a6) (broadcastInDim S4x32x1 ![] Cert.Pre_drawn_finite.Facts.bcast_S_S4x32x1 (constant S_ .f32 0x7F800000#32)) i = 1#1)
      ∧ ∀ i, cmpf .olt (Host.absf a7) (broadcastInDim S4x1 ![] Cert.Pre_drawn_finite.Facts.bcast_S_S4x1 (constant S_ .f32 0x7F800000#32)) i = 1#1 := by
  dsimp only [Cert.Pre_drawn_finite.fn, Cert.Pre_drawn_finite.fn_part1] at h
  obtain ⟨h, h7⟩ := andi_one h
  obtain ⟨h, h6⟩ := andi_one h
  exact ⟨drawn_of a0 a1 a2 a3 a4 a5 a6 a7 a8 a9 a10 a11 a12 a13 a14 a15 a16 h, Host.reduce_andi_all _ _ _ _ _ (congrFun h6 ix0), Host.reduce_andi_all _ _ _ _ _ (congrFun h7 ix0)⟩

/-- A number whose absolute value is below infinity is a real. -/
theorem real_of_abs (x : EReal) (h : FloatOps.cmpf (F := Ideal) (φ := .f32) .olt (FloatOps.hostAbsf (F := Ideal) (φ := .f32) x) (Ideal.ofBits .f32 0x7F800000#32) = 1#1) : x ≠ ⊤ ∧ x ≠ ⊥ := by
  have e : Ideal.ofBits .f32 0x7F800000#32 = (⊤ : EReal) := by simp [Ideal.ofBits, Ideal.ieee]
  rw [e] at h
  have h' : max x (-x) < ⊤ := by
    by_contra hc
    have h2 : (if max x (-x) < ⊤ then 1#1 else 0#1) = 1#1 := by
      rw [← h]; show _ = BitVec.ofBool (decide (max x (-x) < ⊤)); simp [hc]
    simp [hc] at h2
  constructor
  · rintro rfl; simp at h'
  · rintro rfl; simp at h'

end Cert.Proof

end
-- ==== Proof.KIBody.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One point of the grid

The kernel keeps five running tables in scratch: the weighted sums (256 by 512), the plain sums (256 by 128), the weights
(256 by 4), the row counts (256 by 1) and the depth counts (256 by 32). A point adds its block of rows to them, either in the
window of forty rows that starts at the point's base row or, where the block's rows do not fit in that window, in the whole
table. The last point reads the tables and writes the result. -/

/-- The five running tables. -/
structure Acc (F : FTy → Type) where
  /-- The weighted sums. -/
  num : Vec F S256x512 .f32
  /-- The plain sums. -/
  bh : Vec F S256x128 .f32
  /-- The weights. -/
  den : Vec F S256x4 .f32
  /-- The row counts. -/
  cnt : Vec F S256x1 .f32
  /-- The depth counts. -/
  dep : Vec F S256x32 .f32

/-- The tables as the first point sets them. -/
def Acc.zero : Acc F := ⟨k0_pay31, k0_pay32, k0_pay33, k0_pay34, k0_pay35⟩

/-- The blocks a point reads: rows, segment of each row, per-row columns, and the attention's four parameters. -/
structure Blk (F : FTy → Type) where
  /-- The rows. -/
  h : Vec F S5000x128 .f32
  /-- The segment of each row. -/
  bat : Vec F S1x1x5000 .i32
  /-- The per-row columns: depth one-hot, mask, ones. -/
  aux : Vec F S5000x40 .bf16
  /-- The first layer's matrix. -/
  w1 : Vec F S128x128 .bf16
  /-- The first layer's bias. -/
  b1 : Vec F S1x128 .f32
  /-- The second layer's matrix. -/
  w2 : Vec F S128x4 .f32
  /-- The second layer's bias. -/
  b2 : Vec F S1x4 .f32

/-- The parameters the last point reads. -/
structure Par (F : FTy → Type) where
  /-- The projection of the weighted means. -/
  hp : Vec F S512x128 .f32
  /-- Its bias. -/
  hpb : Vec F S1x128 .f32
  /-- The depth table. -/
  dt : Vec F S32x8 .f32
  /-- The first part of the fusing matrix. -/
  fa : Vec F S128x128 .f32
  /-- The second part of the fusing matrix. -/
  fb : Vec F S128x128 .f32
  /-- The third part of the fusing matrix. -/
  fc : Vec F S8x128 .f32
  /-- The fusing bias. -/
  fb1 : Vec F S1x128 .f32
  /-- The second fusing matrix. -/
  fw2 : Vec F S128x128 .f32
  /-- Its bias. -/
  fb2 : Vec F S1x128 .f32
  /-- The normalisation's scale. -/
  ga : Vec F S1x128 .f32
  /-- The normalisation's shift. -/
  be : Vec F S1x128 .f32

/-- The segment row of a block. -/
def Blk.seg (B : Blk F) : IVec S1x5000 32 := k0_pay36 B.bat
/-- The columns of a block. -/
def Blk.cols (B : Blk F) : FVec F S5000x40 .bf16 := k0_pay37 B.aux
/-- The exponentials of a block. -/
def Blk.ex (B : Blk F) : FVec F S5000x4 .bf16 := k0_pay39 B.h B.w1 B.b1 B.w2 B.b2
/-- The right side of a block's product: four weighted copies of the rows, and the masked rows. -/
def Blk.rhs (B : Blk F) : FVec F S5000x640 .bf16 :=
  k0_pay1 (k0_pay38 B.h) (k0_pay40 B.aux) (k0_pay41 B.h B.w1 B.b1 B.w2 B.b2) (k0_pay42 B.h B.w1 B.b1 B.w2 B.b2)
    (k0_pay43 B.h B.w1 B.b1 B.w2 B.b2) (k0_pay44 B.h B.w1 B.b1 B.w2 B.b2)

/-- A payload put in a window over what the window held: the windowed update. -/
def upd {s : Shape} {e : EltTy} (x : Vec F s e) (off size : Fin s.rank → ℕ) (inb : ∀ a, off a + size a ≤ s.size a)
    (f : ((Rect.unit off size inb).shape.Idx → Elt F e) → ((Rect.unit off size inb).shape.Idx → Elt F e)) : Vec F s e :=
  VecWindow.put x off size (f (VecWindow.window x off size inb))

/-- A payload computed from a window of `x`, put in that window of `y`. -/
def updOf {s : Shape} {e : EltTy} (x y : Vec F s e) (off size : Fin s.rank → ℕ) (inb : ∀ a, off a + size a ≤ s.size a)
    (f : ((Rect.unit off size inb).shape.Idx → Elt F e) → ((Rect.unit off size inb).shape.Idx → Elt F e)) : Vec F s e :=
  VecWindow.put y off size (f (VecWindow.window x off size inb))

/-- The weighted sums after a point that works in its window. -/
def winNum (B : Blk F) (g o : BitVec 32) (hk : k0_chk2 g o) (ho : k0_cond2 o = 1#1) (x : Vec F S256x512 .f32) : Vec F S256x512 .f32 :=
  upd (upd (upd (upd x (k0_off3 g) S40x128.size (k0_off3_inb g o hk ho) (k0_pay15 B.seg B.rhs g))
    (k0_off4 g) S40x128.size (k0_off4_inb g o hk ho) (k0_pay16 B.seg B.rhs g))
    (k0_off5 g) S40x128.size (k0_off5_inb g o hk ho) (k0_pay17 B.seg B.rhs g))
    (k0_off6 g) S40x128.size (k0_off6_inb g o hk ho) (k0_pay18 B.seg B.rhs g)

/-- The weighted sums after a point that works on the whole table. -/
def allNum (B : Blk F) (x : Vec F S256x512 .f32) : Vec F S256x512 .f32 :=
  updOf x (updOf x (updOf x (upd x ![0, 0] S256x128.size inb_S256x512_S256x128_0_0 (k0_pay22 B.seg B.rhs))
    ![0, 128] S256x128.size inb_S256x512_S256x128_0_128 (k0_pay23 B.seg B.rhs))
    ![0, 256] S256x128.size inb_S256x512_S256x128_0_256 (k0_pay24 B.seg B.rhs))
    ![0, 384] S256x128.size inb_S256x512_S256x128_0_384 (k0_pay25 B.seg B.rhs)

/-- The tables after a point with base row `g` and overflow word `o`. -/
def step (B : Blk F) (g o : BitVec 32) (hk : k0_chk2 g o) (S : Acc F) : Acc F :=
  if ho : k0_cond2 o = 1#1 then
    { num := winNum B g o hk ho S.num
      bh := upd S.bh (k0_off7 g) S40x128.size (k0_off7_inb g o hk ho) (fun x => k0_pay2 (k0_pay19 B.seg B.rhs g x))
      den := upd S.den (k0_off8 g) S40x4.size (k0_off8_inb g o hk ho) (k0_pay3 B.ex (k0_pay13 B.seg g))
      cnt := upd S.cnt (k0_off10 g) S40x1.size (k0_off10_inb g o hk ho) (k0_pay6 B.cols (k0_pay13 B.seg g))
      dep := upd S.dep (k0_off9 g) S40x32.size (k0_off9_inb g o hk ho) (k0_pay5 B.cols (k0_pay13 B.seg g)) }
  else
    { num := allNum B S.num
      bh := k0_pay7 (k0_pay26 B.seg B.rhs S.bh)
      den := k0_pay8 B.ex (k0_pay20 B.seg) S.den
      cnt := k0_pay11 B.cols (k0_pay20 B.seg) S.cnt
      dep := k0_pay10 B.cols (k0_pay20 B.seg) S.dep }

/-- What the last point writes, from the tables and the parameters. -/
def fin (P : Par F) (S : Acc F) : Vec F S256x128 .f32 :=
  k0_pay12 (k0_pay29 (k0_pay28 (k0_pay27 S.num S.den P.hp) P.hpb S.bh S.cnt S.dep P.dt P.fa P.fb P.fc) P.fb1 P.fw2 P.fb2 P.ga) (k0_pay30 P.be)

/-- The word that says a point is the first, as the kernel computes it. -/
def isFirst (i : grid0.Coords) : BitVec 1 :=
  Scalar.cmpi .ne (Scalar.extui (Scalar.cmpi .eq (BitVec.ofNat 32 (i 0).val) 0#32) : BitVec 32) 0#32

/-- The tables a point starts from: cleared at the first point. -/
def start (i : grid0.Coords) (S : Acc F) : Acc F := if isFirst i = 1#1 then Acc.zero else S

/-- The table of base rows as the body is handed it. -/
abbrev tbM0_0 : Memref sig .tc .smem S20 .i32 := Memref.whole main_v35
/-- It is a whole buffer. -/
theorem htbM0_0 : tbM0_0.IsWhole := Memref.isWhole_whole _
/-- The table of overflow words as the body is handed it. -/
abbrev tbM0_1 : Memref sig .tc .smem S20 .i32 := Memref.whole main_v39
/-- It is a whole buffer. -/
theorem htbM0_1 : tbM0_1.IsWhole := Memref.isWhole_whole _

/-- The contents type of a table's buffer on core `c`. -/
abbrev TbBuf (c : Dev nD) {S : Shape} {e : EltTy} (M : Memref sig .tc .smem S e) : Type := Buf (Elt F) (M.view.loc (c : Thread nD τ))
/-- A table's buffer held at half the full share. -/
abbrev tbPt (c : Dev nD) {S : Shape} {e : EltTy} (M : Memref sig .tc .smem S e) (f : TbBuf (F := F) c M) : sProp 𝕄 :=
  M.view.loc (c : Thread nD τ) ↦{fullShare.right} f

/-- The base row a point reads. -/
def word0 (c : Dev nD) (i : grid0.Coords) (x : TbBuf (F := F) c tbM0_0) : BitVec 32 :=
  tbM0_0.view.readAt (Elt F) (Rect.unit (s := S20) (k0_off1 i) S1.size (k0_off1_inb i)).toLoadRect x (Shape.Idx.first (numel1_S1.symm ▸ Nat.one_pos))
/-- The overflow word a point reads. -/
def word1 (c : Dev nD) (i : grid0.Coords) (x : TbBuf (F := F) c tbM0_1) : BitVec 32 :=
  tbM0_1.view.readAt (Elt F) (Rect.unit (s := S20) (k0_off2 i) S1.size (k0_off2_inb i)).toLoadRect x (Shape.Idx.first (numel1_S1.symm ▸ Nat.one_pos))

/-- The overflow test, as the second branch asks it, is the first branch's failing. -/
theorem cond_ne (o : BitVec 32) (h : ¬ k0_cond2 o = 1#1) : Scalar.cmpi .ne (Scalar.extui (Scalar.cmpi .ne o 0#32) : BitVec 32) 0#32 = 1#1 := by
  have e : o ≠ 0#32 := by rintro rfl; exact h (by decide)
  have e1 : Scalar.cmpi .ne o 0#32 = 1#1 := by
    show IntOp.cmpi .ne o 0#32 = 1#1
    rw [WordCmp.cmpi_ne_eq, decide_eq_true e]; rfl
  rw [e1]; decide
/-- And its holding makes the second branch's test fail. -/
theorem cond_eq (o : BitVec 32) (h : k0_cond2 o = 1#1) : ¬ Scalar.cmpi .ne (Scalar.extui (Scalar.cmpi .ne o 0#32) : BitVec 32) 0#32 = 1#1 := by
  by_cases e : o = 0#32
  · subst e; decide
  · exfalso
    have e1 : Scalar.cmpi .eq o 0#32 = 0#1 := by
      show IntOp.cmpi .eq o 0#32 = 0#1
      rw [WordCmp.cmpi_eq_eq, decide_eq_false e]; rfl
    revert h; unfold k0_cond2; dsimp only; rw [e1]; decide

/-- A store of an updated window reads back as the windowed update. -/
theorem read_upd {sh : Shape} {e : EltTy} (M : Memref sig .tc .vmem sh e) (hM : M.IsWhole) (x : Vec F sh e) (off size : Fin sh.rank → ℕ)
    (inb : ∀ a, off a + size a ≤ sh.size a) (f : ((Rect.unit off size inb).shape.Idx → Elt F e) → ((Rect.unit off size inb).shape.Idx → Elt F e)) :
    M.view.read (Elt F) (M.view.writes (Elt F) (hM.unread x) [⟨Rect.unit off size inb, f (M.view.readAt (Elt F) (Rect.unit off size inb).toLoadRect (hM.unread x))⟩])
      = upd x off size inb f := by
  rw [View.read_writes_cons_put _ _ inb _ _ rfl, View.readAt_unit _ _ inb rfl inb, View.writes_nil, hM.read_unread]; rfl

/-- Another updated window over earlier stores. -/
theorem read_upd_cons {sh : Shape} {e : EltTy} (M : Memref sig .tc .vmem sh e) (hM : M.IsWhole) (x y : Vec F sh e) (L : List (View.Piece (Elt F) sh e))
    (hL : M.view.read (Elt F) (M.view.writes (Elt F) (hM.unread x) L) = y) (off size : Fin sh.rank → ℕ)
    (inb : ∀ a, off a + size a ≤ sh.size a) (f : ((Rect.unit off size inb).shape.Idx → Elt F e) → ((Rect.unit off size inb).shape.Idx → Elt F e)) :
    M.view.read (Elt F) (M.view.writes (Elt F) (hM.unread x) (⟨Rect.unit off size inb, f (M.view.readAt (Elt F) (Rect.unit off size inb).toLoadRect (M.view.writes (Elt F) (hM.unread x) L))⟩ :: L))
      = upd y off size inb f := by
  subst hL
  rw [View.read_writes_cons_put _ _ inb _ _ rfl, View.readAt_unit _ _ inb rfl inb]; rfl

/-- Another window over earlier stores, computed from what the buffer held before them. -/
theorem read_updOf_cons {sh : Shape} {e : EltTy} (M : Memref sig .tc .vmem sh e) (hM : M.IsWhole) (x y : Vec F sh e) (L : List (View.Piece (Elt F) sh e))
    (hL : M.view.read (Elt F) (M.view.writes (Elt F) (hM.unread x) L) = y) (off size : Fin sh.rank → ℕ)
    (inb : ∀ a, off a + size a ≤ sh.size a) (f : ((Rect.unit off size inb).shape.Idx → Elt F e) → ((Rect.unit off size inb).shape.Idx → Elt F e)) :
    M.view.read (Elt F) (M.view.writes (Elt F) (hM.unread x) (⟨Rect.unit off size inb, f (M.view.readAt (Elt F) (Rect.unit off size inb).toLoadRect (hM.unread x))⟩ :: L))
      = updOf x y off size inb f := by
  subst hL
  rw [View.read_writes_cons_put _ _ inb _ _ rfl, View.readAt_unit _ _ inb rfl inb, hM.read_unread]; rfl

/-- A store of the whole buffer, computed from what it held, reads back as computed. -/
theorem read_full {sh : Shape} {e : EltTy} (M : Memref sig .tc .vmem sh e) (hM : M.IsWhole) (x : Vec F sh e) {off off' : Fin sh.rank → ℕ}
    (inb : ∀ a, off a + sh.size a ≤ sh.size a) (inb' : ∀ a, off' a + sh.size a ≤ sh.size a) (f : Vec F sh e → Vec F sh e) :
    M.view.read (Elt F) (M.view.writes (Elt F) (hM.unread x) [⟨Rect.unit off sh.size inb, f (M.view.readAt (Elt F) (Rect.unit off' sh.size inb').toLoadRect (hM.unread x))⟩])
      = f x := by
  rw [View.read_writes_full, View.readAt_full, hM.read_unread]

/-- The last point's result is a function of the reads it is computed from. -/
theorem fin_eq (P : Par F) (S : Acc F) {a b d} {hp hpb bh cnt dt fa fb fc fb1 fw2 fb2 ga be} (h1 : a = S.num) (h2 : b = S.den) (h3 : hp = P.hp) (h4 : hpb = P.hpb)
    (h5 : bh = S.bh) (h6 : cnt = S.cnt) (h7 : d = S.dep) (h8 : dt = P.dt) (h9 : fa = P.fa) (h10 : fb = P.fb) (h11 : fc = P.fc) (h12 : fb1 = P.fb1)
    (h13 : fw2 = P.fw2) (h14 : fb2 = P.fb2) (h15 : ga = P.ga) (h16 : be = P.be) :
    k0_pay12 (k0_pay29 (k0_pay28 (k0_pay27 a b hp) hpb bh cnt d dt fa fb fc) fb1 fw2 fb2 ga) (k0_pay30 be) = fin P S := by
  subst h1 h2 h3 h4 h5 h6 h7 h8 h9 h10 h11 h12 h13 h14 h15 h16; rfl

/-- A step in the window. -/
theorem step_win (B : Blk F) (g o : BitVec 32) (hk : k0_chk2 g o) (S : Acc F) (ho : k0_cond2 o = 1#1) : step B g o hk S =
    { num := winNum B g o hk ho S.num
      bh := upd S.bh (k0_off7 g) S40x128.size (k0_off7_inb g o hk ho) (fun x => k0_pay2 (k0_pay19 B.seg B.rhs g x))
      den := upd S.den (k0_off8 g) S40x4.size (k0_off8_inb g o hk ho) (k0_pay3 B.ex (k0_pay13 B.seg g))
      cnt := upd S.cnt (k0_off10 g) S40x1.size (k0_off10_inb g o hk ho) (k0_pay6 B.cols (k0_pay13 B.seg g))
      dep := upd S.dep (k0_off9 g) S40x32.size (k0_off9_inb g o hk ho) (k0_pay5 B.cols (k0_pay13 B.seg g)) } := dif_pos ho

/-- A step on the whole tables. -/
theorem step_all (B : Blk F) (g o : BitVec 32) (hk : k0_chk2 g o) (S : Acc F) (ho : ¬ k0_cond2 o = 1#1) : step B g o hk S =
    { num := allNum B S.num
      bh := k0_pay7 (k0_pay26 B.seg B.rhs S.bh)
      den := k0_pay8 B.ex (k0_pay20 B.seg) S.den
      cnt := k0_pay11 B.cols (k0_pay20 B.seg) S.cnt
      dep := k0_pay10 B.cols (k0_pay20 B.seg) S.dep } := dif_neg ho

variable (c : Dev nD) (i : grid0.Coords) (arg3 : Memref sig .tc .vmem S5000x128 .f32) (harg3 : arg3.IsWhole) (arg4 : Memref sig .tc .vmem S1x1x5000 .i32) (harg4 : arg4.IsWhole) (arg5 : Memref sig .tc .vmem S5000x40 .bf16) (harg5 : arg5.IsWhole) (arg6 : Memref sig .tc .vmem S128x128 .bf16) (harg6 : arg6.IsWhole) (arg7 : Memref sig .tc .vmem S1x128 .f32) (harg7 : arg7.IsWhole) (arg8 : Memref sig .tc .vmem S128x4 .f32) (harg8 : arg8.IsWhole) (arg9 : Memref sig .tc .vmem S1x4 .f32) (harg9 : arg9.IsWhole) (arg10 : Memref sig .tc .vmem S512x128 .f32) (harg10 : arg10.IsWhole) (arg11 : Memref sig .tc .vmem S1x128 .f32) (harg11 : arg11.IsWhole) (arg12 : Memref sig .tc .vmem S32x8 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S8x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S256x128 .f32) (harg21 : arg21.IsWhole) (arg22 : Memref sig .tc .vmem S256x512 .f32) (harg22 : arg22.IsWhole) (arg23 : Memref sig .tc .vmem S256x128 .f32) (harg23 : arg23.IsWhole) (arg24 : Memref sig .tc .vmem S256x4 .f32) (harg24 : arg24.IsWhole) (arg25 : Memref sig .tc .vmem S256x1 .f32) (harg25 : arg25.IsWhole) (arg26 : Memref sig .tc .vmem S256x32 .f32) (harg26 : arg26.IsWhole)

set_option maxHeartbeats 4000000 in
/-- The body's first part: it clears the tables at the first point and reads the point's blocks. -/
theorem part6_run (B : Blk F) (S : Acc F) (E : Set ℕ) (K : _ → sProp 𝕄) :
    iprop(owns (c : Thread nD τ) arg3 fullShare B.h ∗ owns (c : Thread nD τ) arg4 fullShare B.bat ∗ owns (c : Thread nD τ) arg5 fullShare B.aux ∗ owns (c : Thread nD τ) arg6 fullShare B.w1 ∗ owns (c : Thread nD τ) arg7 fullShare B.b1 ∗ owns (c : Thread nD τ) arg8 fullShare B.w2 ∗ owns (c : Thread nD τ) arg9 fullShare B.b2 ∗ owns (c : Thread nD τ) arg22 fullShare S.num ∗ owns (c : Thread nD τ) arg23 fullShare S.bh ∗ owns (c : Thread nD τ) arg24 fullShare S.den ∗ owns (c : Thread nD τ) arg25 fullShare S.cnt ∗ owns (c : Thread nD τ) arg26 fullShare S.dep
      ∗ (iprop(owns (c : Thread nD τ) arg3 fullShare B.h ∗ owns (c : Thread nD τ) arg4 fullShare B.bat ∗ owns (c : Thread nD τ) arg5 fullShare B.aux ∗ owns (c : Thread nD τ) arg6 fullShare B.w1 ∗ owns (c : Thread nD τ) arg7 fullShare B.b1 ∗ owns (c : Thread nD τ) arg8 fullShare B.w2 ∗ owns (c : Thread nD τ) arg9 fullShare B.b2 ∗ owns (c : Thread nD τ) arg22 fullShare (start i S).num ∗ owns (c : Thread nD τ) arg23 fullShare (start i S).bh ∗ owns (c : Thread nD τ) arg24 fullShare (start i S).den ∗ owns (c : Thread nD τ) arg25 fullShare (start i S).cnt ∗ owns (c : Thread nD τ) arg26 fullShare (start i S).dep) -∗
          K ⟨BitVec.ofNat 32 (i 0).val, B.seg, B.cols, k0_pay38 B.h, B.ex, k0_pay40 B.aux, k0_pay41 B.h B.w1 B.b1 B.w2 B.b2, k0_pay42 B.h B.w1 B.b1 B.w2 B.b2, k0_pay43 B.h B.w1 B.b1 B.w2 B.b2, k0_pay44 B.h B.w1 B.b1 B.w2 B.b2⟩))
      ⊢ wp frame (wpE (defs₀ (F := F)) Variants.none c none) E (k0_part6 i tbM0_0 htbM0_0 tbM0_1 htbM0_1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  unfold Blk.seg Blk.cols Blk.ex
  simp only [k0_part6_eq_skeleton]; unfold k0_part6_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f22, %hf22, H22⟩, ⟨%f23, %hf23, H23⟩, ⟨%f24, %hf24, H24⟩, ⟨%f25, %hf25, H25⟩, ⟨%f26, %hf26, H26⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg22.eq_unread hf22; obtain rfl := harg23.eq_unread hf23; obtain rfl := harg24.eq_unread hf24; obtain rfl := harg25.eq_unread hf25; obtain rfl := harg26.eq_unread hf26
  have e3 : View.readAt (Elt F) arg3.view (Rect.unit (s := S5000x128) ![0, 0] ![5000, 128] inb_S5000x128_S5000x128_0_0).toLoadRect (harg3.unread B.h) = B.h :=
    (View.readAt_full _ _ _).trans (harg3.read_unread _)
  have e4 : View.readAt (Elt F) arg4.view (Rect.unit (s := S1x1x5000) ![0, 0, 0] ![1, 1, 5000] inb_S1x1x5000_S1x1x5000_0_0_0).toLoadRect (harg4.unread B.bat) = B.bat :=
    (View.readAt_full _ _ _).trans (harg4.read_unread _)
  have e5 : View.readAt (Elt F) arg5.view (Rect.unit (s := S5000x40) ![0, 0] ![5000, 40] inb_S5000x40_S5000x40_0_0).toLoadRect (harg5.unread B.aux) = B.aux :=
    (View.readAt_full _ _ _).trans (harg5.read_unread _)
  have e6 : View.readAt (Elt F) arg6.view (Rect.unit (s := S128x128) ![0, 0] ![128, 128] inb_S128x128_S128x128_0_0).toLoadRect (harg6.unread B.w1) = B.w1 :=
    (View.readAt_full _ _ _).trans (harg6.read_unread _)
  have e7 : View.readAt (Elt F) arg7.view (Rect.unit (s := S1x128) ![0, 0] ![1, 128] inb_S1x128_S1x128_0_0).toLoadRect (harg7.unread B.b1) = B.b1 :=
    (View.readAt_full _ _ _).trans (harg7.read_unread _)
  have e8 : View.readAt (Elt F) arg8.view (Rect.unit (s := S128x4) ![0, 0] ![128, 4] inb_S128x4_S128x4_0_0).toLoadRect (harg8.unread B.w2) = B.w2 :=
    (View.readAt_full _ _ _).trans (harg8.read_unread _)
  have e9 : View.readAt (Elt F) arg9.view (Rect.unit (s := S1x4) ![0, 0] ![1, 4] inb_S1x4_S1x4_0_0).toLoadRect (harg9.unread B.b2) = B.b2 :=
    (View.readAt_full _ _ _).trans (harg9.read_unread _)
  by_cases h0 : isFirst i = 1#1
  · rw [start, if_pos h0]; unfold Acc.zero
    sl_exec (disch := first | sl_exact h0)
    sl_step
    simp only [e3, e4, e5, e6, e7, e8, e9]
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H22]
    · iexists _; isplitr; swap; · iexact H22
      ipureintro; exact View.read_writes_full _ _ _ _ _
    isplitl [H23]
    · iexists _; isplitr; swap; · iexact H23
      ipureintro; exact View.read_writes_full _ _ _ _ _
    isplitl [H24]
    · iexists _; isplitr; swap; · iexact H24
      ipureintro; exact View.read_writes_full _ _ _ _ _
    isplitl [H25]
    · iexists _; isplitr; swap; · iexact H25
      ipureintro; exact View.read_writes_full _ _ _ _ _
    iexists _; isplitr; swap; · iexact H26
    ipureintro; exact View.read_writes_full _ _ _ _ _
  · rw [start, if_neg h0]
    sl_exec (disch := first | sl_exact h0)
    sl_step
    simp only [e3, e4, e5, e6, e7, e8, e9]
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H22]
    · iexists _; isplitr; swap; · iexact H22
      ipureintro; exact harg22.read_unread _
    isplitl [H23]
    · iexists _; isplitr; swap; · iexact H23
      ipureintro; exact harg23.read_unread _
    isplitl [H24]
    · iexists _; isplitr; swap; · iexact H24
      ipureintro; exact harg24.read_unread _
    isplitl [H25]
    · iexists _; isplitr; swap; · iexact H25
      ipureintro; exact harg25.read_unread _
    iexists _; isplitr; swap; · iexact H26
    ipureintro; exact harg26.read_unread _

end Cert.KernelIdeal.Body

end
-- ==== Proof.KIKit.lean ====
module

public import proofs.«01_k».proof.Proof.Gen.KernelIdeal.Launch
public import proofs.«01_k».proof.Proof.Gen.KernelIdeal.Skeleton
public import proofs.«01_k».proof.Proof.KIBody
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What core `c`'s buffers hold when the kernel is entered: the host lines over the launch memory. -/
abbrev V (c : Dev nD) (b : Ref sig .tc) : Buf (Elt F) ((c : Thread nD τ).loc b) :=
  StableHlo.after (List.flatten [hostOps0, hostOps0_1, hostOps0_2]) (fun b => m (c, b)) b

/-- No host line of the first stretch leaves a buffer fresh. -/
theorem fresh0 : (hostOps0 : List (HloOp τ sig (Elt F))).Forall fun op => op.fresh = ∅ := by
  simp only [List.Forall]; repeat' constructor
/-- Nor of the second. -/
theorem fresh1 : (hostOps0_1 : List (HloOp τ sig (Elt F))).Forall fun op => op.fresh = ∅ := by
  simp only [List.Forall]; repeat' constructor
/-- Nor of the third. -/
theorem fresh2 : (hostOps0_2 : List (HloOp τ sig (Elt F))).Forall fun op => op.fresh = ∅ := by
  simp only [List.Forall]; repeat' constructor

set_option maxHeartbeats 800000 in
/-- The program is its host lines and then the kernel. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2]
    (by simp only [List.Forall]; exact ⟨hostOps0_sub, hostOps0_1_sub, hostOps0_2_sub⟩)
    (by simp only [List.Forall]; exact ⟨fresh0, fresh1, fresh2⟩) main_chain

set_option maxHeartbeats 4000000 in
/-- A buffer no host line writes is found as launched. -/
theorem V_kept (b : Ref sig .tc) (hb : b ∈ [main_arg0, main_arg1, main_arg2, main_arg3, main_arg4, main_arg5, main_arg6, main_arg7, main_arg8, main_arg9, main_arg10, main_arg11, main_arg12, main_arg13, main_arg14, main_arg15, main_arg16]) (c : Dev nD) :
    V m c b = m ((c : Thread nD τ).loc b) := by
  refine StableHlo.after_of_forall_not_mem (b := Proc.devRef .tc b) _ _ (List.forall_iff_forall_mem.mp ?_)
  simp only [hostOps0, hostOps0_1, hostOps0_2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  simp only [List.mem_cons, List.not_mem_nil, or_false] at hb
  repeat' apply And.intro
  all_goals exact StableHlo.devRef_ne_of_ne (by rintro rfl; revert hb; decide)

/-- The tables' contents when the kernel is entered. -/
def tbl : pre0.Contents (Elt F) := fun j => V m (0 : Dev nD) (pre0.ref j)
/-- They are the same on the one device. -/
theorem V_pre (c : Dev nD) (j : Fin 2) : V m c (pre0.ref j) = tbl m j := by
  obtain rfl : c = 0 := Subsingleton.elim _ _; rfl
/-- No window's place depends on the tables. -/
theorem ok : ok0 (F := F) (tbl m) := trivial
/-- The tables' contents, admissible. -/
abbrev adm : (pcfg0 (F := F)).Adm := ⟨tbl m, ok m⟩
/-- The pipeline at them. -/
abbrev cfgM : Pipeline.Cfg sig Λ₀ := cfg0 (adm m)

/-- The tables' halves, one by one. -/
theorem PhiT0_eq (c : Dev nD) : (Pipeline.ΦT pre0 (tbl m) c : sProp 𝕄) = iprop(tbPt c tbM0_0 (tbl m 0) ∗ tbPt c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The scratch memrefs. -/
abbrev scM0_0 : Memref sig .tc .vmem S256x512 .f32 := Memref.whole cc0_scratch0
/-- The second. -/
abbrev scM0_1 : Memref sig .tc .vmem S256x128 .f32 := Memref.whole cc0_scratch1
/-- The third. -/
abbrev scM0_2 : Memref sig .tc .vmem S256x4 .f32 := Memref.whole cc0_scratch2
/-- The fourth. -/
abbrev scM0_3 : Memref sig .tc .vmem S256x1 .f32 := Memref.whole cc0_scratch3
/-- The fifth. -/
abbrev scM0_4 : Memref sig .tc .vmem S256x32 .f32 := Memref.whole cc0_scratch4

/-- What the launch leaves of the scoped buffers, one by one. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- The first point is the one that clears. -/
theorem first_iff : ∀ t : Fin grid0.N, isFirst (grid0.coords t) = 1#1 ↔ t.val = 0 := fun t => by
  have ht : t.val < 20 := Nat.lt_of_lt_of_eq t.isLt N_0
  have e0 : (grid0.coords t 0).val = t.val / 1 % 20 := Pipeline.Grid.coords_val t 0 (by decide) rfl
  simp only [isFirst, e0]; word_cmp
/-- The last point is the one that writes the result. -/
theorem last_iff : ∀ t : Fin grid0.N, k0_cond4 (grid0.coords t) = 1#1 ↔ t.val = 19 := fun t => by
  have ht : t.val < 20 := Nat.lt_of_lt_of_eq t.isLt N_0
  have e0 : (grid0.coords t 0).val = t.val / 1 % 20 := Pipeline.Grid.coords_val t 0 (by decide) rfl
  simp only [k0_cond4, e0]; word_cmp

/-- Point `t`'s block. -/
def blkAt (c : Dev nD) (t : Fin (cfgM m).N) : Blk F :=
  { h := iblk m c 0 t, bat := iblk m c 1 t, aux := iblk m c 2 t, w1 := iblk m c 3 t, b1 := iblk m c 4 t, w2 := iblk m c 5 t, b2 := iblk m c 6 t }
/-- The parameters at point `t`. -/
def parAt (c : Dev nD) (t : Fin (cfgM m).N) : Par F :=
  { hp := iblk m c 7 t, hpb := iblk m c 8 t, dt := iblk m c 9 t, fa := iblk m c 10 t, fb := iblk m c 11 t, fc := iblk m c 12 t, fb1 := iblk m c 13 t, fw2 := iblk m c 14 t, fb2 := iblk m c 15 t, ga := iblk m c 16 t, be := iblk m c 17 t }
/-- The base row of point `t`. -/
abbrev g0At (c : Dev nD) (t : Fin (cfgM m).N) : BitVec 32 := word0 c (grid0.coords t) (tbl m 0)
/-- The overflow word of point `t`. -/
abbrev ovAt (c : Dev nD) (t : Fin (cfgM m).N) : BitVec 32 := word1 c (grid0.coords t) (tbl m 1)

/-- What the tables must satisfy for the kernel's windows to lie inside its sums. -/
def Tok : Prop := ∀ (c : Dev nD) (t : Fin (cfgM m).N), k0_chk1 (g0At m c t) ∧ k0_chk2 (g0At m c t) (ovAt m c t)

variable (hT : Tok m)

/-- The sums before point `n`. -/
def St (c : Dev nD) : (n : ℕ) → n ≤ (cfgM m).N → Acc F
  | 0, _ => Acc.zero
  | n + 1, h => step (blkAt m c ⟨n, h⟩) (g0At m c ⟨n, h⟩) (ovAt m c ⟨n, h⟩) (hT c ⟨n, h⟩).2 (St c n (Nat.le_of_lt h))

/-- One step further. -/
theorem St_succ (c : Dev nD) (t : Fin (cfgM m).N) (h : t.val + 1 ≤ (cfgM m).N) : St m hT c (t.val + 1) h
    = step (blkAt m c t) (g0At m c t) (ovAt m c t) (hT c t).2 (St m hT c t.val (Nat.le_of_lt t.isLt)) := rfl

/-- The sums held by the scratch. -/
def held5 (c : Dev nD) (S : Acc F) : sProp 𝕄 :=
  iprop(owns (c : Thread nD τ) scM0_0 fullShare S.num ∗ owns (c : Thread nD τ) scM0_1 fullShare S.bh ∗ owns (c : Thread nD τ) scM0_2 fullShare S.den ∗ owns (c : Thread nD τ) scM0_3 fullShare S.cnt ∗ owns (c : Thread nD τ) scM0_4 fullShare S.dep)

/-- The invariant before point `n`. -/
def PhiS (c : Dev nD) : (n : ℕ) → n ≤ (cfgM m).N → sProp 𝕄
  | 0, _ => iprop(Pipeline.ΦA spec0 c ∗ Pipeline.ΦT pre0 (tbl m) c)
  | n + 1, h => iprop(iprop(held5 c (St m hT c (n + 1) h) ∗ (∃ r, prngReg c r)) ∗ Pipeline.ΦT pre0 (tbl m) c)

/-- Before the first point. -/
theorem PhiS_zero (c : Dev nD) (n : ℕ) (h : n ≤ (cfgM m).N) (hz : n = 0) : PhiS m hT c n h = iprop(Pipeline.ΦA spec0 c ∗ Pipeline.ΦT pre0 (tbl m) c) := by
  subst hz; rfl
/-- After a point. -/
theorem PhiS_succ (c : Dev nD) (n : ℕ) (h : n < (cfgM m).N) : PhiS m hT c (n + 1) h = iprop(iprop(held5 c (St m hT c (n + 1) h) ∗ (∃ r, prngReg c r)) ∗ Pipeline.ΦT pre0 (tbl m) c) := rfl
/-- Before a later point. -/
theorem PhiS_pos (c : Dev nD) (n : ℕ) (h : n ≤ (cfgM m).N) (hz : n ≠ 0) : PhiS m hT c n h = iprop(iprop(held5 c (St m hT c n h) ∗ (∃ r, prngReg c r)) ∗ Pipeline.ΦT pre0 (tbl m) c) := by
  cases n with
  | zero => exact absurd rfl hz
  | succ n => rfl

/-- The proof data: arrays as found, inputs' buffers at their blocks, the result's at the last computation. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => fin (parAt m c t) (St m hT c (t.val + 1) t.isLt)
    | ⟨_ + 19, h⟩ => absurd h (Nat.not_lt.2 (Nat.le_add_left _ _))
  Φ t := PhiS m hT c t.val (Nat.le_of_lt_succ t.isLt)
  q _ := fullShare
  owed _ := 0

/-- The data's arrays. -/
theorem A_eq (c : Dev nD) (w : Fin (cfgM m).W) : (dats m hT 0 c).A w = V m c (Pipeline.arrRef spec0 w) := by
  dsimp only [dats]
/-- The invariant at a point's start. -/
theorem PhiS_castSucc (c : Dev nD) (t : Fin (cfgM m).N) :
    (dats m hT 0 c).Φ t.castSucc = PhiS m hT c t.val (Nat.le_of_lt t.isLt) := by
  dsimp only [dats]; exact Pipeline.Dat.Φ_castSucc (PhiS m hT c) t
/-- What the result's buffer is left at. -/
theorem after0_18 (c : Dev nD) (t : Fin (cfgM m).N) : (dats m hT 0 c).after 18 t = fin (parAt m c t) (St m hT c (t.val + 1) t.isLt) := by dsimp only [dats]; try rfl
/-- The result's window is left alone before the last point. -/
theorem idle18 : ∀ t : Fin (cfgM m).N, t.val ≠ 19 → (cfgM m).idle 18 (grid0.coords t) = true :=
  (by decide +kernel : ∀ t : Fin grid0.N, t.val ≠ 19 → idle0 18 (grid0.coords t) = true)
/-- And not written back. -/
theorem flush18 : ∀ t : Fin (cfgM m).N, t.val ≠ 19 → ((cfgM m).win 18).flush t = false :=
  (by decide +kernel : ∀ t : Fin grid0.N, t.val ≠ 19 → Pipeline.Window.flushOf grid0 true cc0_transform_18 t = false)
/-- At the last point it is written. -/
theorem live18 : ∀ t : Fin (cfgM m).N, t.val = 19 → (cfgM m).idle 18 (grid0.coords t) = false :=
  (by decide +kernel : ∀ t : Fin grid0.N, t.val = 19 → idle0 18 (grid0.coords t) = false)

/-- Input window 0 holds its block and keeps it. -/
theorem in0_0 (c : Dev nD) (t : Fin (cfgM m).N) : (∀ d, (dats m hT 0 c).before 0 t d = iblk m c 0 t)
    ∧ (dats m hT 0 c).leavesExact 0 t = owns (c : Thread nD τ) (spec0_0.stage ((cfgM m).slots t 0)) fullShare (iblk m c 0 t) := by
  have ha : ∀ t, (dats m hT 0 c).after 0 t = iblk m c 0 t := fun t => by dsimp only [dats]; try rfl
  have hA := A_eq m hT c 0
  refine ⟨fun d => ((dats m hT 0 c).before_in_eq_fetched 0 rfl (fun _ => rfl) (fun _ _ _ => rfl) (fun t => by rw [ha]; unfold Dat.blockOf iblk; rw [hA]; try rfl) t d).trans
    (by unfold Dat.fetched Dat.blockOf iblk; rw [hA]; try rfl), ?_⟩
  unfold Dat.leavesExact; rw [show (cfgM m).idle 0 (grid0.coords t) = false from rfl, ha t]; try rfl
/-- Input window 1 holds its block and keeps it. -/
theorem in0_1 (c : Dev nD) (t : Fin (cfgM m).N) : (∀ d, (dats m hT 0 c).before 1 t d = iblk m c 1 t)
    ∧ (dats m hT 0 c).leavesExact 1 t = owns (c : Thread nD τ) (spec0_1.stage ((cfgM m).slots t 1)) fullShare (iblk m c 1 t) := by
  have ha : ∀ t, (dats m hT 0 c).after 1 t = iblk m c 1 t := fun t => by dsimp only [dats]; try rfl
  have hA := A_eq m hT c 1
  refine ⟨fun d => ((dats m hT 0 c).before_in_eq_fetched 1 rfl (fun _ => rfl) (fun _ _ _ => rfl) (fun t => by rw [ha]; unfold Dat.blockOf iblk; rw [hA]; try rfl) t d).trans
    (by unfold Dat.fetched Dat.blockOf iblk; rw [hA]; try rfl), ?_⟩
  unfold Dat.leavesExact; rw [show (cfgM m).idle 1 (grid0.coords t) = false from rfl, ha t]; try rfl
/-- Input window 2 holds its block and keeps it. -/
theorem in0_2 (c : Dev nD) (t : Fin (cfgM m).N) : (∀ d, (dats m hT 0 c).before 2 t d = iblk m c 2 t)
    ∧ (dats m hT 0 c).leavesExact 2 t = owns (c : Thread nD τ) (spec0_2.stage ((cfgM m).slots t 2)) fullShare (iblk m c 2 t) := by
  have ha : ∀ t, (dats m hT 0 c).after 2 t = iblk m c 2 t := fun t => by dsimp only [dats]; try rfl
  have hA := A_eq m hT c 2
  refine ⟨fun d => ((dats m hT 0 c).before_in_eq_fetched 2 rfl (fun _ => rfl) (fun _ _ _ => rfl) (fun t => by rw [ha]; unfold Dat.blockOf iblk; rw [hA]; try rfl) t d).trans
    (by unfold Dat.fetched Dat.blockOf iblk; rw [hA]; try rfl), ?_⟩
  unfold Dat.leavesExact; rw [show (cfgM m).idle 2 (grid0.coords t) = false from rfl, ha t]; try rfl
/-- Input window 3 holds its block and keeps it. -/
theorem in0_3 (c : Dev nD) (t : Fin (cfgM m).N) : (∀ d, (dats m hT 0 c).before 3 t d = iblk m c 3 t)
    ∧ (dats m hT 0 c).leavesExact 3 t = owns (c : Thread nD τ) (spec0_3.stage ((cfgM m).slots t 3)) fullShare (iblk m c 3 t) := by
  have ha : ∀ t, (dats m hT 0 c).after 3 t = iblk m c 3 t := fun t => by dsimp only [dats]; try rfl
  have hA := A_eq m hT c 3
  refine ⟨fun d => ((dats m hT 0 c).before_in_eq_fetched 3 rfl (fun _ => rfl) (fun _ _ _ => rfl) (fun t => by rw [ha]; unfold Dat.blockOf iblk; rw [hA]; try rfl) t d).trans
    (by unfold Dat.fetched Dat.blockOf iblk; rw [hA]; try rfl), ?_⟩
  unfold Dat.leavesExact; rw [show (cfgM m).idle 3 (grid0.coords t) = false from rfl, ha t]; try rfl
/-- Input window 4 holds its block and keeps it. -/
theorem in0_4 (c : Dev nD) (t : Fin (cfgM m).N) : (∀ d, (dats m hT 0 c).before 4 t d = iblk m c 4 t)
    ∧ (dats m hT 0 c).leavesExact 4 t = owns (c : Thread nD τ) (spec0_4.stage ((cfgM m).slots t 4)) fullShare (iblk m c 4 t) := by
  have ha : ∀ t, (dats m hT 0 c).after 4 t = iblk m c 4 t := fun t => by dsimp only [dats]; try rfl
  have hA := A_eq m hT c 4
  refine ⟨fun d => ((dats m hT 0 c).before_in_eq_fetched 4 rfl (fun _ => rfl) (fun _ _ _ => rfl) (fun t => by rw [ha]; unfold Dat.blockOf iblk; rw [hA]; try rfl) t d).trans
    (by unfold Dat.fetched Dat.blockOf iblk; rw [hA]; try rfl), ?_⟩
  unfold Dat.leavesExact; rw [show (cfgM m).idle 4 (grid0.coords t) = false from rfl, ha t]; try rfl
/-- Input window 5 holds its block and keeps it. -/
theorem in0_5 (c : Dev nD) (t : Fin (cfgM m).N) : (∀ d, (dats m hT 0 c).before 5 t d = iblk m c 5 t)
    ∧ (dats m hT 0 c).leavesExact 5 t = owns (c : Thread nD τ) (spec0_5.stage ((cfgM m).slots t 5)) fullShare (iblk m c 5 t) := by
  have ha : ∀ t, (dats m hT 0 c).after 5 t = iblk m c 5 t := fun t => by dsimp only [dats]; try rfl
  have hA := A_eq m hT c 5
  refine ⟨fun d => ((dats m hT 0 c).before_in_eq_fetched 5 rfl (fun _ => rfl) (fun _ _ _ => rfl) (fun t => by rw [ha]; unfold Dat.blockOf iblk; rw [hA]; try rfl) t d).trans
    (by unfold Dat.fetched Dat.blockOf iblk; rw [hA]; try rfl), ?_⟩
  unfold Dat.leavesExact; rw [show (cfgM m).idle 5 (grid0.coords t) = false from rfl, ha t]; try rfl
/-- Input window 6 holds its block and keeps it. -/
theorem in0_6 (c : Dev nD) (t : Fin (cfgM m).N) : (∀ d, (dats m hT 0 c).before 6 t d = iblk m c 6 t)
    ∧ (dats m hT 0 c).leavesExact 6 t = owns (c : Thread nD τ) (spec0_6.stage ((cfgM m).slots t 6)) fullShare (iblk m c 6 t) := by
  have ha : ∀ t, (dats m hT 0 c).after 6 t = iblk m c 6 t := fun t => by dsimp only [dats]; try rfl
  have hA := A_eq m hT c 6
  refine ⟨fun d => ((dats m hT 0 c).before_in_eq_fetched 6 rfl (fun _ => rfl) (fun _ _ _ => rfl) (fun t => by rw [ha]; unfold Dat.blockOf iblk; rw [hA]; try rfl) t d).trans
    (by unfold Dat.fetched Dat.blockOf iblk; rw [hA]; try rfl), ?_⟩
  unfold Dat.leavesExact; rw [show (cfgM m).idle 6 (grid0.coords t) = false from rfl, ha t]; try rfl
/-- Input window 7 holds its block and keeps it. -/
theorem in0_7 (c : Dev nD) (t : Fin (cfgM m).N) : (∀ d, (dats m hT 0 c).before 7 t d = iblk m c 7 t)
    ∧ (dats m hT 0 c).leavesExact 7 t = owns (c : Thread nD τ) (spec0_7.stage ((cfgM m).slots t 7)) fullShare (iblk m c 7 t) := by
  have ha : ∀ t, (dats m hT 0 c).after 7 t = iblk m c 7 t := fun t => by dsimp only [dats]; try rfl
  have hA := A_eq m hT c 7
  refine ⟨fun d => ((dats m hT 0 c).before_in_eq_fetched 7 rfl (fun _ => rfl) (fun _ _ _ => rfl) (fun t => by rw [ha]; unfold Dat.blockOf iblk; rw [hA]; try rfl) t d).trans
    (by unfold Dat.fetched Dat.blockOf iblk; rw [hA]; try rfl), ?_⟩
  unfold Dat.leavesExact; rw [show (cfgM m).idle 7 (grid0.coords t) = false from rfl, ha t]; try rfl
/-- Input window 8 holds its block and keeps it. -/
theorem in0_8 (c : Dev nD) (t : Fin (cfgM m).N) : (∀ d, (dats m hT 0 c).before 8 t d = iblk m c 8 t)
    ∧ (dats m hT 0 c).leavesExact 8 t = owns (c : Thread nD τ) (spec0_8.stage ((cfgM m).slots t 8)) fullShare (iblk m c 8 t) := by
  have ha : ∀ t, (dats m hT 0 c).after 8 t = iblk m c 8 t := fun t => by dsimp only [dats]; try rfl
  have hA := A_eq m hT c 8
  refine ⟨fun d => ((dats m hT 0 c).before_in_eq_fetched 8 rfl (fun _ => rfl) (fun _ _ _ => rfl) (fun t => by rw [ha]; unfold Dat.blockOf iblk; rw [hA]; try rfl) t d).trans
    (by unfold Dat.fetched Dat.blockOf iblk; rw [hA]; try rfl), ?_⟩
  unfold Dat.leavesExact; rw [show (cfgM m).idle 8 (grid0.coords t) = false from rfl, ha t]; try rfl
/-- Input window 9 holds its block and keeps it. -/
theorem in0_9 (c : Dev nD) (t : Fin (cfgM m).N) : (∀ d, (dats m hT 0 c).before 9 t d = iblk m c 9 t)
    ∧ (dats m hT 0 c).leavesExact 9 t = owns (c : Thread nD τ) (spec0_9.stage ((cfgM m).slots t 9)) fullShare (iblk m c 9 t) := by
  have ha : ∀ t, (dats m hT 0 c).after 9 t = iblk m c 9 t := fun t => by dsimp only [dats]; try rfl
  have hA := A_eq m hT c 9
  refine ⟨fun d => ((dats m hT 0 c).before_in_eq_fetched 9 rfl (fun _ => rfl) (fun _ _ _ => rfl) (fun t => by rw [ha]; unfold Dat.blockOf iblk; rw [hA]; try rfl) t d).trans
    (by unfold Dat.fetched Dat.blockOf iblk; rw [hA]; try rfl), ?_⟩
  unfold Dat.leavesExact; rw [show (cfgM m).idle 9 (grid0.coords t) = false from rfl, ha t]; try rfl
/-- Input window 10 holds its block and keeps it. -/
theorem in0_10 (c : Dev nD) (t : Fin (cfgM m).N) : (∀ d, (dats m hT 0 c).before 10 t d = iblk m c 10 t)
    ∧ (dats m hT 0 c).leavesExact 10 t = owns (c : Thread nD τ) (spec0_10.stage ((cfgM m).slots t 10)) fullShare (iblk m c 10 t) := by
  have ha : ∀ t, (dats m hT 0 c).after 10 t = iblk m c 10 t := fun t => by dsimp only [dats]; try rfl
  have hA := A_eq m hT c 10
  refine ⟨fun d => ((dats m hT 0 c).before_in_eq_fetched 10 rfl (fun _ => rfl) (fun _ _ _ => rfl) (fun t => by rw [ha]; unfold Dat.blockOf iblk; rw [hA]; try rfl) t d).trans
    (by unfold Dat.fetched Dat.blockOf iblk; rw [hA]; try rfl), ?_⟩
  unfold Dat.leavesExact; rw [show (cfgM m).idle 10 (grid0.coords t) = false from rfl, ha t]; try rfl
/-- Input window 11 holds its block and keeps it. -/
theorem in0_11 (c : Dev nD) (t : Fin (cfgM m).N) : (∀ d, (dats m hT 0 c).before 11 t d = iblk m c 11 t)
    ∧ (dats m hT 0 c).leavesExact 11 t = owns (c : Thread nD τ) (spec0_11.stage ((cfgM m).slots t 11)) fullShare (iblk m c 11 t) := by
  have ha : ∀ t, (dats m hT 0 c).after 11 t = iblk m c 11 t := fun t => by dsimp only [dats]; try rfl
  have hA := A_eq m hT c 11
  refine ⟨fun d => ((dats m hT 0 c).before_in_eq_fetched 11 rfl (fun _ => rfl) (fun _ _ _ => rfl) (fun t => by rw [ha]; unfold Dat.blockOf iblk; rw [hA]; try rfl) t d).trans
    (by unfold Dat.fetched Dat.blockOf iblk; rw [hA]; try rfl), ?_⟩
  unfold Dat.leavesExact; rw [show (cfgM m).idle 11 (grid0.coords t) = false from rfl, ha t]; try rfl
/-- Input window 12 holds its block and keeps it. -/
theorem in0_12 (c : Dev nD) (t : Fin (cfgM m).N) : (∀ d, (dats m hT 0 c).before 12 t d = iblk m c 12 t)
    ∧ (dats m hT 0 c).leavesExact 12 t = owns (c : Thread nD τ) (spec0_12.stage ((cfgM m).slots t 12)) fullShare (iblk m c 12 t) := by
  have ha : ∀ t, (dats m hT 0 c).after 12 t = iblk m c 12 t := fun t => by dsimp only [dats]; try rfl
  have hA := A_eq m hT c 12
  refine ⟨fun d => ((dats m hT 0 c).before_in_eq_fetched 12 rfl (fun _ => rfl) (fun _ _ _ => rfl) (fun t => by rw [ha]; unfold Dat.blockOf iblk; rw [hA]; try rfl) t d).trans
    (by unfold Dat.fetched Dat.blockOf iblk; rw [hA]; try rfl), ?_⟩
  unfold Dat.leavesExact; rw [show (cfgM m).idle 12 (grid0.coords t) = false from rfl, ha t]; try rfl
/-- Input window 13 holds its block and keeps it. -/
theorem in0_13 (c : Dev nD) (t : Fin (cfgM m).N) : (∀ d, (dats m hT 0 c).before 13 t d = iblk m c 13 t)
    ∧ (dats m hT 0 c).leavesExact 13 t = owns (c : Thread nD τ) (spec0_13.stage ((cfgM m).slots t 13)) fullShare (iblk m c 13 t) := by
  have ha : ∀ t, (dats m hT 0 c).after 13 t = iblk m c 13 t := fun t => by dsimp only [dats]; try rfl
  have hA := A_eq m hT c 13
  refine ⟨fun d => ((dats m hT 0 c).before_in_eq_fetched 13 rfl (fun _ => rfl) (fun _ _ _ => rfl) (fun t => by rw [ha]; unfold Dat.blockOf iblk; rw [hA]; try rfl) t d).trans
    (by unfold Dat.fetched Dat.blockOf iblk; rw [hA]; try rfl), ?_⟩
  unfold Dat.leavesExact; rw [show (cfgM m).idle 13 (grid0.coords t) = false from rfl, ha t]; try rfl
/-- Input window 14 holds its block and keeps it. -/
theorem in0_14 (c : Dev nD) (t : Fin (cfgM m).N) : (∀ d, (dats m hT 0 c).before 14 t d = iblk m c 14 t)
    ∧ (dats m hT 0 c).leavesExact 14 t = owns (c : Thread nD τ) (spec0_14.stage ((cfgM m).slots t 14)) fullShare (iblk m c 14 t) := by
  have ha : ∀ t, (dats m hT 0 c).after 14 t = iblk m c 14 t := fun t => by dsimp only [dats]; try rfl
  have hA := A_eq m hT c 14
  refine ⟨fun d => ((dats m hT 0 c).before_in_eq_fetched 14 rfl (fun _ => rfl) (fun _ _ _ => rfl) (fun t => by rw [ha]; unfold Dat.blockOf iblk; rw [hA]; try rfl) t d).trans
    (by unfold Dat.fetched Dat.blockOf iblk; rw [hA]; try rfl), ?_⟩
  unfold Dat.leavesExact; rw [show (cfgM m).idle 14 (grid0.coords t) = false from rfl, ha t]; try rfl
/-- Input window 15 holds its block and keeps it. -/
theorem in0_15 (c : Dev nD) (t : Fin (cfgM m).N) : (∀ d, (dats m hT 0 c).before 15 t d = iblk m c 15 t)
    ∧ (dats m hT 0 c).leavesExact 15 t = owns (c : Thread nD τ) (spec0_15.stage ((cfgM m).slots t 15)) fullShare (iblk m c 15 t) := by
  have ha : ∀ t, (dats m hT 0 c).after 15 t = iblk m c 15 t := fun t => by dsimp only [dats]; try rfl
  have hA := A_eq m hT c 15
  refine ⟨fun d => ((dats m hT 0 c).before_in_eq_fetched 15 rfl (fun _ => rfl) (fun _ _ _ => rfl) (fun t => by rw [ha]; unfold Dat.blockOf iblk; rw [hA]; try rfl) t d).trans
    (by unfold Dat.fetched Dat.blockOf iblk; rw [hA]; try rfl), ?_⟩
  unfold Dat.leavesExact; rw [show (cfgM m).idle 15 (grid0.coords t) = false from rfl, ha t]; try rfl
/-- Input window 16 holds its block and keeps it. -/
theorem in0_16 (c : Dev nD) (t : Fin (cfgM m).N) : (∀ d, (dats m hT 0 c).before 16 t d = iblk m c 16 t)
    ∧ (dats m hT 0 c).leavesExact 16 t = owns (c : Thread nD τ) (spec0_16.stage ((cfgM m).slots t 16)) fullShare (iblk m c 16 t) := by
  have ha : ∀ t, (dats m hT 0 c).after 16 t = iblk m c 16 t := fun t => by dsimp only [dats]; try rfl
  have hA := A_eq m hT c 16
  refine ⟨fun d => ((dats m hT 0 c).before_in_eq_fetched 16 rfl (fun _ => rfl) (fun _ _ _ => rfl) (fun t => by rw [ha]; unfold Dat.blockOf iblk; rw [hA]; try rfl) t d).trans
    (by unfold Dat.fetched Dat.blockOf iblk; rw [hA]; try rfl), ?_⟩
  unfold Dat.leavesExact; rw [show (cfgM m).idle 16 (grid0.coords t) = false from rfl, ha t]; try rfl
/-- Input window 17 holds its block and keeps it. -/
theorem in0_17 (c : Dev nD) (t : Fin (cfgM m).N) : (∀ d, (dats m hT 0 c).before 17 t d = iblk m c 17 t)
    ∧ (dats m hT 0 c).leavesExact 17 t = owns (c : Thread nD τ) (spec0_17.stage ((cfgM m).slots t 17)) fullShare (iblk m c 17 t) := by
  have ha : ∀ t, (dats m hT 0 c).after 17 t = iblk m c 17 t := fun t => by dsimp only [dats]; try rfl
  have hA := A_eq m hT c 17
  refine ⟨fun d => ((dats m hT 0 c).before_in_eq_fetched 17 rfl (fun _ => rfl) (fun _ _ _ => rfl) (fun t => by rw [ha]; unfold Dat.blockOf iblk; rw [hA]; try rfl) t d).trans
    (by unfold Dat.fetched Dat.blockOf iblk; rw [hA]; try rfl), ?_⟩
  unfold Dat.leavesExact; rw [show (cfgM m).idle 17 (grid0.coords t) = false from rfl, ha t]; try rfl

end Cert.KernelIdeal.Body

end
-- ==== Proof.KITab.lean ====
module

public import proofs.«01_k».proof.Proof.Gen.KernelIdeal.Launch
public import proofs.«01_k».proof.Proof.Gen.KernelIdeal.Skeleton
public import proofs.«01_k».proof.Proof.KIKit
public import Idealize.ShloMosaic.Lib.Pipeline.FrameBody
public import Idealize.ShloMosaic.Lib.VecWindow
public import Idealize.ShloMosaic.Lib.Tactic
public import Idealize.ShloMosaic.Lib.WordCmp
public import Idealize.ShloMosaic.Lib.StableHlo.ReadAt
public import Idealize.ShloMosaic.Lib.ReduceAll
public import Idealize.ShloMosaic.Lib.Tactic.WordOmega

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The base row computed from the first segment id of a point's block. -/
def gW (x : BitVec 32) : BitVec 32 :=
  IntOp.minsi (IntOp.muli (Scalar.select
    (IntOp.andi (IntOp.cmpi .ne (if x = 0 then (0 : BitVec 32) else if BitVec.msb x = true then -1 else 1) (if (8#32 : BitVec 32) = 0 then (0 : BitVec 32) else if BitVec.msb 8#32 = true then -1 else 1))
      (IntOp.cmpi .ne (IntOp.remsi .host x 8#32) 0#32))
    (IntOp.subi (IntOp.divsi .host x 8#32) 1#32) (IntOp.divsi .host x 8#32)) 8#32) 216#32

/-- The overflow word computed from the last segment id and the base row. -/
def oW (y g : BitVec 32) : BitVec 32 := BitVec.setWidth 32 (IntOp.cmpi .sge (IntOp.subi y g) 40#32)

/-- For an id below 256 the base row is the multiple of 8 below it, at most 216. -/
theorem gW_small : ∀ n : Fin 256, gW (BitVec.ofNat 32 n.val) = BitVec.ofNat 32 (min (n.val / 8 * 8) 216) := by decide +kernel

/-- The overflow test fails exactly past the window. -/
theorem oW_cond (y n : ℕ) (hy : y < 256) (hn : n ≤ 216) : k0_cond2 (oW (BitVec.ofNat 32 y) (BitVec.ofNat 32 n)) = 1#1 ↔ y < n + 40 := by
  have e : IntOp.cmpi .sge (IntOp.subi (BitVec.ofNat 32 y) (BitVec.ofNat 32 n)) 40#32 = 1#1 ↔ ¬ y < n + 40 := by
    rw [IntOp.cmpi_sge]
    simp only [IntOp.subi]
    rw [BitVec.toInt_sub, BitVec.toInt_eq_toNat_of_lt, BitVec.toInt_eq_toNat_of_lt, BitVec.toInt_eq_toNat_of_lt]
    all_goals simp only [BitVec.toNat_ofNat]
    · rw [Nat.mod_eq_of_lt (by omega : y < 2 ^ 32), Nat.mod_eq_of_lt (by omega : n < 2 ^ 32), Int.bmod_eq_of_le (by omega) (by omega)]; omega
    all_goals omega
  have k : ∀ b : BitVec 1, k0_cond2 (BitVec.setWidth 32 b) = 1#1 ↔ ¬ b = 1#1 := by decide
  unfold oW
  rw [k, e, not_not]

variable (m : (ℓ : Loc nD τ sig) → Buf (Elt F) ℓ)

/-- The table of base rows, at a point. -/
theorem V_v35 (c : Dev nD) (j : Fin 20) : (V m c main_v35 : IVec S20 32) (ix1 j)
    = gW ((m ((c : Thread nD τ).loc main_arg1) : IVec S100000 32) (ix1 ⟨5000 * j.val, by omega⟩)) := by
  unfold V
  simp only [hostOps0, hostOps0_1, hostOps0_2, List.flatten_cons, List.flatten_nil, List.append_nil, List.cons_append, List.nil_append]
  after_reads_at
  rfl

set_option maxHeartbeats 1000000 in
/-- The table of overflow words, at a point. -/
theorem V_v39 (c : Dev nD) (j : Fin 20) : (V m c main_v39 : IVec S20 32) (ix1 j)
    = oW ((m ((c : Thread nD τ).loc main_arg1) : IVec S100000 32) (ix1 ⟨4999 + 5000 * j.val, by omega⟩))
        (gW ((m ((c : Thread nD τ).loc main_arg1) : IVec S100000 32) (ix1 ⟨5000 * j.val, by omega⟩))) := by
  unfold V
  simp only [hostOps0, hostOps0_1, hostOps0_2, List.flatten_cons, List.flatten_nil, List.append_nil, List.cons_append, List.nil_append]
  after_reads_at
  rfl

/-- The word a point reads off the first table. -/
theorem word0_eq (c : Dev nD) (t : Fin grid0.N) (x : TbBuf (F := F) c tbM0_0) :
    word0 c (grid0.coords t) x = (x : IVec S20 32) (ix1 ⟨t.val, Nat.lt_of_lt_of_eq t.isLt N_0⟩) := by
  have ht : t.val < 20 := Nat.lt_of_lt_of_eq t.isLt N_0
  have e0 : (grid0.coords t 0).val = t.val / 1 % 20 := Pipeline.Grid.coords_val t 0 (by decide) rfl
  unfold word0
  refine congrArg (x : IVec S20 32) ?_
  funext a
  match a with
  | ⟨0, _⟩ =>
    apply Fin.ext
    refine Eq.trans (Nat.add_zero _) ?_
    show (k0_off1 (grid0.coords t) 0 : ℕ) = t.val
    simp only [k0_off1, e0]
    show (BitVec.ofNat 32 _).toNat = _
    rw [BitVec.toNat_ofNat]; omega

/-- The word a point reads off the second table. -/
theorem word1_eq (c : Dev nD) (t : Fin grid0.N) (x : TbBuf (F := F) c tbM0_1) :
    word1 c (grid0.coords t) x = (x : IVec S20 32) (ix1 ⟨t.val, Nat.lt_of_lt_of_eq t.isLt N_0⟩) := by
  have ht : t.val < 20 := Nat.lt_of_lt_of_eq t.isLt N_0
  have e0 : (grid0.coords t 0).val = t.val / 1 % 20 := Pipeline.Grid.coords_val t 0 (by decide) rfl
  unfold word1
  refine congrArg (x : IVec S20 32) ?_
  funext a
  match a with
  | ⟨0, _⟩ =>
    apply Fin.ext
    refine Eq.trans (Nat.add_zero _) ?_
    show (k0_off2 (grid0.coords t) 0 : ℕ) = t.val
    simp only [k0_off2, e0]
    show (BitVec.ofNat 32 _).toNat = _
    rw [BitVec.toNat_ofNat]; omega

/-- The segment ids of the launch, as naturals. -/
def batN (i : Fin 100000) : ℕ := ((m ((0 : Dev nD), Proc.tc.devRef main_arg1) : IVec S100000 32) (ix1 i)).toNat
/-- The base row of point `n`. -/
def gN (n : ℕ) (h : n < 20) : ℕ := min (batN m ⟨5000 * n, by omega⟩ / 8 * 8) 216

/-- The base row of a point, for ids below 256. -/
theorem g0At_eq (hb : ∀ i, batN m i < 256) (c : Dev nD) (t : Fin (cfgM m).N) (ht : t.val < 20) : g0At m c t = BitVec.ofNat 32 (gN m t.val ht) := by
  obtain rfl : c = 0 := Subsingleton.elim _ _
  refine (word0_eq 0 t (tbl m 0)).trans ?_
  refine (V_v35 m 0 ⟨t.val, ht⟩).trans ?_
  rw [gN, ← gW_small ⟨_, hb ⟨5000 * t.val, by omega⟩⟩]
  congr 1
  exact ((BitVec.ofNat_toNat _ _).trans (BitVec.setWidth_eq _)).symm

/-- The window test of a point, for ids below 256. -/
theorem ovAt_cond (hb : ∀ i, batN m i < 256) (c : Dev nD) (t : Fin (cfgM m).N) (ht : t.val < 20) :
    k0_cond2 (ovAt m c t) = 1#1 ↔ batN m ⟨4999 + 5000 * t.val, by omega⟩ < gN m t.val ht + 40 := by
  obtain rfl : c = 0 := Subsingleton.elim _ _
  have e : gW ((m ((0 : Dev nD), Proc.tc.devRef main_arg1) : IVec S100000 32) (ix1 ⟨5000 * t.val, by omega⟩)) = BitVec.ofNat 32 (gN m t.val ht) := by
    rw [gN, ← gW_small ⟨_, hb ⟨5000 * t.val, by omega⟩⟩]
    congr 1
    exact ((BitVec.ofNat_toNat _ _).trans (BitVec.setWidth_eq _)).symm
  have e1 : ovAt m 0 t = oW (BitVec.ofNat 32 (batN m ⟨4999 + 5000 * t.val, by omega⟩)) (BitVec.ofNat 32 (gN m t.val ht)) := by
    refine (word1_eq 0 t (tbl m 1)).trans ((V_v39 m 0 ⟨t.val, ht⟩).trans ?_)
    rw [← e, batN, BitVec.ofNat_toNat, BitVec.setWidth_eq]
  rw [e1]
  exact oW_cond _ _ (hb _) (Nat.min_le_right _ _)

/-- The launch's ids keep every window inside the sums. -/
theorem Tok_of (hb : ∀ i, batN m i < 256) : Tok m := fun c t => by
  have ht : t.val < 20 := Nat.lt_of_lt_of_eq t.isLt N_0
  rw [g0At_eq m hb c t ht]
  have hd : 8 ∣ gN m t.val ht := by unfold gN; omega
  have hl : gN m t.val ht ≤ 216 := Nat.min_le_right _ _
  have hn : (BitVec.ofNat 32 (gN m t.val ht)).toNat = gN m t.val ht := by rw [BitVec.toNat_ofNat]; omega
  generalize gN m t.val ht = g at *
  constructor
  · show 8 ∣ (BitVec.ofNat 32 g).toNat
    rw [hn]; exact hd
  · have hi : ∀ x : BitVec 32, (Scalar.indexCast x : Index).toNat = x.toNat := fun x => rfl
    refine ⟨fun _ a => ?_, fun _ a => ?_, fun _ a => ?_, fun _ a => ?_, fun _ a => ?_, fun _ a => ?_, fun _ a => ?_, fun _ a => ?_⟩
    all_goals
      simp only [k0_off3, k0_off4, k0_off5, k0_off6, k0_off7, k0_off8, k0_off9, k0_off10]
      match a with
      | ⟨0, _⟩ => exact (Nat.add_le_add_right (le_of_eq ((hi _).trans hn)) 40).trans (Nat.add_le_add_right hl 40)
      | ⟨1, h1⟩ => clear * -; revert h1; simp

end Cert.KernelIdeal.Body

end
-- ==== Proof.KRun.lean ====
module

public import proofs.«01_k».proof.Proof.KRunWL
public import proofs.«01_k».proof.Proof.KRunWN
public import proofs.«01_k».proof.Proof.KRunAL
public import proofs.«01_k».proof.Proof.KRunAN
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .vmem S5000x128 .f32) (harg3 : arg3.IsWhole) (arg4 : Memref sig .tc .vmem S1x1x5000 .i32) (harg4 : arg4.IsWhole) (arg5 : Memref sig .tc .vmem S5000x40 .bf16) (harg5 : arg5.IsWhole) (arg6 : Memref sig .tc .vmem S128x128 .bf16) (harg6 : arg6.IsWhole) (arg7 : Memref sig .tc .vmem S1x128 .f32) (harg7 : arg7.IsWhole) (arg8 : Memref sig .tc .vmem S128x4 .f32) (harg8 : arg8.IsWhole) (arg9 : Memref sig .tc .vmem S1x4 .f32) (harg9 : arg9.IsWhole) (arg10 : Memref sig .tc .vmem S512x128 .f32) (harg10 : arg10.IsWhole) (arg11 : Memref sig .tc .vmem S1x128 .f32) (harg11 : arg11.IsWhole) (arg12 : Memref sig .tc .vmem S32x8 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S8x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S256x128 .f32) (harg21 : arg21.IsWhole) (arg22 : Memref sig .tc .vmem S256x512 .f32) (harg22 : arg22.IsWhole) (arg23 : Memref sig .tc .vmem S256x128 .f32) (harg23 : arg23.IsWhole) (arg24 : Memref sig .tc .vmem S256x4 .f32) (harg24 : arg24.IsWhole) (arg25 : Memref sig .tc .vmem S256x1 .f32) (harg25 : arg25.IsWhole) (arg26 : Memref sig .tc .vmem S256x32 .f32) (harg26 : arg26.IsWhole)

/-- One run of the body: the tables move by a step, and the last point writes the result. -/
theorem body_run (B : Blk F) (P : Par F) (S : Acc F) (o0 : Vec F S256x128 .f32) (T0 : TbBuf (F := F) c tbM0_0) (T1 : TbBuf (F := F) c tbM0_1)
    (hk1 : k0_chk1 (word0 c i T0)) (hk2 : k0_chk2 (word0 c i T0) (word1 c i T1))
    (o1 : Vec F S256x128 .f32) (h1 : k0_cond4 i = 1#1 → o1 = fin P (step B (word0 c i T0) (word1 c i T1) hk2 (start i S))) (h0 : ¬ k0_cond4 i = 1#1 → o1 = o0) (E : Set ℕ) (K : PUnit → sProp 𝕄) :
    iprop(owns (c : Thread nD τ) arg3 fullShare B.h ∗ owns (c : Thread nD τ) arg4 fullShare B.bat ∗ owns (c : Thread nD τ) arg5 fullShare B.aux ∗ owns (c : Thread nD τ) arg6 fullShare B.w1 ∗ owns (c : Thread nD τ) arg7 fullShare B.b1 ∗ owns (c : Thread nD τ) arg8 fullShare B.w2 ∗ owns (c : Thread nD τ) arg9 fullShare B.b2 ∗ owns (c : Thread nD τ) arg10 fullShare P.hp ∗ owns (c : Thread nD τ) arg11 fullShare P.hpb ∗ owns (c : Thread nD τ) arg12 fullShare P.dt ∗ owns (c : Thread nD τ) arg13 fullShare P.fa ∗ owns (c : Thread nD τ) arg14 fullShare P.fb ∗ owns (c : Thread nD τ) arg15 fullShare P.fc ∗ owns (c : Thread nD τ) arg16 fullShare P.fb1 ∗ owns (c : Thread nD τ) arg17 fullShare P.fw2 ∗ owns (c : Thread nD τ) arg18 fullShare P.fb2 ∗ owns (c : Thread nD τ) arg19 fullShare P.ga ∗ owns (c : Thread nD τ) arg20 fullShare P.be ∗ owns (c : Thread nD τ) arg21 fullShare o0 ∗ owns (c : Thread nD τ) arg22 fullShare S.num ∗ owns (c : Thread nD τ) arg23 fullShare S.bh ∗ owns (c : Thread nD τ) arg24 fullShare S.den ∗ owns (c : Thread nD τ) arg25 fullShare S.cnt ∗ owns (c : Thread nD τ) arg26 fullShare S.dep ∗ tbPt c tbM0_0 T0 ∗ tbPt c tbM0_1 T1
      ∗ (iprop(owns (c : Thread nD τ) arg3 fullShare B.h ∗ owns (c : Thread nD τ) arg4 fullShare B.bat ∗ owns (c : Thread nD τ) arg5 fullShare B.aux ∗ owns (c : Thread nD τ) arg6 fullShare B.w1 ∗ owns (c : Thread nD τ) arg7 fullShare B.b1 ∗ owns (c : Thread nD τ) arg8 fullShare B.w2 ∗ owns (c : Thread nD τ) arg9 fullShare B.b2 ∗ owns (c : Thread nD τ) arg10 fullShare P.hp ∗ owns (c : Thread nD τ) arg11 fullShare P.hpb ∗ owns (c : Thread nD τ) arg12 fullShare P.dt ∗ owns (c : Thread nD τ) arg13 fullShare P.fa ∗ owns (c : Thread nD τ) arg14 fullShare P.fb ∗ owns (c : Thread nD τ) arg15 fullShare P.fc ∗ owns (c : Thread nD τ) arg16 fullShare P.fb1 ∗ owns (c : Thread nD τ) arg17 fullShare P.fw2 ∗ owns (c : Thread nD τ) arg18 fullShare P.fb2 ∗ owns (c : Thread nD τ) arg19 fullShare P.ga ∗ owns (c : Thread nD τ) arg20 fullShare P.be ∗ owns (c : Thread nD τ) arg21 fullShare o1 ∗ owns (c : Thread nD τ) arg22 fullShare (step B (word0 c i T0) (word1 c i T1) hk2 (start i S)).num ∗ owns (c : Thread nD τ) arg23 fullShare (step B (word0 c i T0) (word1 c i T1) hk2 (start i S)).bh ∗ owns (c : Thread nD τ) arg24 fullShare (step B (word0 c i T0) (word1 c i T1) hk2 (start i S)).den ∗ owns (c : Thread nD τ) arg25 fullShare (step B (word0 c i T0) (word1 c i T1) hk2 (start i S)).cnt ∗ owns (c : Thread nD τ) arg26 fullShare (step B (word0 c i T0) (word1 c i T1) hk2 (start i S)).dep ∗ tbPt c tbM0_0 T0 ∗ tbPt c tbM0_1 T1) -∗ K ⟨⟩))
      ⊢ wp frame (wpE (defs₀ (F := F)) Variants.none c none) E (cc0__body i tbM0_0 htbM0_0 tbM0_1 htbM0_1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  by_cases ho : k0_cond2 (word1 c i T1) = 1#1
  · by_cases hl : k0_cond4 i = 1#1
    · rw [h1 hl]; exact body_run_WL c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B P S o0 T0 T1 hk1 hk2 ho hl E K
    · rw [h0 hl]; exact body_run_WN c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B P S o0 T0 T1 hk1 hk2 ho hl E K
  · by_cases hl : k0_cond4 i = 1#1
    · rw [h1 hl]; exact body_run_AL c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B P S o0 T0 T1 hk1 hk2 ho hl E K
    · rw [h0 hl]; exact body_run_AN c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B P S o0 T0 T1 hk1 hk2 ho hl E K

end Cert.Kernel.Body

end
-- ==== Proof.KIVal.lean ====
module

public import proofs.«01_k».proof.Proof.KIBody
public import Idealize.ShloMosaic.Lib.MatmulPlain
public import Idealize.ShloMosaic.Lib.Pipeline.Value
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! # One point's update of the tables, over extended reals -/

/-- A one-hot entry, as the kernel makes it. -/
theorem onehot_apply (a b : BitVec 32) : (FloatOps.sitofp (F := Ideal) .f32 ((IntOp.cmpi .eq a b).setWidth 32) : Ideal .f32) = if a = b then (1 : EReal) else 0 := by
  show (((((IntOp.cmpi .eq a b).setWidth 32).toInt : ℝ)) : EReal) = _
  unfold IntOp.cmpi
  by_cases h : a = b
  · subst h; simp
  · have hb : (a == b) = false := by simpa using h
    simp [h, hb]

/-- A product into zeros, read at an index. -/
theorem mm_apply {M K N : ℕ} {φ₁ φ₂ : FTy} (lhs : FVec Ideal ⟨2, ![M, K]⟩ φ₁) (rhs : FVec Ideal ⟨2, ![K, N]⟩ φ₂) (r : Fin M) (c : Fin N) :
    matmul (DotDims.plain M K N) none lhs rhs (constant ⟨2, ![M, N]⟩ .f32 0x00000000#32) (ix2 r c) = ∑ k : Fin K, lhs (ix2 r k) * rhs (ix2 k c) := by
  refine (Ideal.matmul_plain_apply none lhs rhs _ r c).trans ?_
  show Ideal.ofBits .f32 0x00000000#32 + _ = _
  rw [Ideal.ofBits_zero_f32, zero_add]

/-- The whole table's one-hot matrix. -/
theorem pay20_apply (v : IVec S1x5000 32) (s : Fin 256) (n : Fin 5000) :
    k0_pay20 (F := Ideal) v (ix2 s n) = if v (ix2 0 n) = BitVec.ofNat 32 s.val then (1 : EReal) else 0 := by
  refine Eq.trans ?_ (onehot_apply _ _)
  unfold k0_pay20
  show FloatOps.sitofp (F := Ideal) .f32 ((IntOp.cmpi .eq (broadcastTo S256x5000 v broadcasts_S1x5000_S256x5000 (ix2 s n)) (iota .tc S256x5000 32 [0] iota_S256x5000_d0_w32 (ix2 s n))).setWidth 32) = _
  rw [broadcastTo_apply v broadcasts_S1x5000_S256x5000 (ix2 s n) (ix2 0 n) (fun a => by match a with | ⟨0, _⟩ => rfl | ⟨1, _⟩ => rfl),
    iota_single_apply]

/-- The window's one-hot matrix. -/
theorem pay13_apply (v : IVec S1x5000 32) (g : BitVec 32) (s : Fin 40) (n : Fin 5000) :
    k0_pay13 (F := Ideal) v g (ix2 s n) = if v (ix2 0 n) - g = BitVec.ofNat 32 s.val then (1 : EReal) else 0 := by
  refine Eq.trans ?_ (onehot_apply _ _)
  unfold k0_pay13
  show FloatOps.sitofp (F := Ideal) .f32 ((IntOp.cmpi .eq (broadcastTo S40x5000 (subi v (broadcast S1x5000 g)) broadcasts_S1x5000_S40x5000 (ix2 s n)) (iota .tc S40x5000 32 [0] iota_S40x5000_d0_w32 (ix2 s n))).setWidth 32) = _
  rw [broadcastTo_apply _ broadcasts_S1x5000_S40x5000 (ix2 s n) (ix2 0 n) (fun a => by match a with | ⟨0, _⟩ => rfl | ⟨1, _⟩ => rfl),
    iota_single_apply]
  rfl

/-- The sum of the rows of one segment. -/
def rowsum (σ : Fin 5000 → ℕ) (v : Fin 5000 → EReal) (s : ℕ) : EReal := ∑ n, if σ n = s then v n else 0

/-- A product with the whole table's one-hot matrix sums a segment's rows. -/
theorem all_sum (v : IVec S1x5000 32) (σ : Fin 5000 → ℕ) (hv : ∀ n, v (ix2 0 n) = BitVec.ofNat 32 (σ n)) (hσ : ∀ n, σ n < 256) (w : Fin 5000 → EReal) (s : Fin 256) :
    (∑ n, k0_pay20 (F := Ideal) v (ix2 s n) * w n) = rowsum σ w s.val := by
  refine Finset.sum_congr rfl fun n _ => ?_
  rw [pay20_apply, hv]
  have e : BitVec.ofNat 32 (σ n) = BitVec.ofNat 32 s.val ↔ σ n = s.val := by
    have := hσ n; have := s.isLt
    constructor
    · intro h; have := congrArg BitVec.toNat h; rw [BitVec.toNat_ofNat, BitVec.toNat_ofNat] at this; omega
    · intro h; rw [h]
  by_cases h : σ n = s.val
  · rw [if_pos (e.mpr h), if_pos h, one_mul]
  · rw [if_neg (fun x => h (e.mp x)), if_neg h, zero_mul]

/-- A product with the window's one-hot matrix sums a segment's rows. -/
theorem win_sum (v : IVec S1x5000 32) (σ : Fin 5000 → ℕ) (hv : ∀ n, v (ix2 0 n) = BitVec.ofNat 32 (σ n)) (G : ℕ) (hG : G ≤ 216)
    (hσ : ∀ n, G ≤ σ n ∧ σ n < G + 40) (w : Fin 5000 → EReal) (r : Fin 40) (s : ℕ) (hs : s = G + r.val) :
    (∑ n, k0_pay13 (F := Ideal) v (BitVec.ofNat 32 G) (ix2 r n) * w n) = rowsum σ w s := by
  refine Finset.sum_congr rfl fun n _ => ?_
  rw [pay13_apply, hv]
  have e : BitVec.ofNat 32 (σ n) - BitVec.ofNat 32 G = BitVec.ofNat 32 r.val ↔ σ n = s := by
    have := hσ n; have := r.isLt
    constructor
    · intro h; have := congrArg BitVec.toNat h; rw [BitVec.toNat_sub, BitVec.toNat_ofNat, BitVec.toNat_ofNat, BitVec.toNat_ofNat] at this; omega
    · intro h; apply BitVec.eq_of_toNat_eq; rw [BitVec.toNat_sub, BitVec.toNat_ofNat, BitVec.toNat_ofNat, BitVec.toNat_ofNat]; omega
  by_cases h : σ n = s
  · rw [if_pos (e.mpr h), if_pos h, one_mul]
  · rw [if_neg (fun x => h (e.mp x)), if_neg h, zero_mul]

/-- A segment outside the window has no rows. -/
theorem rowsum_out (σ : Fin 5000 → ℕ) (w : Fin 5000 → EReal) (s : ℕ) (h : ∀ n, σ n ≠ s) : rowsum σ w s = 0 :=
  Finset.sum_eq_zero fun n _ => if_neg (h n)

/-- An element inside an updated window. -/
theorem updOf_in {A C a b : ℕ} (x y : FVec Ideal ⟨2, ![A, C]⟩ .f32) (off : Fin 2 → ℕ) (inb : ∀ i, off i + (![a, b] : Fin 2 → ℕ) i ≤ (![A, C] : Fin 2 → ℕ) i)
    (f : FVec Ideal ⟨2, ![a, b]⟩ .f32 → FVec Ideal ⟨2, ![a, b]⟩ .f32) (D : Fin a → Fin b → EReal) (hf : ∀ w r k, f w (ix2 r k) = w (ix2 r k) + D r k)
    (s : Fin A) (c : Fin C) (r : Fin a) (k : Fin b) (hr : s.val = off 0 + r.val) (hk : c.val = off 1 + k.val) :
    updOf (F := Ideal) (s := ⟨2, ![A, C]⟩) (e := .f32) x y off ![a, b] inb f (ix2 s c) = x (ix2 s c) + D r k := by
  have hm : ∀ i : Fin 2, off i ≤ ((ix2 s c : (⟨2, ![A, C]⟩ : Shape).Idx) i).val ∧ ((ix2 s c : (⟨2, ![A, C]⟩ : Shape).Idx) i).val < off i + (![a, b] : Fin 2 → ℕ) i := fun i => by
    match i with
    | ⟨0, _⟩ => exact ⟨by show off 0 ≤ s.val; omega, by show s.val < off 0 + a; have := r.isLt; omega⟩
    | ⟨1, _⟩ => exact ⟨by show off 1 ≤ c.val; omega, by show c.val < off 1 + b; have := k.isLt; omega⟩
  refine (dif_pos hm).trans ?_
  have e : (Rect.unitLocal (s := ⟨2, ![A, C]⟩) (off := off) (size := ![a, b]) (ix2 s c) hm : (⟨2, ![a, b]⟩ : Shape).Idx) = ix2 r k := by
    funext i; apply Fin.ext
    match i with
    | ⟨0, _⟩ => show s.val - off 0 = r.val; omega
    | ⟨1, _⟩ => show c.val - off 1 = k.val; omega
  refine (congrArg _ e).trans ((hf _ r k).trans (congrArg (· + D r k) ?_))
  refine congrArg x ?_
  funext i; apply Fin.ext
  match i with
  | ⟨0, _⟩ => show off 0 + 1 * r.val = s.val; omega
  | ⟨1, _⟩ => show off 1 + 1 * k.val = c.val; omega

/-- An element outside an updated window. -/
theorem updOf_out {A C a b : ℕ} (x y : FVec Ideal ⟨2, ![A, C]⟩ .f32) (off : Fin 2 → ℕ) (inb : ∀ i, off i + (![a, b] : Fin 2 → ℕ) i ≤ (![A, C] : Fin 2 → ℕ) i)
    (f : FVec Ideal ⟨2, ![a, b]⟩ .f32 → FVec Ideal ⟨2, ![a, b]⟩ .f32)
    (s : Fin A) (c : Fin C) (h : ¬ (off 0 ≤ s.val ∧ s.val < off 0 + a) ∨ ¬ (off 1 ≤ c.val ∧ c.val < off 1 + b)) :
    updOf (F := Ideal) (s := ⟨2, ![A, C]⟩) (e := .f32) x y off ![a, b] inb f (ix2 s c) = y (ix2 s c) := by
  refine dif_neg fun hm => ?_
  rcases h with h | h
  · exact h (hm 0)
  · exact h (hm 1)

/-- A table updated in a window of whole rows, at any element: the windowed rows add a segment's sum, the others have no rows. -/
theorem upd_rows {C : ℕ} (x : FVec Ideal ⟨2, ![256, C]⟩ .f32) (off : Fin 2 → ℕ) (inb : ∀ i, off i + (![40, C] : Fin 2 → ℕ) i ≤ (![256, C] : Fin 2 → ℕ) i)
    (f : FVec Ideal ⟨2, ![40, C]⟩ .f32 → FVec Ideal ⟨2, ![40, C]⟩ .f32) (σ : Fin 5000 → ℕ) (w : Fin 5000 → Fin C → EReal) (G : ℕ)
    (h0 : off 0 = G) (h1 : off 1 = 0) (hσ : ∀ n, G ≤ σ n ∧ σ n < G + 40)
    (hf : ∀ u r k, f u (ix2 r k) = u (ix2 r k) + rowsum σ (fun n => w n k) (G + r.val)) (s : Fin 256) (c : Fin C) :
    upd (F := Ideal) (s := ⟨2, ![256, C]⟩) (e := .f32) x off ![40, C] inb f (ix2 s c) = x (ix2 s c) + rowsum σ (fun n => w n c) s.val := by
  by_cases h : G ≤ s.val ∧ s.val < G + 40
  · refine (updOf_in x x off inb f (fun r k => rowsum σ (fun n => w n k) (G + r.val)) hf s c ⟨s.val - G, by omega⟩ c (by show s.val = off 0 + (s.val - G); omega) (by omega)).trans ?_
    rw [show G + (s.val - G) = s.val by omega]
  · refine (updOf_out x x off inb f s c (.inl (by rw [h0]; exact h))).trans ?_
    rw [rowsum_out σ _ s.val (fun n e => h (e ▸ hσ n)), add_zero]

/-- The product `pay14` at an element. -/
theorem pay14_apply (v : IVec S1x5000 32) (R : FVec Ideal S5000x640 .bf16) (g : BitVec 32) (r : Fin 40) (c : Fin 640) :
    k0_pay14 v R g (ix2 r c) = ∑ n : Fin 5000, k0_pay13 (F := Ideal) v g (ix2 r n) * R (ix2 n c) := mm_apply _ _ r c
/-- The product `pay21` at an element. -/
theorem pay21_apply (v : IVec S1x5000 32) (R : FVec Ideal S5000x640 .bf16) (r : Fin 256) (c : Fin 640) :
    k0_pay21 v R (ix2 r c) = ∑ n : Fin 5000, k0_pay20 (F := Ideal) v (ix2 r n) * R (ix2 n c) := mm_apply _ _ r c
/-- The product `pay4` at an element. -/
theorem pay4_apply (R : FVec Ideal S5000x40 .bf16) (H : FVec Ideal S40x5000 .bf16) (r : Fin 40) (c : Fin 40) :
    k0_pay4 R H (ix2 r c) = ∑ n : Fin 5000, H (ix2 r n) * R (ix2 n c) := mm_apply _ _ r c
/-- The product `pay9` at an element. -/
theorem pay9_apply (R : FVec Ideal S5000x40 .bf16) (H : FVec Ideal S256x5000 .bf16) (r : Fin 256) (c : Fin 40) :
    k0_pay9 R H (ix2 r c) = ∑ n : Fin 5000, H (ix2 r n) * R (ix2 n c) := mm_apply _ _ r c
/-- The update `k0_pay15` at an element. -/
theorem k0_pay15_apply (v : IVec S1x5000 32) (R : FVec Ideal S5000x640 .bf16) (g : BitVec 32) (w : FVec Ideal S40x128 .f32) (r : Fin 40) (k : Fin 128) :
    k0_pay15 v R g w (ix2 r k) = w (ix2 r k) + k0_pay14 v R g (ix2 r ⟨0 + k.val, by omega⟩) := by
  unfold k0_pay15
  refine (congrFun (shapeCast_self _ shapeCasts_S40x128_S40x128) _).trans ?_
  show w (ix2 r k) + extractStridedSlice S40x128 ![0, 0] (k0_pay14 v R g) slices_S40x640_o0_0_S40x128 (ix2 r k) = _
  rw [extractStridedSlice_apply ![0, 0] _ slices_S40x640_o0_0_S40x128 (ix2 r k) (ix2 r ⟨0 + k.val, by omega⟩) (fun a => by match a with | ⟨0, _⟩ => exact (Nat.zero_add _).symm | ⟨1, _⟩ => rfl)]
/-- The update `k0_pay22` at an element. -/
theorem k0_pay22_apply (v : IVec S1x5000 32) (R : FVec Ideal S5000x640 .bf16) (w : FVec Ideal S256x128 .f32) (r : Fin 256) (k : Fin 128) :
    k0_pay22 v R w (ix2 r k) = w (ix2 r k) + k0_pay21 v R (ix2 r ⟨0 + k.val, by omega⟩) := by
  unfold k0_pay22
  refine (congrFun (shapeCast_self _ shapeCasts_S256x128_S256x128) _).trans ?_
  show w (ix2 r k) + extractStridedSlice S256x128 ![0, 0] (k0_pay21 v R) slices_S256x640_o0_0_S256x128 (ix2 r k) = _
  rw [extractStridedSlice_apply ![0, 0] _ slices_S256x640_o0_0_S256x128 (ix2 r k) (ix2 r ⟨0 + k.val, by omega⟩) (fun a => by match a with | ⟨0, _⟩ => exact (Nat.zero_add _).symm | ⟨1, _⟩ => rfl)]
/-- The update `k0_pay16` at an element. -/
theorem k0_pay16_apply (v : IVec S1x5000 32) (R : FVec Ideal S5000x640 .bf16) (g : BitVec 32) (w : FVec Ideal S40x128 .f32) (r : Fin 40) (k : Fin 128) :
    k0_pay16 v R g w (ix2 r k) = w (ix2 r k) + k0_pay14 v R g (ix2 r ⟨128 + k.val, by omega⟩) := by
  unfold k0_pay16
  refine (congrFun (shapeCast_self _ shapeCasts_S40x128_S40x128) _).trans ?_
  show w (ix2 r k) + extractStridedSlice S40x128 ![0, 128] (k0_pay14 v R g) slices_S40x640_o0_128_S40x128 (ix2 r k) = _
  rw [extractStridedSlice_apply ![0, 128] _ slices_S40x640_o0_128_S40x128 (ix2 r k) (ix2 r ⟨128 + k.val, by omega⟩) (fun a => by match a with | ⟨0, _⟩ => exact (Nat.zero_add _).symm | ⟨1, _⟩ => rfl)]
/-- The update `k0_pay23` at an element. -/
theorem k0_pay23_apply (v : IVec S1x5000 32) (R : FVec Ideal S5000x640 .bf16) (w : FVec Ideal S256x128 .f32) (r : Fin 256) (k : Fin 128) :
    k0_pay23 v R w (ix2 r k) = w (ix2 r k) + k0_pay21 v R (ix2 r ⟨128 + k.val, by omega⟩) := by
  unfold k0_pay23
  refine (congrFun (shapeCast_self _ shapeCasts_S256x128_S256x128) _).trans ?_
  show w (ix2 r k) + extractStridedSlice S256x128 ![0, 128] (k0_pay21 v R) slices_S256x640_o0_128_S256x128 (ix2 r k) = _
  rw [extractStridedSlice_apply ![0, 128] _ slices_S256x640_o0_128_S256x128 (ix2 r k) (ix2 r ⟨128 + k.val, by omega⟩) (fun a => by match a with | ⟨0, _⟩ => exact (Nat.zero_add _).symm | ⟨1, _⟩ => rfl)]
/-- The update `k0_pay17` at an element. -/
theorem k0_pay17_apply (v : IVec S1x5000 32) (R : FVec Ideal S5000x640 .bf16) (g : BitVec 32) (w : FVec Ideal S40x128 .f32) (r : Fin 40) (k : Fin 128) :
    k0_pay17 v R g w (ix2 r k) = w (ix2 r k) + k0_pay14 v R g (ix2 r ⟨256 + k.val, by omega⟩) := by
  unfold k0_pay17
  refine (congrFun (shapeCast_self _ shapeCasts_S40x128_S40x128) _).trans ?_
  show w (ix2 r k) + extractStridedSlice S40x128 ![0, 256] (k0_pay14 v R g) slices_S40x640_o0_256_S40x128 (ix2 r k) = _
  rw [extractStridedSlice_apply ![0, 256] _ slices_S40x640_o0_256_S40x128 (ix2 r k) (ix2 r ⟨256 + k.val, by omega⟩) (fun a => by match a with | ⟨0, _⟩ => exact (Nat.zero_add _).symm | ⟨1, _⟩ => rfl)]
/-- The update `k0_pay24` at an element. -/
theorem k0_pay24_apply (v : IVec S1x5000 32) (R : FVec Ideal S5000x640 .bf16) (w : FVec Ideal S256x128 .f32) (r : Fin 256) (k : Fin 128) :
    k0_pay24 v R w (ix2 r k) = w (ix2 r k) + k0_pay21 v R (ix2 r ⟨256 + k.val, by omega⟩) := by
  unfold k0_pay24
  refine (congrFun (shapeCast_self _ shapeCasts_S256x128_S256x128) _).trans ?_
  show w (ix2 r k) + extractStridedSlice S256x128 ![0, 256] (k0_pay21 v R) slices_S256x640_o0_256_S256x128 (ix2 r k) = _
  rw [extractStridedSlice_apply ![0, 256] _ slices_S256x640_o0_256_S256x128 (ix2 r k) (ix2 r ⟨256 + k.val, by omega⟩) (fun a => by match a with | ⟨0, _⟩ => exact (Nat.zero_add _).symm | ⟨1, _⟩ => rfl)]
/-- The update `k0_pay18` at an element. -/
theorem k0_pay18_apply (v : IVec S1x5000 32) (R : FVec Ideal S5000x640 .bf16) (g : BitVec 32) (w : FVec Ideal S40x128 .f32) (r : Fin 40) (k : Fin 128) :
    k0_pay18 v R g w (ix2 r k) = w (ix2 r k) + k0_pay14 v R g (ix2 r ⟨384 + k.val, by omega⟩) := by
  unfold k0_pay18
  refine (congrFun (shapeCast_self _ shapeCasts_S40x128_S40x128) _).trans ?_
  show w (ix2 r k) + extractStridedSlice S40x128 ![0, 384] (k0_pay14 v R g) slices_S40x640_o0_384_S40x128 (ix2 r k) = _
  rw [extractStridedSlice_apply ![0, 384] _ slices_S40x640_o0_384_S40x128 (ix2 r k) (ix2 r ⟨384 + k.val, by omega⟩) (fun a => by match a with | ⟨0, _⟩ => exact (Nat.zero_add _).symm | ⟨1, _⟩ => rfl)]
/-- The update `k0_pay25` at an element. -/
theorem k0_pay25_apply (v : IVec S1x5000 32) (R : FVec Ideal S5000x640 .bf16) (w : FVec Ideal S256x128 .f32) (r : Fin 256) (k : Fin 128) :
    k0_pay25 v R w (ix2 r k) = w (ix2 r k) + k0_pay21 v R (ix2 r ⟨384 + k.val, by omega⟩) := by
  unfold k0_pay25
  refine (congrFun (shapeCast_self _ shapeCasts_S256x128_S256x128) _).trans ?_
  show w (ix2 r k) + extractStridedSlice S256x128 ![0, 384] (k0_pay21 v R) slices_S256x640_o0_384_S256x128 (ix2 r k) = _
  rw [extractStridedSlice_apply ![0, 384] _ slices_S256x640_o0_384_S256x128 (ix2 r k) (ix2 r ⟨384 + k.val, by omega⟩) (fun a => by match a with | ⟨0, _⟩ => exact (Nat.zero_add _).symm | ⟨1, _⟩ => rfl)]
/-- The update `k0_pay19` at an element. -/
theorem k0_pay19_apply (v : IVec S1x5000 32) (R : FVec Ideal S5000x640 .bf16) (g : BitVec 32) (w : FVec Ideal S40x128 .f32) (r : Fin 40) (k : Fin 128) :
    k0_pay19 v R g w (ix2 r k) = w (ix2 r k) + k0_pay14 v R g (ix2 r ⟨512 + k.val, by omega⟩) := by
  unfold k0_pay19
  show w (ix2 r k) + extractStridedSlice S40x128 ![0, 512] (k0_pay14 v R g) slices_S40x640_o0_512_S40x128 (ix2 r k) = _
  rw [extractStridedSlice_apply ![0, 512] _ slices_S40x640_o0_512_S40x128 (ix2 r k) (ix2 r ⟨512 + k.val, by omega⟩) (fun a => by match a with | ⟨0, _⟩ => exact (Nat.zero_add _).symm | ⟨1, _⟩ => rfl)]
/-- The update `k0_pay26` at an element. -/
theorem k0_pay26_apply (v : IVec S1x5000 32) (R : FVec Ideal S5000x640 .bf16) (w : FVec Ideal S256x128 .f32) (r : Fin 256) (k : Fin 128) :
    k0_pay26 v R w (ix2 r k) = w (ix2 r k) + k0_pay21 v R (ix2 r ⟨512 + k.val, by omega⟩) := by
  unfold k0_pay26
  show w (ix2 r k) + extractStridedSlice S256x128 ![0, 512] (k0_pay21 v R) slices_S256x640_o0_512_S256x128 (ix2 r k) = _
  rw [extractStridedSlice_apply ![0, 512] _ slices_S256x640_o0_512_S256x128 (ix2 r k) (ix2 r ⟨512 + k.val, by omega⟩) (fun a => by match a with | ⟨0, _⟩ => exact (Nat.zero_add _).symm | ⟨1, _⟩ => rfl)]
/-- The update `k0_pay5` at an element. -/
theorem k0_pay5_apply (R : FVec Ideal S5000x40 .bf16) (H : FVec Ideal S40x5000 .bf16) (w : FVec Ideal S40x32 .f32) (r : Fin 40) (k : Fin 32) :
    k0_pay5 R H w (ix2 r k) = w (ix2 r k) + k0_pay4 R H (ix2 r ⟨0 + k.val, by omega⟩) := by
  unfold k0_pay5
  refine (congrFun (shapeCast_self _ shapeCasts_S40x32_S40x32) _).trans ?_
  show w (ix2 r k) + extractStridedSlice S40x32 ![0, 0] (k0_pay4 R H) slices_S40x40_o0_0_S40x32 (ix2 r k) = _
  rw [extractStridedSlice_apply ![0, 0] _ slices_S40x40_o0_0_S40x32 (ix2 r k) (ix2 r ⟨0 + k.val, by omega⟩) (fun a => by match a with | ⟨0, _⟩ => exact (Nat.zero_add _).symm | ⟨1, _⟩ => rfl)]
/-- The update `k0_pay6` at an element. -/
theorem k0_pay6_apply (R : FVec Ideal S5000x40 .bf16) (H : FVec Ideal S40x5000 .bf16) (w : FVec Ideal S40x1 .f32) (r : Fin 40) (k : Fin 1) :
    k0_pay6 R H w (ix2 r k) = w (ix2 r k) + k0_pay4 R H (ix2 r ⟨32 + k.val, by omega⟩) := by
  unfold k0_pay6
  refine (congrFun (shapeCast_self _ shapeCasts_S40x1_S40x1) _).trans ?_
  show w (ix2 r k) + extractStridedSlice S40x1 ![0, 32] (k0_pay4 R H) slices_S40x40_o0_32_S40x1 (ix2 r k) = _
  rw [extractStridedSlice_apply ![0, 32] _ slices_S40x40_o0_32_S40x1 (ix2 r k) (ix2 r ⟨32 + k.val, by omega⟩) (fun a => by match a with | ⟨0, _⟩ => exact (Nat.zero_add _).symm | ⟨1, _⟩ => rfl)]
/-- The update `k0_pay10` at an element. -/
theorem k0_pay10_apply (R : FVec Ideal S5000x40 .bf16) (H : FVec Ideal S256x5000 .bf16) (w : FVec Ideal S256x32 .f32) (r : Fin 256) (k : Fin 32) :
    k0_pay10 R H w (ix2 r k) = w (ix2 r k) + k0_pay9 R H (ix2 r ⟨0 + k.val, by omega⟩) := by
  unfold k0_pay10
  refine (congrFun (shapeCast_self _ shapeCasts_S256x32_S256x32) _).trans ?_
  show w (ix2 r k) + extractStridedSlice S256x32 ![0, 0] (k0_pay9 R H) slices_S256x40_o0_0_S256x32 (ix2 r k) = _
  rw [extractStridedSlice_apply ![0, 0] _ slices_S256x40_o0_0_S256x32 (ix2 r k) (ix2 r ⟨0 + k.val, by omega⟩) (fun a => by match a with | ⟨0, _⟩ => exact (Nat.zero_add _).symm | ⟨1, _⟩ => rfl)]
/-- The update `k0_pay11` at an element. -/
theorem k0_pay11_apply (R : FVec Ideal S5000x40 .bf16) (H : FVec Ideal S256x5000 .bf16) (w : FVec Ideal S256x1 .f32) (r : Fin 256) (k : Fin 1) :
    k0_pay11 R H w (ix2 r k) = w (ix2 r k) + k0_pay9 R H (ix2 r ⟨32 + k.val, by omega⟩) := by
  unfold k0_pay11
  refine (congrFun (shapeCast_self _ shapeCasts_S256x1_S256x1) _).trans ?_
  show w (ix2 r k) + extractStridedSlice S256x1 ![0, 32] (k0_pay9 R H) slices_S256x40_o0_32_S256x1 (ix2 r k) = _
  rw [extractStridedSlice_apply ![0, 32] _ slices_S256x40_o0_32_S256x1 (ix2 r k) (ix2 r ⟨32 + k.val, by omega⟩) (fun a => by match a with | ⟨0, _⟩ => exact (Nat.zero_add _).symm | ⟨1, _⟩ => rfl)]
/-- The update `k0_pay3` at an element. -/
theorem k0_pay3_apply (X : FVec Ideal S5000x4 .bf16) (H : FVec Ideal S40x5000 .bf16) (w : FVec Ideal S40x4 .f32) (r : Fin 40) (k : Fin 4) :
    k0_pay3 X H w (ix2 r k) = w (ix2 r k) + ∑ n : Fin 5000, H (ix2 r n) * X (ix2 n k) := by
  unfold k0_pay3
  refine (congrFun (shapeCast_self _ shapeCasts_S40x4_S40x4) _).trans ?_
  exact congrArg (w (ix2 r k) + ·) (mm_apply _ _ r k)
/-- The update `k0_pay8` at an element. -/
theorem k0_pay8_apply (X : FVec Ideal S5000x4 .bf16) (H : FVec Ideal S256x5000 .bf16) (w : FVec Ideal S256x4 .f32) (r : Fin 256) (k : Fin 4) :
    k0_pay8 X H w (ix2 r k) = w (ix2 r k) + ∑ n : Fin 5000, H (ix2 r n) * X (ix2 n k) := by
  unfold k0_pay8
  refine (congrFun (shapeCast_self _ shapeCasts_S256x4_S256x4) _).trans ?_
  exact congrArg (w (ix2 r k) + ·) (mm_apply _ _ r k)

end Cert.KernelIdeal.Body

end
-- ==== Proof.Alg.lean ====
module

public import Idealize.ShloMosaic.PureOps.Ideal.Laws

@[expose] public section

set_option maxRecDepth 16384

noncomputable section

namespace Cert.Proof.Attn

open Idealize.ShloMosaic
open scoped BigOperators

/-! # The mathematics of the readout, over extended reals

Rows carry a segment, a mask and a depth; four attention heads weigh the rows of a segment by a softmax; a masked mean and a
table row picked by the segment's greatest depth join the projected heads, and two layers with a normalisation follow. -/

/-- The arguments, as functions of their coordinates. -/
structure In where
  /-- The rows. -/
  h : Fin 100000 → Fin 128 → EReal
  /-- The segment of a row. -/
  seg : Fin 100000 → ℕ
  /-- The mask of a row, zero or one. -/
  ind : Fin 100000 → EReal
  /-- The depth of a row. -/
  dep : Fin 100000 → ℕ
  /-- The heads' first layers. -/
  w1 : Fin 4 → Fin 128 → Fin 32 → EReal
  /-- Their biases. -/
  b1 : Fin 4 → Fin 32 → EReal
  /-- The heads' second layers. -/
  w2 : Fin 4 → Fin 32 → EReal
  /-- Their biases. -/
  b2 : Fin 4 → EReal
  /-- The projection of the heads. -/
  hp : Fin 512 → Fin 128 → EReal
  /-- Its bias. -/
  hpb : Fin 128 → EReal
  /-- The depth table. -/
  dt : Fin 32 → Fin 8 → EReal
  /-- The first fusing layer. -/
  f1 : Fin 264 → Fin 128 → EReal
  /-- Its bias. -/
  f1b : Fin 128 → EReal
  /-- The second fusing layer. -/
  f2 : Fin 128 → Fin 128 → EReal
  /-- Its bias. -/
  f2b : Fin 128 → EReal
  /-- The normalisation's scale. -/
  ga : Fin 128 → EReal
  /-- The normalisation's shift. -/
  be : Fin 128 → EReal

variable (I : In)

/-- A head's hidden layer. -/
def hid (k : Fin 4) (n : Fin 100000) (q : Fin 32) : EReal := Ideal.tanh ((∑ i, I.h n i * I.w1 k i q) + I.b1 k q)
/-- A head's score of a row. -/
def sc (k : Fin 4) (n : Fin 100000) : EReal := (∑ q, hid I k n q * I.w2 k q) + I.b2 k
/-- A head's weight of a row, before the softmax divides. -/
def wt (k : Fin 4) (n : Fin 100000) : EReal := Ideal.exp (sc I k n)
/-- The weighted sum of a segment's rows. -/
def num (k : Fin 4) (s : ℕ) (j : Fin 128) : EReal := ∑ n, if I.seg n = s then wt I k n * I.h n j else 0
/-- The sum of a segment's weights. -/
def den (k : Fin 4) (s : ℕ) : EReal := ∑ n, if I.seg n = s then wt I k n else 0
/-- The sum of a segment's masked rows. -/
def mrow (s : ℕ) (j : Fin 128) : EReal := ∑ n, if I.seg n = s then I.h n j * I.ind n else 0
/-- The number of a segment's masked rows. -/
def cnt (s : ℕ) : EReal := ∑ n, if I.seg n = s then I.ind n else 0
/-- The number of a segment's rows at a depth. -/
def dct (s d : ℕ) : EReal := ∑ n, if I.seg n = s then (if I.dep n = d then (1 : EReal) else 0) else 0
/-- The greatest depth of a segment, zero for an empty one. -/
def dmax (s : ℕ) : ℕ := (Finset.univ.filter fun n => I.seg n = s).sup I.dep
/-- The reciprocal of a segment's weight, zero where there is none. -/
def rden (k : Fin 4) (s : ℕ) : EReal := if 0 < den I k s then Ideal.div 1 (den I k s) else 0
/-- The attention's mean of a segment's rows, the heads side by side. -/
def att (s : ℕ) (c : Fin 512) : EReal :=
  num I ⟨c.val / 128, by omega⟩ s ⟨c.val % 128, by omega⟩ * rden I ⟨c.val / 128, by omega⟩ s
/-- The projected heads. -/
def pa (s : ℕ) (j : Fin 128) : EReal := (∑ c, att I s c * I.hp c j) + I.hpb j
/-- The masked mean. -/
def pb (s : ℕ) (j : Fin 128) : EReal := Ideal.div (mrow I s j) (cnt I s + Ideal.ofBits .f32 0x322BCC77#32)
/-- The depth table's row. -/
def pc (s : ℕ) (e : Fin 8) : EReal := I.dt ⟨min (dmax I s) 31, by omega⟩ e
/-- The first fusing layer. -/
def pre (s : ℕ) (j : Fin 128) : EReal :=
  (((∑ i : Fin 128, pa I s i * I.f1 ⟨i.val, by omega⟩ j) + ∑ i : Fin 128, pb I s i * I.f1 ⟨128 + i.val, by omega⟩ j)
    + ∑ e : Fin 8, pc I s e * I.f1 ⟨256 + e.val, by omega⟩ j) + I.f1b j
/-- The activation. -/
def gel (y : EReal) : EReal :=
  Ideal.ofBits .f32 0x3F000000#32 * y * (Ideal.ofBits .f32 0x3F800000#32 + Ideal.erf (y * Ideal.ofBits .f32 0x3F3504F3#32))
/-- The second fusing layer over first-layer values `x`. -/
def out (x : Fin 128 → EReal) (j : Fin 128) : EReal := (∑ k, gel (x k) * I.f2 k j) + I.f2b j
/-- A row's mean. -/
def mean (y : Fin 128 → EReal) : EReal := Ideal.div (∑ j, y j) (Ideal.ofBits .f32 0x43000000#32)
/-- A row's variance. -/
def vari (y : Fin 128 → EReal) : EReal := Ideal.div (∑ j, (y j - mean y) * (y j - mean y)) (Ideal.ofBits .f32 0x43000000#32)
/-- The normalised row. -/
def norm (y : Fin 128 → EReal) (j : Fin 128) : EReal :=
  ((y j - mean y) * Ideal.rsqrt (vari y + Ideal.ofBits .f32 0x3727C5AC#32)) * I.ga j + I.be j
/-- The result. -/
def res (s : ℕ) (j : Fin 128) : EReal := norm I (out I (pre I s)) j

/-! ## Constants -/

/-- One. -/
theorem one_bits : Ideal.ofBits .f32 0x3F800000#32 = 1 := by
  simp [Ideal.ofBits, Ideal.ieee]; rw [← EReal.coe_mul]; norm_num
/-- One, in the half format. -/
theorem one_bf : Ideal.ofBits .bf16 0x3F80#16 = 1 := by
  simp [Ideal.ofBits, Ideal.ieee]; rw [← EReal.coe_mul]; norm_num
/-- The row length. -/
theorem n128_bits : Ideal.ofBits .f32 0x43000000#32 = ((128 : ℝ) : EReal) := by
  simp [Ideal.ofBits, Ideal.ieee]; rw [← EReal.coe_mul]; norm_num
/-- The normalisation's guard is positive and finite. -/
theorem eps_bits : ∃ r : ℝ, 0 < r ∧ Ideal.ofBits .f32 0x3727C5AC#32 = (r : EReal) := by
  refine ⟨_, ?_, by simp [Ideal.ofBits, Ideal.ieee]; rfl⟩
  norm_num
/-- Minus infinity. -/
theorem ninf_bits : Ideal.ofBits .f32 0xFF800000#32 = ⊥ := by
  simp [Ideal.ofBits, Ideal.ieee]

/-! ## Sums -/

/-- A finite sum of reals, coerced. -/
theorem coe_sum {ι : Type*} (S : Finset ι) (f : ι → ℝ) : ((∑ n ∈ S, f n : ℝ) : EReal) = ∑ n ∈ S, ((f n : ℝ) : EReal) := by
  classical
  induction S using Finset.induction_on with
  | empty => simp
  | insert a S ha ih => rw [Finset.sum_insert ha, Finset.sum_insert ha, EReal.coe_add, ih]

/-- A nonnegative real distributes over a finite sum, whatever the summands. -/
theorem sum_mul_coe {ι : Type*} (S : Finset ι) (f : ι → EReal) (r : ℝ) (hr : 0 ≤ r) : (∑ n ∈ S, f n) * (r : EReal) = ∑ n ∈ S, f n * (r : EReal) := by
  classical
  induction S using Finset.induction_on with
  | empty => simp
  | insert a S ha ih =>
    rw [Finset.sum_insert ha, Finset.sum_insert ha,
      EReal.right_distrib_of_nonneg_of_ne_top (by exact_mod_cast hr) (EReal.coe_ne_top r), ih]

/-- A quotient of reals. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The softmax's weights, taken relative to any real, sum the rows to the plain weights' sum over the weights' total. -/
theorem softmax_sum {ι : Type*} (S : Finset ι) (hS : S.Nonempty) (s : ι → ℝ) (M : ℝ) (x : ι → EReal) :
    ∑ n ∈ S, Ideal.div (Ideal.exp ((s n : EReal) - (M : EReal))) (∑ n ∈ S, Ideal.exp ((s n : EReal) - (M : EReal))) * x n
      = (∑ n ∈ S, Ideal.exp (s n : EReal) * x n) * Ideal.div 1 (∑ n ∈ S, Ideal.exp (s n : EReal)) := by
  have e1 : ∀ n, Ideal.exp ((s n : EReal) - (M : EReal)) = ((Real.exp (s n - M) : ℝ) : EReal) := fun n => by
    rw [← EReal.coe_sub]; rfl
  have e2 : ∀ n, Ideal.exp (s n : EReal) = ((Real.exp (s n) : ℝ) : EReal) := fun n => rfl
  simp only [e1, e2]
  have hD : 0 < ∑ n ∈ S, Real.exp (s n) := Finset.sum_pos (fun n _ => Real.exp_pos _) hS
  have hD' : ∑ n ∈ S, Real.exp (s n - M) = (∑ n ∈ S, Real.exp (s n)) * Real.exp (-M) := by
    rw [Finset.sum_mul]; exact Finset.sum_congr rfl fun n _ => by rw [← Real.exp_add, sub_eq_add_neg]
  rw [← coe_sum, ← coe_sum, hD', show (1 : EReal) = ((1 : ℝ) : EReal) from rfl, div_coe _ _ hD.ne', sum_mul_coe _ _ _ (by positivity)]
  refine Finset.sum_congr rfl fun n _ => ?_
  rw [div_coe _ _ (mul_pos hD (Real.exp_pos _)).ne', mul_right_comm, ← EReal.coe_mul]
  congr 3
  rw [sub_eq_add_neg, Real.exp_add]
  have := (Real.exp_pos (-M)).ne'
  field_simp

/-- The weights' total over a nonempty set is positive. -/
theorem den_pos {ι : Type*} (S : Finset ι) (hS : S.Nonempty) (s : ι → ℝ) : 0 < ∑ n ∈ S, Ideal.exp (s n : EReal) := by
  have e2 : ∀ n, Ideal.exp (s n : EReal) = ((Real.exp (s n) : ℝ) : EReal) := fun n => rfl
  simp only [e2]
  rw [← coe_sum]
  exact_mod_cast Finset.sum_pos (fun n _ => Real.exp_pos _) hS

/-- A hyperbolic tangent is a real number. -/
theorem tanh_real (x : EReal) : ∃ r : ℝ, Ideal.tanh x = (r : EReal) := by
  induction x with
  | bot => exact ⟨-1, rfl⟩
  | top => exact ⟨1, rfl⟩
  | coe r => exact ⟨Real.tanh r, rfl⟩

/-- With finite second layers the scores are real. -/
theorem sc_real (h2 : ∀ k q, I.w2 k q ≠ ⊤ ∧ I.w2 k q ≠ ⊥) (hb : ∀ k, I.b2 k ≠ ⊤ ∧ I.b2 k ≠ ⊥) (k : Fin 4) :
    ∃ s : Fin 100000 → ℝ, ∀ n, sc I k n = (s n : EReal) := by
  choose t ht using fun n q => tanh_real ((∑ i, I.h n i * I.w1 k i q) + I.b1 k q)
  refine ⟨fun n => (∑ q, t n q * (I.w2 k q).toReal) + (I.b2 k).toReal, fun n => ?_⟩
  rw [EReal.coe_add, coe_sum, EReal.coe_toReal (hb k).1 (hb k).2]
  unfold sc hid
  congr 1
  refine Finset.sum_congr rfl fun q _ => ?_
  rw [ht, EReal.coe_mul, EReal.coe_toReal (h2 k q).1 (h2 k q).2]

/-! ## The greatest depth -/

/-- A segment has rows at a depth exactly when the count there is positive. -/
theorem dct_pos (s d : ℕ) : 0 < dct I s d ↔ ∃ n, I.seg n = s ∧ I.dep n = d := by
  have e : dct I s d = (((Finset.univ.filter fun n => I.seg n = s ∧ I.dep n = d).card : ℝ) : EReal) := by
    rw [Finset.card_eq_sum_ones, Nat.cast_sum, coe_sum, Finset.sum_filter]
    refine Finset.sum_congr rfl fun n _ => ?_
    by_cases h1 : I.seg n = s <;> by_cases h2 : I.dep n = d <;> simp [h1, h2]
  rw [e]
  rw [show (0 : EReal) = ((0 : ℝ) : EReal) from rfl, EReal.coe_lt_coe_iff, Nat.cast_pos, Finset.card_pos]
  constructor
  · rintro ⟨n, hn⟩; exact ⟨n, by simpa using hn⟩
  · rintro ⟨n, hn⟩; exact ⟨n, by simpa using hn⟩

/-- The greatest depth with a positive count is the greatest depth. -/
theorem dmax_fold (hd : ∀ n, I.dep n < 32) (s : ℕ) :
    (Finset.univ : Finset (Fin 32)).fold max (⊥ : EReal) (fun d => if 0 < dct I s d.val then ((d.val : ℝ) : EReal) else 0) = ((dmax I s : ℝ) : EReal) := by
  refine le_antisymm (Finset.fold_max_le _ |>.mpr ⟨bot_le, fun d _ => ?_⟩) ?_
  · by_cases h : 0 < dct I s d.val
    · rw [if_pos h]
      obtain ⟨n, hn, hd'⟩ := (dct_pos I s d.val).mp h
      have : d.val ≤ dmax I s := hd' ▸ Finset.le_sup (f := I.dep) (by simpa using hn)
      exact_mod_cast this
    · rw [if_neg h]; exact_mod_cast Nat.zero_le (dmax I s)
  · rw [Finset.le_fold_max]
    right
    by_cases hs : (Finset.univ.filter fun n => I.seg n = s).Nonempty
    · obtain ⟨n, hn, e⟩ := Finset.exists_mem_eq_sup _ hs I.dep
      refine ⟨⟨I.dep n, hd n⟩, Finset.mem_univ _, ?_⟩
      rw [if_pos ((dct_pos I s _).mpr ⟨n, by simpa using hn, rfl⟩)]
      exact le_of_eq (by unfold dmax; rw [e])
    · refine ⟨⟨0, by omega⟩, Finset.mem_univ _, ?_⟩
      rw [show dmax I s = 0 by unfold dmax; rw [Finset.not_nonempty_iff_eq_empty.mp hs]; rfl]
      split <;> simp

/-- A normalisation by the reciprocal root is the quotient by the root. -/
theorem div_sqrt (x v : EReal) (hv : 0 < v) : Ideal.div x (Ideal.sqrt v) = x * Ideal.rsqrt v := by
  induction v with
  | bot => simp at hv
  | top =>
    rw [show Ideal.sqrt ⊤ = ⊤ from rfl, show Ideal.rsqrt ⊤ = 0 from rfl, Ideal.div, if_neg (by simp)]; simp
  | coe r =>
    have hr : 0 < r := by exact_mod_cast hv
    have hs : Real.sqrt r ≠ 0 := (Real.sqrt_pos.mpr hr).ne'
    have e1 : Ideal.sqrt (r : EReal) = ((Real.sqrt r : ℝ) : EReal) := if_neg (not_lt.mpr hr.le)
    have e2 : Ideal.rsqrt (r : EReal) = (((Real.sqrt r)⁻¹ : ℝ) : EReal) := (if_neg (not_lt.mpr hr.le)).trans (if_neg hr.ne')
    rw [e1, e2, Ideal.div, if_neg (by exact_mod_cast hs), ← EReal.coe_inv]

/-- A square is nonnegative. -/
theorem sq_nonneg' (x : EReal) : 0 ≤ x * x := by
  induction x with
  | bot => simp
  | top => simp
  | coe r => exact_mod_cast mul_self_nonneg r

/-- A guarded variance is positive. -/
theorem vari_pos (y : Fin 128 → EReal) : 0 < vari y + Ideal.ofBits .f32 0x3727C5AC#32 := by
  obtain ⟨r, hr, e⟩ := eps_bits
  have h0 : 0 ≤ vari y := by
    unfold vari
    rw [n128_bits, Ideal.div, if_neg (by norm_num), ← EReal.coe_inv]
    exact mul_nonneg (Finset.sum_nonneg fun j _ => sq_nonneg' _) (by exact_mod_cast (by norm_num : (0:ℝ) ≤ 128⁻¹))
  rw [e]
  exact lt_of_lt_of_le (by exact_mod_cast hr : (0 : EReal) < (r : EReal)) (le_add_of_nonneg_left h0)

end Cert.Proof.Attn

end
-- ==== Proof.AlgIn.lean ====
module

public import proofs.«01_k».proof.Proof.Alg
public import Idealize.ShloMosaic.Lib.StableHlo.ReadAt

@[expose] public section

noncomputable section

namespace Cert.Proof.Attn

open Idealize.ShloMosaic
open scoped BigOperators

/-- The arguments' arrays as functions of their coordinates. -/
def ofArgs (a0 : FVec Ideal ⟨2, ![100000, 128]⟩ .f32) (a1 : IVec ⟨1, ![100000]⟩ 32) (a2 : IVec ⟨1, ![100000]⟩ 1) (a3 : IVec ⟨1, ![100000]⟩ 32)
    (a4 : FVec Ideal ⟨3, ![4, 128, 32]⟩ .f32) (a5 : FVec Ideal ⟨2, ![4, 32]⟩ .f32) (a6 : FVec Ideal ⟨3, ![4, 32, 1]⟩ .f32) (a7 : FVec Ideal ⟨2, ![4, 1]⟩ .f32)
    (a8 : FVec Ideal ⟨2, ![512, 128]⟩ .f32) (a9 : FVec Ideal ⟨1, ![128]⟩ .f32) (a10 : FVec Ideal ⟨2, ![32, 8]⟩ .f32) (a11 : FVec Ideal ⟨2, ![264, 128]⟩ .f32)
    (a12 : FVec Ideal ⟨1, ![128]⟩ .f32) (a13 : FVec Ideal ⟨2, ![128, 128]⟩ .f32) (a14 a15 a16 : FVec Ideal ⟨1, ![128]⟩ .f32) : In where
  h n j := a0 (ValueIdx.ix2 n j)
  seg n := (a1 (ValueIdx.ix1 n)).toNat
  ind n := (((a2 (ValueIdx.ix1 n)).toNat : ℝ) : EReal)
  dep n := (a3 (ValueIdx.ix1 n)).toNat
  w1 k i q := a4 (ValueIdx.ix3 k i q)
  b1 k q := a5 (ValueIdx.ix2 k q)
  w2 k q := a6 (ValueIdx.ix3 k q 0)
  b2 k := a7 (ValueIdx.ix2 k 0)
  hp c j := a8 (ValueIdx.ix2 c j)
  hpb j := a9 (ValueIdx.ix1 j)
  dt d e := a10 (ValueIdx.ix2 d e)
  f1 c j := a11 (ValueIdx.ix2 c j)
  f1b j := a12 (ValueIdx.ix1 j)
  f2 k j := a13 (ValueIdx.ix2 k j)
  f2b j := a14 (ValueIdx.ix1 j)
  ga j := a15 (ValueIdx.ix1 j)
  be j := a16 (ValueIdx.ix1 j)

/-- Two spellings of a one-axis index. -/
theorem ix1_eq {n : ℕ} (a : Fin n) : (Idealize.ShloMosaic.ix1 a : (⟨1, ![n]⟩ : Shape).Idx) = ValueIdx.ix1 a := by
  funext d; match d with
  | ⟨0, _⟩ => rfl

/-- Two spellings of a two-axis index. -/
theorem ix2_eq {n k : ℕ} (a : Fin n) (b : Fin k) : (Idealize.ShloMosaic.ix2 a b : (⟨2, ![n, k]⟩ : Shape).Idx) = ValueIdx.ix2 a b := by
  funext d; match d with
  | ⟨0, _⟩ => rfl
  | ⟨1, _⟩ => rfl
/-- Two spellings of a three-axis index. -/
theorem ix3_eq {n k l : ℕ} (a : Fin n) (b : Fin k) (d : Fin l) : (Idealize.ShloMosaic.ix3 a b d : (⟨3, ![n, k, l]⟩ : Shape).Idx) = ValueIdx.ix3 a b d := by
  funext x; match x with
  | ⟨0, _⟩ => rfl
  | ⟨1, _⟩ => rfl
  | ⟨2, _⟩ => rfl

/-- A sum over 128 columns by heads. -/
theorem sum_heads (f : Fin 128 → EReal) : (∑ c, f c) = ∑ k : Fin 4, ∑ q : Fin 32, f ⟨32 * k.val + q.val, by omega⟩ := by
  rw [← Fintype.sum_prod_type']
  rw [← (finProdFinEquiv (m := 4) (n := 32)).sum_comp f]
  refine Finset.sum_congr rfl fun x _ => congrArg f (Fin.ext ?_)
  show x.2.val + 32 * x.1.val = 32 * x.1.val + x.2.val
  omega

end Cert.Proof.Attn

end
-- ==== Proof.KIPay.lean ====
module

public import proofs.«01_k».proof.Proof.KIVal
public import proofs.«01_k».proof.Proof.AlgIn
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators
open Cert.Proof.Attn (In ofArgs)

/-! # A block's values, over extended reals -/

/-- A row read along the columns. -/
theorem bcRow {α : Type} {R C : ℕ} (hC : C ≠ 1) (x : (⟨2, ![1, C]⟩ : Shape).Idx → α) (h) (r : Fin R) (c : Fin C) :
    broadcastTo ⟨2, ![R, C]⟩ x h (ValueIdx.ix2 r c) = x (ValueIdx.ix2 0 c) :=
  broadcastTo_apply x h _ _ (fun a => by match a with | ⟨0, _⟩ => rfl | ⟨1, _⟩ => exact (if_neg hC).symm)

/-- A column read along the rows. -/
theorem bcCol {α : Type} {R C : ℕ} (hR : R ≠ 1) (x : (⟨2, ![R, 1]⟩ : Shape).Idx → α) (h) (r : Fin R) (c : Fin C) :
    broadcastTo ⟨2, ![R, C]⟩ x h (ValueIdx.ix2 r c) = x (ValueIdx.ix2 r 0) :=
  broadcastTo_apply x h _ _ (fun a => by match a with | ⟨0, _⟩ => exact (if_neg hR).symm | ⟨1, _⟩ => rfl)

/-- The exponentials at an index. -/
theorem pay39_apply (v3 : Vec Ideal S5000x128 .f32) (v10 : Vec Ideal S128x128 .bf16) (v13 : Vec Ideal S1x128 .f32) (v18 : Vec Ideal S128x4 .f32) (v21 : Vec Ideal S1x4 .f32) (r : Fin 5000) (k : Fin 4) :
    k0_pay39 (F := Ideal) v3 v10 v13 v18 v21 (ValueIdx.ix2 r k)
      = Ideal.exp ((∑ q : Fin 128, Ideal.tanh ((∑ i : Fin 128, v3 (ValueIdx.ix2 r i) * v10 (ValueIdx.ix2 i q)) + v13 (ValueIdx.ix2 0 q)) * v18 (ValueIdx.ix2 q k)) + v21 (ValueIdx.ix2 0 k)) := by
  unfold k0_pay39
  rw [shapeCast_self v10, shapeCast_self v13, shapeCast_self v18, shapeCast_self v21]
  refine congrArg Ideal.exp (congrArg₂ (fun x y : EReal => x + y) ((mm_apply (M := 5000) (K := 128) (N := 4) _ v18 r k).trans ?_) (bcRow (by decide) v21 _ r k))
  refine Finset.sum_congr rfl fun q _ => congrArg (· * v18 (ValueIdx.ix2 q k)) ?_
  exact congrArg Ideal.tanh (congrArg₂ (fun x y : EReal => x + y) (mm_apply (M := 5000) (K := 128) (N := 128) _ v10 r q) (bcRow (by decide) v13 _ r q))

/-- The rows weighed by head 0. -/
theorem pay41_apply (v3 : Vec Ideal S5000x128 .f32) (v10 : Vec Ideal S128x128 .bf16) (v13 : Vec Ideal S1x128 .f32) (v18 : Vec Ideal S128x4 .f32) (v21 : Vec Ideal S1x4 .f32) (r : Fin 5000) (j : Fin 128) :
    k0_pay41 (F := Ideal) v3 v10 v13 v18 v21 (ValueIdx.ix2 r j) = v3 (ValueIdx.ix2 r j) * k0_pay39 (F := Ideal) v3 v10 v13 v18 v21 (ValueIdx.ix2 r 0) := by
  unfold k0_pay41
  show v3 (ValueIdx.ix2 r j) * broadcastTo S5000x128 _ broadcasts_S5000x1_S5000x128 (ValueIdx.ix2 r j) = _
  rw [bcCol (by decide)]
  exact congrArg (v3 (ValueIdx.ix2 r j) * ·) (extractStridedSlice_apply _ _ _ _ (ValueIdx.ix2 r 0) (fun a => by match a with | ⟨0, _⟩ => exact (Nat.zero_add _).symm | ⟨1, _⟩ => rfl))

/-- The rows weighed by head 1. -/
theorem pay42_apply (v3 : Vec Ideal S5000x128 .f32) (v10 : Vec Ideal S128x128 .bf16) (v13 : Vec Ideal S1x128 .f32) (v18 : Vec Ideal S128x4 .f32) (v21 : Vec Ideal S1x4 .f32) (r : Fin 5000) (j : Fin 128) :
    k0_pay42 (F := Ideal) v3 v10 v13 v18 v21 (ValueIdx.ix2 r j) = v3 (ValueIdx.ix2 r j) * k0_pay39 (F := Ideal) v3 v10 v13 v18 v21 (ValueIdx.ix2 r 1) := by
  unfold k0_pay42
  show v3 (ValueIdx.ix2 r j) * broadcastTo S5000x128 _ broadcasts_S5000x1_S5000x128 (ValueIdx.ix2 r j) = _
  rw [bcCol (by decide)]
  exact congrArg (v3 (ValueIdx.ix2 r j) * ·) (extractStridedSlice_apply _ _ _ _ (ValueIdx.ix2 r 1) (fun a => by match a with | ⟨0, _⟩ => exact (Nat.zero_add _).symm | ⟨1, _⟩ => rfl))

/-- The rows weighed by head 2. -/
theorem pay43_apply (v3 : Vec Ideal S5000x128 .f32) (v10 : Vec Ideal S128x128 .bf16) (v13 : Vec Ideal S1x128 .f32) (v18 : Vec Ideal S128x4 .f32) (v21 : Vec Ideal S1x4 .f32) (r : Fin 5000) (j : Fin 128) :
    k0_pay43 (F := Ideal) v3 v10 v13 v18 v21 (ValueIdx.ix2 r j) = v3 (ValueIdx.ix2 r j) * k0_pay39 (F := Ideal) v3 v10 v13 v18 v21 (ValueIdx.ix2 r 2) := by
  unfold k0_pay43
  show v3 (ValueIdx.ix2 r j) * broadcastTo S5000x128 _ broadcasts_S5000x1_S5000x128 (ValueIdx.ix2 r j) = _
  rw [bcCol (by decide)]
  exact congrArg (v3 (ValueIdx.ix2 r j) * ·) (extractStridedSlice_apply _ _ _ _ (ValueIdx.ix2 r 2) (fun a => by match a with | ⟨0, _⟩ => exact (Nat.zero_add _).symm | ⟨1, _⟩ => rfl))

/-- Head 3's weights along the columns. -/
theorem pay44_apply (v3 : Vec Ideal S5000x128 .f32) (v10 : Vec Ideal S128x128 .bf16) (v13 : Vec Ideal S1x128 .f32) (v18 : Vec Ideal S128x4 .f32) (v21 : Vec Ideal S1x4 .f32) (r : Fin 5000) (j : Fin 128) :
    k0_pay44 (F := Ideal) v3 v10 v13 v18 v21 (ValueIdx.ix2 r j) = k0_pay39 (F := Ideal) v3 v10 v13 v18 v21 (ValueIdx.ix2 r 3) := by
  unfold k0_pay44
  show broadcastTo S5000x128 _ broadcasts_S5000x1_S5000x128 (ValueIdx.ix2 r j) = _
  rw [bcCol (by decide)]
  exact extractStridedSlice_apply _ _ _ _ (ValueIdx.ix2 r 3) (fun a => by match a with | ⟨0, _⟩ => exact (Nat.zero_add _).symm | ⟨1, _⟩ => rfl)

/-- The mask's column. -/
theorem pay40_apply (v7 : Vec Ideal S5000x40 .bf16) (r : Fin 5000) : k0_pay40 (F := Ideal) v7 (ValueIdx.ix2 r 0) = v7 (ValueIdx.ix2 r 32) := by
  unfold k0_pay40 k0_pay37
  rw [shapeCast_self v7]
  exact extractStridedSlice_apply _ _ _ _ (ValueIdx.ix2 r 32) (fun a => by match a with | ⟨0, _⟩ => exact (Nat.zero_add _).symm | ⟨1, _⟩ => rfl)

variable (v9 : FVec Ideal S5000x128 .bf16) (v27 : FVec Ideal S5000x1 .bf16) (v30 v33 v36 v38 : FVec Ideal S5000x128 .bf16) (r : Fin 5000) (j : Fin 128)

/-- Column block 0 of the right side. -/
theorem pay1_0 (c : Fin 640) (hc : c.val = 0 + j.val) : k0_pay1 (F := Ideal) v9 v27 v30 v33 v36 v38 (ValueIdx.ix2 r c) = v30 (ValueIdx.ix2 r j) := by
  unfold k0_pay1
  refine (concatenate_apply_piece (t := S5000x640) 1 _ _ (ValueIdx.ix2 r c) 0 (Nat.lt_of_lt_of_eq (by decide : 0 < 5) rfl) S5000x128 (v30) rfl rfl 0 rfl (ValueIdx.ix2 r j)
    (fun b hb => by match b with | ⟨0, _⟩ => rfl | ⟨1, _⟩ => exact absurd rfl hb) hc.symm).trans ?_
  rfl

/-- Column block 1 of the right side. -/
theorem pay1_1 (c : Fin 640) (hc : c.val = 128 + j.val) : k0_pay1 (F := Ideal) v9 v27 v30 v33 v36 v38 (ValueIdx.ix2 r c) = v33 (ValueIdx.ix2 r j) := by
  unfold k0_pay1
  refine (concatenate_apply_piece (t := S5000x640) 1 _ _ (ValueIdx.ix2 r c) 1 (Nat.lt_of_lt_of_eq (by decide : 1 < 5) rfl) S5000x128 (v33) rfl rfl 128 rfl (ValueIdx.ix2 r j)
    (fun b hb => by match b with | ⟨0, _⟩ => rfl | ⟨1, _⟩ => exact absurd rfl hb) hc.symm).trans ?_
  rfl

/-- Column block 2 of the right side. -/
theorem pay1_2 (c : Fin 640) (hc : c.val = 256 + j.val) : k0_pay1 (F := Ideal) v9 v27 v30 v33 v36 v38 (ValueIdx.ix2 r c) = v36 (ValueIdx.ix2 r j) := by
  unfold k0_pay1
  refine (concatenate_apply_piece (t := S5000x640) 1 _ _ (ValueIdx.ix2 r c) 2 (Nat.lt_of_lt_of_eq (by decide : 2 < 5) rfl) S5000x128 (v36) rfl rfl 256 rfl (ValueIdx.ix2 r j)
    (fun b hb => by match b with | ⟨0, _⟩ => rfl | ⟨1, _⟩ => exact absurd rfl hb) hc.symm).trans ?_
  rfl

/-- Column block 3 of the right side. -/
theorem pay1_3 (c : Fin 640) (hc : c.val = 384 + j.val) : k0_pay1 (F := Ideal) v9 v27 v30 v33 v36 v38 (ValueIdx.ix2 r c) = v9 (ValueIdx.ix2 r j) * v38 (ValueIdx.ix2 r j) := by
  unfold k0_pay1
  refine (concatenate_apply_piece (t := S5000x640) 1 _ _ (ValueIdx.ix2 r c) 3 (Nat.lt_of_lt_of_eq (by decide : 3 < 5) rfl) S5000x128 (mulf v9 v38) rfl rfl 384 rfl (ValueIdx.ix2 r j)
    (fun b hb => by match b with | ⟨0, _⟩ => rfl | ⟨1, _⟩ => exact absurd rfl hb) hc.symm).trans ?_
  rfl

/-- Column block 4 of the right side. -/
theorem pay1_4 (c : Fin 640) (hc : c.val = 512 + j.val) : k0_pay1 (F := Ideal) v9 v27 v30 v33 v36 v38 (ValueIdx.ix2 r c) = v9 (ValueIdx.ix2 r j) * v27 (ValueIdx.ix2 r 0) := by
  unfold k0_pay1
  refine (concatenate_apply_piece (t := S5000x640) 1 _ _ (ValueIdx.ix2 r c) 4 (Nat.lt_of_lt_of_eq (by decide : 4 < 5) rfl) S5000x128 (mulf v9 (broadcastTo S5000x128 v27 broadcasts_S5000x1_S5000x128)) rfl rfl 512 rfl (ValueIdx.ix2 r j)
    (fun b hb => by match b with | ⟨0, _⟩ => rfl | ⟨1, _⟩ => exact absurd rfl hb) hc.symm).trans ?_
  exact congrArg (v9 (ValueIdx.ix2 r j) * ·) (bcCol (by decide) v27 _ r j)

/-- A block's segments at an index. -/
theorem pay36_apply (v : Vec Ideal S1x1x5000 .i32) (r : Fin 5000) : k0_pay36 (F := Ideal) v (ValueIdx.ix2 0 r) = v (ValueIdx.ix3 0 0 r) := by
  unfold k0_pay36
  rw [shapeCast_self v]
  exact shapeCast_apply _ _ _ (ValueIdx.ix3 0 0 r) (by rw [Shape.rowMajor_val_three, Shape.rowMajor_val_two]; show (0 * 1 + 0) * 5000 + r.val = 0 * 5000 + r.val; omega)

/-- A block's columns. -/
theorem pay37_eq (v : Vec Ideal S5000x40 .bf16) : k0_pay37 (F := Ideal) v = v := by
  unfold k0_pay37
  exact shapeCast_self v _

end Cert.KernelIdeal.Body

end
-- ==== Proof.KITail.lean ====
module

public import proofs.«01_k».proof.Proof.KIPay
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators
open Cert.Proof.Attn (In ofArgs)

/-! # The last point's computation, over extended reals -/

/-- A row's index with a column put in. -/
theorem lift_row {R C : ℕ} (h : (⟨2, ![R, C]⟩ : Shape).Reduces [1] (⟨1, ![R]⟩ : Shape)) (s : Fin R) (k : Fin C) : h.lift (ValueIdx.ix1 s) k = ValueIdx.ix2 s k := by
  funext a
  match a with
  | ⟨0, _⟩ => rfl
  | ⟨1, _⟩ => rfl

/-- A choice on a positive number. -/
theorem sel_pos (x a b : EReal) : Scalar.select (Ideal.cmp .ogt x (Ideal.ofBits .f32 0x00000000#32)) a b = if 0 < x then a else b := by
  rw [Ideal.ofBits_zero_f32]
  unfold Scalar.select Ideal.cmp
  by_cases h : 0 < x <;> simp [h]

/-- A small word as a number. -/
theorem small_toInt : ∀ d : Fin 32, (BitVec.ofNat 32 d.val).toInt = (d.val : ℤ) := by decide +kernel

/-- The kernel's quotient of a column number by 128. -/
def fdW (x : BitVec 32) : BitVec 32 :=
  Scalar.select (IntOp.andi (IntOp.cmpi .ne (IntOp.subi ((IntOp.cmpi .sgt x 0#32).setWidth 32) ((IntOp.cmpi .slt x 0#32).setWidth 32))
      (Scalar.subi (Scalar.extui (Scalar.cmpi .sgt 128#32 0#32)) (Scalar.extui (Scalar.cmpi .slt 128#32 0#32))))
      (IntOp.cmpi .ne (IntOp.remsi .vector x 128#32) 0#32))
    (IntOp.subi (IntOp.divsi .vector x 128#32) 1#32) (IntOp.divsi .vector x 128#32)
/-- It is the quotient. -/
theorem fdW_small : ∀ c : Fin 512, fdW (BitVec.ofNat 32 c.val) = BitVec.ofNat 32 (c.val / 128) := by decide +kernel

/-- The projected heads before their bias. -/
theorem pay27_apply (n : FVec Ideal S256x512 .f32) (d : FVec Ideal S256x4 .f32) (hp : FVec Ideal S512x128 .f32) (s : Fin 256) (j : Fin 128) :
    k0_pay27 (F := Ideal) n d hp (ValueIdx.ix2 s j) = ∑ c : Fin 512, (n (ValueIdx.ix2 s c) * (if 0 < d (ValueIdx.ix2 s ⟨c.val / 128, by omega⟩) then Ideal.div 1 (d (ValueIdx.ix2 s ⟨c.val / 128, by omega⟩)) else 0)) * hp (ValueIdx.ix2 c j) := by
  unfold k0_pay27
  refine (mm_apply (M := 256) (K := 512) (N := 128) _ hp s j).trans (Finset.sum_congr rfl fun c _ => congrArg (fun x : EReal => x * hp (ValueIdx.ix2 c j)) (congrArg (fun x : EReal => n (ValueIdx.ix2 s c) * x) ((mm_apply (M := 256) (K := 4) (N := 512) _ _ s c).trans ?_)))
  refine (Finset.sum_congr rfl fun k _ => congrArg₂ (fun x y : EReal => x * y) (?_ : _ = (if 0 < d (ValueIdx.ix2 s k) then Ideal.div 1 (d (ValueIdx.ix2 s k)) else 0)) (?_ : _ = if k.val = c.val / 128 then (1 : EReal) else 0)).trans ?_
  · refine (sel_pos (d (ValueIdx.ix2 s k)) (Ideal.div (Ideal.ofBits .f32 0x3F800000#32) (d (ValueIdx.ix2 s k))) (Ideal.ofBits .f32 0x00000000#32)).trans ?_
    rw [Cert.Proof.Attn.one_bits, Ideal.ofBits_zero_f32]
  · show FloatOps.sitofp (F := Ideal) .f32 ((IntOp.cmpi .eq (iota .tc S4x512 32 [0] iota_S4x512_d0_w32 (ValueIdx.ix2 k c)) (fdW (iota .tc S4x512 32 [1] iota_S4x512_d1_w32 (ValueIdx.ix2 k c)))).setWidth 32) = _
    rw [iota_single_apply, iota_single_apply]
    refine (onehot_apply _ _).trans ?_
    rw [show fdW (BitVec.ofNat 32 ((ValueIdx.ix2 k c : S4x512.Idx) 1).val) = _ from fdW_small c]
    refine if_congr ?_ rfl rfl
    show BitVec.ofNat 32 k.val = _ ↔ _
    have hk := k.isLt
    have hc := c.isLt
    constructor
    · intro h
      have := congrArg BitVec.toNat h
      rw [BitVec.toNat_ofNat, BitVec.toNat_ofNat] at this
      omega
    · intro h; rw [h]
  · refine (Finset.sum_eq_single (⟨c.val / 128, by omega⟩ : Fin 4) (fun k _ hk => ?_) (fun h => absurd (Finset.mem_univ _) h)).trans ?_
    · rw [if_neg (fun h => hk (Fin.ext h)), mul_zero]
    · rw [if_pos rfl, mul_one]

/-- The kernel's depth row: each depth with a positive count, else zero. -/
def depV (dep : FVec Ideal S256x32 .f32) : FVec Ideal S256x32 .f32 :=
  select (cmpf .ogt dep (broadcast S256x32 (Scalar.ofBits .f32 0x00000000#32 : Ideal .f32))) (sitofp .f32 (iota .tc S256x32 32 [1] iota_S256x32_d1_w32)) (broadcast S256x32 (Scalar.ofBits .f32 0x00000000#32 : Ideal .f32))
/-- The one-hot matrix of the greatest depths. -/
def hotV (dep : FVec Ideal S256x32 .f32) : FVec Ideal S256x32 .f32 :=
  sitofp .f32 (extui 32 (cmpf .oeq (broadcastTo S256x32 (shapeCast S256x1 (multiReduction .maximumf [1] S256 (depV dep) 0xFF800000#32 reduces_S256x32_S256 (.inl rfl) rfl) shapeCasts_S256_S256x1) broadcasts_S256x1_S256x32)
    (sitofp .f32 (iota .tc S256x32 32 [1] iota_S256x32_d1_w32))) natLt_1_32)

/-- The depths as numbers. -/
theorem dnum (s : Fin 256) (d : Fin 32) : (sitofp .f32 (iota .tc S256x32 32 [1] iota_S256x32_d1_w32) : FVec Ideal S256x32 .f32) (ValueIdx.ix2 s d) = ((d.val : ℝ) : EReal) := by
  show (((iota .tc S256x32 32 [1] iota_S256x32_d1_w32 (ValueIdx.ix2 s d)).toInt : ℝ) : EReal) = _
  rw [iota_single_apply, show (BitVec.ofNat 32 ((ValueIdx.ix2 s d : S256x32.Idx) 1).val).toInt = _ from small_toInt d]
  simp

/-- A vector of column length made a column. -/
theorem col_apply {α : Type} {R : ℕ} (x : (⟨1, ![R]⟩ : Shape).Idx → α) (h : (⟨1, ![R]⟩ : Shape).ShapeCasts ⟨2, ![R, 1]⟩) (s : Fin R) : shapeCast ⟨2, ![R, 1]⟩ x h (ValueIdx.ix2 s 0) = x (ValueIdx.ix1 s) :=
  shapeCast_apply x h _ _ (by rw [Shape.rowMajor_val_one, Shape.rowMajor_val_two]; show s.val = s.val * 1 + 0; omega)

/-- The one-hot matrix, the greatest depth given. -/
theorem hotV_apply (dep : FVec Ideal S256x32 .f32) (s : Fin 256) (D : ℕ) (hm : (Finset.univ : Finset (Fin 32)).fold max (⊥ : EReal) (fun d => if 0 < dep (ValueIdx.ix2 s d) then ((d.val : ℝ) : EReal) else 0) = ((D : ℝ) : EReal)) (d : Fin 32) :
    hotV dep (ValueIdx.ix2 s d) = if D = d.val then (1 : EReal) else 0 := by
  have e : broadcastTo S256x32 (shapeCast S256x1 (multiReduction .maximumf [1] S256 (depV dep) 0xFF800000#32 reduces_S256x32_S256 (.inl rfl) rfl) shapeCasts_S256_S256x1) broadcasts_S256x1_S256x32 (ValueIdx.ix2 s d) = ((D : ℝ) : EReal) := by
    refine (bcCol (by decide) _ _ s d).trans ((col_apply _ _ s).trans ((Ideal.multiReduction_maximumf_single _ _ _ _ _ _).trans ?_))
    rw [← hm]
    refine congrArg₂ (fun (b : EReal) (f : Fin 32 → EReal) => (Finset.univ : Finset (Fin 32)).fold max b f) Cert.Proof.Attn.ninf_bits (funext fun k => ?_)
    refine (congrArg (depV dep) (lift_row (R := 256) (C := 32) reduces_S256x32_S256 s k)).trans ?_
    refine (sel_pos _ _ _).trans ?_
    exact if_congr Iff.rfl (dnum s k) Ideal.ofBits_zero_f32
  show (((((Ideal.cmp .oeq (broadcastTo S256x32 (shapeCast S256x1 (multiReduction .maximumf [1] S256 (depV dep) 0xFF800000#32 reduces_S256x32_S256 (.inl rfl) rfl) shapeCasts_S256_S256x1) broadcasts_S256x1_S256x32 (ValueIdx.ix2 s d)) ((sitofp .f32 (iota .tc S256x32 32 [1] iota_S256x32_d1_w32) : FVec Ideal S256x32 .f32) (ValueIdx.ix2 s d))).setWidth 32).toInt : ℝ)) : EReal) = _
  rw [e, dnum]
  unfold Ideal.cmp
  by_cases h : D = d.val
  · subst h; simp
  · have h2 : ((D : ℝ) : EReal) ≠ ((d.val : ℝ) : EReal) := by
      intro h3; exact h (by exact_mod_cast h3)
    simp [h, h2]

/-- The first fusing layer before its bias. -/
theorem pay28_apply (a : FVec Ideal S256x128 .f32) (hpb : FVec Ideal S1x128 .f32) (bh : FVec Ideal S256x128 .f32) (cnt : FVec Ideal S256x1 .f32) (dep : FVec Ideal S256x32 .f32) (dt : FVec Ideal S32x8 .f32)
    (fa fb : FVec Ideal S128x128 .f32) (fc : FVec Ideal S8x128 .f32) (s : Fin 256) (j : Fin 128) (D : ℕ) (hD : D < 32)
    (hm : (Finset.univ : Finset (Fin 32)).fold max (⊥ : EReal) (fun d => if 0 < dep (ValueIdx.ix2 s d) then ((d.val : ℝ) : EReal) else 0) = ((D : ℝ) : EReal)) :
    k0_pay28 (F := Ideal) a hpb bh cnt dep dt fa fb fc (ValueIdx.ix2 s j)
      = ((∑ i : Fin 128, (a (ValueIdx.ix2 s i) + hpb (ValueIdx.ix2 0 i)) * fa (ValueIdx.ix2 i j)) + ∑ i : Fin 128, Ideal.div (bh (ValueIdx.ix2 s i)) (cnt (ValueIdx.ix2 s 0) + Ideal.ofBits .f32 0x322BCC77#32) * fb (ValueIdx.ix2 i j))
        + ∑ e : Fin 8, dt (ValueIdx.ix2 ⟨D, hD⟩ e) * fc (ValueIdx.ix2 e j) := by
  unfold k0_pay28
  rw [shapeCast_self hpb, shapeCast_self fa, shapeCast_self fb, shapeCast_self fc]
  refine congrArg₂ (fun x y : EReal => x + y) (congrArg₂ (fun x y : EReal => x + y) ((mm_apply (M := 256) (K := 128) (N := 128) _ fa s j).trans ?_) ((mm_apply (M := 256) (K := 128) (N := 128) _ fb s j).trans ?_)) ((mm_apply (M := 256) (K := 8) (N := 128) _ fc s j).trans ?_)
  · exact Finset.sum_congr rfl fun i _ => congrArg (fun x : EReal => x * fa (ValueIdx.ix2 i j)) (congrArg (fun x : EReal => a (ValueIdx.ix2 s i) + x) (bcRow (by decide) hpb _ s i))
  · exact Finset.sum_congr rfl fun i _ => congrArg (fun x : EReal => x * fb (ValueIdx.ix2 i j)) (congrArg (fun x : EReal => Ideal.div (bh (ValueIdx.ix2 s i)) x) (bcCol (by decide) (addf cnt (broadcast S256x1 (Scalar.ofBits .f32 0x322BCC77#32 : Ideal .f32))) _ s i))
  · refine Finset.sum_congr rfl fun e _ => congrArg (fun x : EReal => x * fc (ValueIdx.ix2 e j)) ?_
    refine (mm_apply (M := 256) (K := 32) (N := 8) (hotV dep) dt s e).trans ?_
    refine (Finset.sum_eq_single (⟨D, hD⟩ : Fin 32) (fun d _ hd => ?_) (fun h => absurd (Finset.mem_univ _) h)).trans ?_
    · rw [hotV_apply dep s D hm, if_neg (fun h => hd (Fin.ext h.symm)), zero_mul]
    · rw [hotV_apply dep s D hm, if_pos rfl, one_mul]

/-- The second fusing layer's values. -/
def outV (v : FVec Ideal S256x128 .f32) (f1 : FVec Ideal S1x128 .f32) (w2 : FVec Ideal S128x128 .f32) (b2 : FVec Ideal S1x128 .f32) : FVec Ideal S256x128 .f32 :=
  have x : FVec Ideal S256x128 .f32 := addf v (broadcastTo S256x128 (shapeCast S1x128 f1 shapeCasts_S1x128_S1x128) broadcasts_S1x128_S256x128)
  addf (matmul dot_S256x128_S128x128_S256x128_1_0_0_1_n_n none
    (mulf (mulf (broadcast S256x128 (Scalar.ofBits .f32 0x3F000000#32 : Ideal .f32)) x) (addf (broadcast S256x128 (Scalar.ofBits .f32 0x3F800000#32 : Ideal .f32)) (erf (mulf x (broadcast S256x128 (Scalar.ofBits .f32 0x3F3504F3#32 : Ideal .f32)))))) w2 (constant S256x128 .f32 0x00000000#32))
    (broadcastTo S256x128 (shapeCast S1x128 b2 shapeCasts_S1x128_S1x128) broadcasts_S1x128_S256x128)
/-- A row's mean, as a column. -/
def meanV (y : FVec Ideal S256x128 .f32) : FVec Ideal S256x1 .f32 :=
  divf (shapeCast S256x1 (multiReduction .add [1] S256 y 0x00000000#32 reduces_S256x128_S256 (.inl rfl) rfl) shapeCasts_S256_S256x1) (broadcast S256x1 (Scalar.ofBits .f32 0x43000000#32 : Ideal .f32))
/-- The rows less their means. -/
def ctrV (y : FVec Ideal S256x128 .f32) : FVec Ideal S256x128 .f32 := subf y (broadcastTo S256x128 (meanV y) broadcasts_S256x1_S256x128)
/-- The normalised rows, scaled. -/
def nrmV (y : FVec Ideal S256x128 .f32) (ga : FVec Ideal S1x128 .f32) : FVec Ideal S256x128 .f32 :=
  mulf (mulf (ctrV y) (broadcastTo S256x128 (rsqrt (addf (meanV (mulf (ctrV y) (ctrV y))) (broadcast S256x1 (Scalar.ofBits .f32 0x3727C5AC#32 : Ideal .f32)))) broadcasts_S256x1_S256x128))
    (broadcastTo S256x128 (shapeCast S1x128 ga shapeCasts_S1x128_S1x128) broadcasts_S1x128_S256x128)
/-- The payload in these stages. -/
theorem pay29_eq (v : FVec Ideal S256x128 .f32) (f1 : FVec Ideal S1x128 .f32) (w2 : FVec Ideal S128x128 .f32) (b2 ga : FVec Ideal S1x128 .f32) :
    k0_pay29 (F := Ideal) v f1 w2 b2 ga = nrmV (outV v f1 w2 b2) ga := rfl

/-- The second layer at an index. -/
theorem outV_apply (v : FVec Ideal S256x128 .f32) (f1 : FVec Ideal S1x128 .f32) (w2 : FVec Ideal S128x128 .f32) (b2 : FVec Ideal S1x128 .f32) (s : Fin 256) (j : Fin 128) :
    outV v f1 w2 b2 (ValueIdx.ix2 s j) = (∑ k : Fin 128, Cert.Proof.Attn.gel (v (ValueIdx.ix2 s k) + f1 (ValueIdx.ix2 0 k)) * w2 (ValueIdx.ix2 k j)) + b2 (ValueIdx.ix2 0 j) := by
  unfold outV
  rw [shapeCast_self f1, shapeCast_self b2]
  refine congrArg₂ (fun x y : EReal => x + y) ((mm_apply (M := 256) (K := 128) (N := 128) _ w2 s j).trans ?_) (bcRow (by decide) b2 _ s j)
  exact Finset.sum_congr rfl fun k _ => congrArg (fun x : EReal => x * w2 (ValueIdx.ix2 k j)) (congrArg Cert.Proof.Attn.gel (congrArg (fun x : EReal => v (ValueIdx.ix2 s k) + x) (bcRow (by decide) f1 _ s k)))

/-- The mean at an index. -/
theorem meanV_apply (y : FVec Ideal S256x128 .f32) (s : Fin 256) : meanV y (ValueIdx.ix2 s 0) = Cert.Proof.Attn.mean (fun j => y (ValueIdx.ix2 s j)) := by
  unfold meanV Cert.Proof.Attn.mean
  refine congrArg (fun x : EReal => Ideal.div x (Ideal.ofBits .f32 0x43000000#32)) ((col_apply _ _ s).trans ((Ideal.multiReduction_add_single _ _ _ _ _ _).trans ?_))
  exact Finset.sum_congr rfl fun k _ => congrArg y (lift_row _ s k)

/-- A centred row at an index. -/
theorem ctrV_apply (y : FVec Ideal S256x128 .f32) (s : Fin 256) (j : Fin 128) : ctrV y (ValueIdx.ix2 s j) = y (ValueIdx.ix2 s j) - Cert.Proof.Attn.mean (fun j => y (ValueIdx.ix2 s j)) :=
  congrArg (fun x : EReal => y (ValueIdx.ix2 s j) - x) ((bcCol (by decide) _ _ s j).trans (meanV_apply y s))

/-- The scaled rows at an index. -/
theorem nrmV_apply (y : FVec Ideal S256x128 .f32) (ga : FVec Ideal S1x128 .f32) (s : Fin 256) (j : Fin 128) :
    nrmV y ga (ValueIdx.ix2 s j) = ((y (ValueIdx.ix2 s j) - Cert.Proof.Attn.mean (fun j => y (ValueIdx.ix2 s j))) * Ideal.rsqrt (Cert.Proof.Attn.vari (fun j => y (ValueIdx.ix2 s j)) + Ideal.ofBits .f32 0x3727C5AC#32)) * ga (ValueIdx.ix2 0 j) := by
  unfold nrmV
  rw [shapeCast_self ga]
  refine congrArg₂ (fun x y : EReal => x * y) (congrArg₂ (fun x y : EReal => x * y) (ctrV_apply y s j) ((bcCol (by decide) _ _ s j).trans (congrArg (fun x : EReal => Ideal.rsqrt (x + Ideal.ofBits .f32 0x3727C5AC#32)) ?_))) (bcRow (by decide) ga _ s j)
  refine (meanV_apply _ s).trans ?_
  unfold Cert.Proof.Attn.vari
  rw [Cert.Proof.Attn.mean]
  exact congrArg (fun x : EReal => Ideal.div x (Ideal.ofBits .f32 0x43000000#32)) (Finset.sum_congr rfl fun k _ => congrArg₂ (fun x y : EReal => x * y) (ctrV_apply y s k) (ctrV_apply y s k))

/-- The shift. -/
theorem pay12_apply (x : FVec Ideal S256x128 .f32) (b : FVec Ideal S1x128 .f32) (s : Fin 256) (j : Fin 128) : k0_pay12 (F := Ideal) x (k0_pay30 b) (ValueIdx.ix2 s j) = x (ValueIdx.ix2 s j) + b (ValueIdx.ix2 0 j) := by
  unfold k0_pay12 k0_pay30
  rw [shapeCast_self b]
  exact congrArg (fun z : EReal => x (ValueIdx.ix2 s j) + z) (bcRow (by decide) b _ s j)

end Cert.KernelIdeal.Body

end
-- ==== Proof.KIBlk.lean ====
module

public import proofs.«01_k».proof.Proof.KIKit
public import Idealize.ShloMosaic.Lib.Pipeline.ValueKit.Geometry
public import Idealize.ShloMosaic.Lib.Pipeline.Value
public import Idealize.ShloMosaic.Lib.StableHlo.ReadAt
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD) (t : Fin (cfgM m).N)

/-! # The windows' blocks -/

/-- Rows of the data. -/
theorem iblk0 (r : Fin 5000) (j : Fin 128) (h : 5000 * t.val + r.val < 100000) :
    iblk m c 0 t (ValueIdx.ix2 r j) = V m c main_arg0 (ValueIdx.ix2 ⟨5000 * t.val + r.val, h⟩ j) := by
  have e : ((cfgM m).win 0).index t = ![t.val, 0] := by
    funext a; match a with
    | ⟨0, _⟩ => exact (by decide +kernel : ∀ t : Fin grid0.N, cc0_transform_0 (grid0.coords t) 0 = t.val) t
    | ⟨1, _⟩ => rfl
  blk_ext [iblk, e]
  show t.val * 5000 + r.val = 5000 * t.val + r.val
  omega

/-- Rows of the ids. -/
theorem iblk1 (r : Fin 5000) :
    iblk m c 1 t (ValueIdx.ix3 0 0 r) = V m c main_v18 (ValueIdx.ix3 ⟨t.val, Nat.lt_of_lt_of_eq t.isLt N_0⟩ 0 r) := by
  have e : ((cfgM m).win 1).index t = ![t.val, 0, 0] := by
    funext a; match a with
    | ⟨0, _⟩ => exact (by decide +kernel : ∀ t : Fin grid0.N, cc0_transform_1 (grid0.coords t) 0 = t.val) t
    | ⟨1, _⟩ => rfl
    | ⟨2, _⟩ => rfl
  blk_ext [iblk, e]

/-- Rows of the depths' one-hot matrix and the mask. -/
theorem iblk2 (r : Fin 5000) (j : Fin 40) (h : 5000 * t.val + r.val < 100000) :
    iblk m c 2 t (ValueIdx.ix2 r j) = V m c main_v28 (ValueIdx.ix2 ⟨5000 * t.val + r.val, h⟩ j) := by
  have e : ((cfgM m).win 2).index t = ![t.val, 0] := by
    funext a; match a with
    | ⟨0, _⟩ => exact (by decide +kernel : ∀ t : Fin grid0.N, cc0_transform_2 (grid0.coords t) 0 = t.val) t
    | ⟨1, _⟩ => rfl
  blk_ext [iblk, e]
  show t.val * 5000 + r.val = 5000 * t.val + r.val
  omega

/-- Window 3 is a whole array. -/
theorem iblk3 : iblk m c 3 t = V m c main_v2 := by
  funext y
  have e : ((cfgM m).win 3).index t = ![0, 0] := by
    funext a; match a with
    | ⟨0, _⟩ => rfl
    | ⟨1, _⟩ => rfl
  blk_ext [iblk, e]

/-- Window 4 is a whole array. -/
theorem iblk4 : iblk m c 4 t = V m c main_v3 := by
  funext y
  have e : ((cfgM m).win 4).index t = ![0, 0] := by
    funext a; match a with
    | ⟨0, _⟩ => rfl
    | ⟨1, _⟩ => rfl
  blk_ext [iblk, e]

/-- Window 5 is a whole array. -/
theorem iblk5 : iblk m c 5 t = V m c main_v16 := by
  funext y
  have e : ((cfgM m).win 5).index t = ![0, 0] := by
    funext a; match a with
    | ⟨0, _⟩ => rfl
    | ⟨1, _⟩ => rfl
  blk_ext [iblk, e]

/-- Window 6 is a whole array. -/
theorem iblk6 : iblk m c 6 t = V m c main_v17 := by
  funext y
  have e : ((cfgM m).win 6).index t = ![0, 0] := by
    funext a; match a with
    | ⟨0, _⟩ => rfl
    | ⟨1, _⟩ => rfl
  blk_ext [iblk, e]

/-- Window 7 is a whole array. -/
theorem iblk7 : iblk m c 7 t = V m c main_arg8 := by
  funext y
  have e : ((cfgM m).win 7).index t = ![0, 0] := by
    funext a; match a with
    | ⟨0, _⟩ => rfl
    | ⟨1, _⟩ => rfl
  blk_ext [iblk, e]

/-- Window 8 is a whole array. -/
theorem iblk8 : iblk m c 8 t = V m c main_v43 := by
  funext y
  have e : ((cfgM m).win 8).index t = ![0, 0] := by
    funext a; match a with
    | ⟨0, _⟩ => rfl
    | ⟨1, _⟩ => rfl
  blk_ext [iblk, e]

/-- Window 9 is a whole array. -/
theorem iblk9 : iblk m c 9 t = V m c main_arg10 := by
  funext y
  have e : ((cfgM m).win 9).index t = ![0, 0] := by
    funext a; match a with
    | ⟨0, _⟩ => rfl
    | ⟨1, _⟩ => rfl
  blk_ext [iblk, e]

/-- Window 10 is a whole array. -/
theorem iblk10 : iblk m c 10 t = V m c main_v40 := by
  funext y
  have e : ((cfgM m).win 10).index t = ![0, 0] := by
    funext a; match a with
    | ⟨0, _⟩ => rfl
    | ⟨1, _⟩ => rfl
  blk_ext [iblk, e]

/-- Window 11 is a whole array. -/
theorem iblk11 : iblk m c 11 t = V m c main_v41 := by
  funext y
  have e : ((cfgM m).win 11).index t = ![0, 0] := by
    funext a; match a with
    | ⟨0, _⟩ => rfl
    | ⟨1, _⟩ => rfl
  blk_ext [iblk, e]

/-- Window 12 is a whole array. -/
theorem iblk12 : iblk m c 12 t = V m c main_v42 := by
  funext y
  have e : ((cfgM m).win 12).index t = ![0, 0] := by
    funext a; match a with
    | ⟨0, _⟩ => rfl
    | ⟨1, _⟩ => rfl
  blk_ext [iblk, e]

/-- Window 13 is a whole array. -/
theorem iblk13 : iblk m c 13 t = V m c main_v44 := by
  funext y
  have e : ((cfgM m).win 13).index t = ![0, 0] := by
    funext a; match a with
    | ⟨0, _⟩ => rfl
    | ⟨1, _⟩ => rfl
  blk_ext [iblk, e]

/-- Window 14 is a whole array. -/
theorem iblk14 : iblk m c 14 t = V m c main_arg13 := by
  funext y
  have e : ((cfgM m).win 14).index t = ![0, 0] := by
    funext a; match a with
    | ⟨0, _⟩ => rfl
    | ⟨1, _⟩ => rfl
  blk_ext [iblk, e]

/-- Window 15 is a whole array. -/
theorem iblk15 : iblk m c 15 t = V m c main_v45 := by
  funext y
  have e : ((cfgM m).win 15).index t = ![0, 0] := by
    funext a; match a with
    | ⟨0, _⟩ => rfl
    | ⟨1, _⟩ => rfl
  blk_ext [iblk, e]

/-- Window 16 is a whole array. -/
theorem iblk16 : iblk m c 16 t = V m c main_v46 := by
  funext y
  have e : ((cfgM m).win 16).index t = ![0, 0] := by
    funext a; match a with
    | ⟨0, _⟩ => rfl
    | ⟨1, _⟩ => rfl
  blk_ext [iblk, e]

/-- Window 17 is a whole array. -/
theorem iblk17 : iblk m c 17 t = V m c main_v47 := by
  funext y
  have e : ((cfgM m).win 17).index t = ![0, 0] := by
    funext a; match a with
    | ⟨0, _⟩ => rfl
    | ⟨1, _⟩ => rfl
  blk_ext [iblk, e]

end Cert.KernelIdeal.Body

end
-- ==== Proof.KIHost.lean ====
module

public import proofs.«01_k».proof.Proof.KIKit
public import Idealize.ShloMosaic.Lib.Pipeline.ValueKit.Geometry
public import Idealize.ShloMosaic.Lib.Pipeline.Value
public import Idealize.ShloMosaic.Lib.StableHlo.ReadAt
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD)

/-! # The arrays the host prepares, as terms of the arguments -/

set_option maxHeartbeats 4000000 in
/-- Host array 28 as a term. -/
theorem V_v28 : (V m c main_v28 : Vec F S100000x40 .bf16) = (uitofp .bf16 (concatenate S100000x40 1 [⟨S100000x32, (cmpi .eq (broadcastInDim S100000x32 ![0, 1] bcast_S100000x1_S100000x32_0_1 (broadcastInDim S100000x1 ![0] bcast_S100000_S100000x1_0 (m ((c : Thread nD τ).loc main_arg3) : IVec S100000 32))) (broadcastInDim S100000x32 ![0, 1] bcast_S1x32_S100000x32_0_1 (broadcastInDim S1x32 ![1] bcast_S32_S1x32_1 (iotaInDim S32 32 0))) : IVec S100000x32 1)⟩, ⟨S100000x1, (broadcastInDim S100000x1 ![0] bcast_S100000_S100000x1_0 (m ((c : Thread nD τ).loc main_arg2) : IVec S100000 1) : IVec S100000x1 1)⟩, ⟨S100000x7, (broadcastInDim S100000x7 ![] bcast_S_S100000x7 (constantI S_ 1 0#1) : IVec S100000x7 1)⟩] concatenates_S100000x32_S100000x1_S100000x7_S100000x40_d1)) := by
  unfold V; simp only [hostOps0, hostOps0_1, hostOps0_2, List.flatten_cons, List.flatten_nil, List.append_nil, List.cons_append, List.nil_append]; after_reads_at; rfl

set_option maxHeartbeats 4000000 in
/-- Host array 2 at an index. -/
theorem V_v2 (a b : Fin 128) : (V m c main_v2 : Vec F S128x128 .bf16) (ix2 a b) = FloatOps.truncf .bf16 bitsLt_bf16_f32 ((m ((c : Thread nD τ).loc main_arg4) : Vec F S4x128x32 .f32) (ix3 ⟨b.val / 32, by omega⟩ a ⟨b.val % 32, by omega⟩)) := by
  unfold V; simp only [hostOps0, hostOps0_1, hostOps0_2, List.flatten_cons, List.flatten_nil, List.append_nil, List.cons_append, List.nil_append]; after_reads_at; try rfl

set_option maxHeartbeats 4000000 in
/-- Host array 3 at an index. -/
theorem V_v3 (b : Fin 128) : (V m c main_v3 : Vec F S1x128 .f32) (ix2 0 b) = (m ((c : Thread nD τ).loc main_arg5) : Vec F S4x32 .f32) (ix2 ⟨b.val / 32, by omega⟩ ⟨b.val % 32, by omega⟩) := by
  unfold V; simp only [hostOps0, hostOps0_1, hostOps0_2, List.flatten_cons, List.flatten_nil, List.append_nil, List.cons_append, List.nil_append]; after_reads_at; try rfl

set_option maxHeartbeats 4000000 in
/-- Host array 16 at an index. -/
theorem V_v16 (a : Fin 128) (k : Fin 4) : (V m c main_v16 : Vec F S128x4 .f32) (ix2 a k) = FloatOps.mulf ((m ((c : Thread nD τ).loc main_arg6) : Vec F S4x32x1 .f32) (ix3 ⟨a.val / 32, by omega⟩ ⟨a.val % 32, by omega⟩ 0)) (FloatOps.uitofp .f32 (IntOp.cmpi .eq (IntOp.addi (BitVec.ofNat 32 (a.val / 32)) 0#32) (BitVec.ofNat 32 k.val))) := by
  unfold V; simp only [hostOps0, hostOps0_1, hostOps0_2, List.flatten_cons, List.flatten_nil, List.append_nil, List.cons_append, List.nil_append]; after_reads_at; try rfl

set_option maxHeartbeats 4000000 in
/-- Host array 17 at an index. -/
theorem V_v17 (k : Fin 4) : (V m c main_v17 : Vec F S1x4 .f32) (ix2 0 k) = (m ((c : Thread nD τ).loc main_arg7) : Vec F S4x1 .f32) (ix2 k 0) := by
  unfold V; simp only [hostOps0, hostOps0_1, hostOps0_2, List.flatten_cons, List.flatten_nil, List.append_nil, List.cons_append, List.nil_append]; after_reads_at; try rfl

set_option maxHeartbeats 4000000 in
/-- Host array 18 at an index. -/
theorem V_v18 (t : Fin 20) (r : Fin 5000) : (V m c main_v18 : IVec S20x1x5000 32) (ix3 t 0 r) = (m ((c : Thread nD τ).loc main_arg1) : IVec S100000 32) (ix1 ⟨t.val * 5000 + r.val, by omega⟩) := by
  unfold V; simp only [hostOps0, hostOps0_1, hostOps0_2, List.flatten_cons, List.flatten_nil, List.append_nil, List.cons_append, List.nil_append]; after_reads_at; try rfl

set_option maxHeartbeats 4000000 in
/-- Host array 40 at an index. -/
theorem V_v40 (a : Fin 128) (b : Fin 128) : (V m c main_v40 : Vec F S128x128 .f32) (ix2 a b) = (m ((c : Thread nD τ).loc main_arg11) : Vec F S264x128 .f32) (ix2 ⟨0 + a.val, by omega⟩ b) := by
  unfold V; simp only [hostOps0, hostOps0_1, hostOps0_2, List.flatten_cons, List.flatten_nil, List.append_nil, List.cons_append, List.nil_append]; after_reads_at; try rfl

set_option maxHeartbeats 4000000 in
/-- Host array 41 at an index. -/
theorem V_v41 (a : Fin 128) (b : Fin 128) : (V m c main_v41 : Vec F S128x128 .f32) (ix2 a b) = (m ((c : Thread nD τ).loc main_arg11) : Vec F S264x128 .f32) (ix2 ⟨128 + a.val, by omega⟩ b) := by
  unfold V; simp only [hostOps0, hostOps0_1, hostOps0_2, List.flatten_cons, List.flatten_nil, List.append_nil, List.cons_append, List.nil_append]; after_reads_at; try rfl

set_option maxHeartbeats 4000000 in
/-- Host array 42 at an index. -/
theorem V_v42 (a : Fin 8) (b : Fin 128) : (V m c main_v42 : Vec F S8x128 .f32) (ix2 a b) = (m ((c : Thread nD τ).loc main_arg11) : Vec F S264x128 .f32) (ix2 ⟨256 + a.val, by omega⟩ b) := by
  unfold V; simp only [hostOps0, hostOps0_1, hostOps0_2, List.flatten_cons, List.flatten_nil, List.append_nil, List.cons_append, List.nil_append]; after_reads_at; try rfl

set_option maxHeartbeats 4000000 in
/-- Host array 43 at an index. -/
theorem V_v43 (b : Fin 128) : (V m c main_v43 : Vec F S1x128 .f32) (ix2 0 b) = (m ((c : Thread nD τ).loc main_arg9) : Vec F S128 .f32) (ix1 b) := by
  unfold V; simp only [hostOps0, hostOps0_1, hostOps0_2, List.flatten_cons, List.flatten_nil, List.append_nil, List.cons_append, List.nil_append]; after_reads_at; try rfl

set_option maxHeartbeats 4000000 in
/-- Host array 44 at an index. -/
theorem V_v44 (b : Fin 128) : (V m c main_v44 : Vec F S1x128 .f32) (ix2 0 b) = (m ((c : Thread nD τ).loc main_arg12) : Vec F S128 .f32) (ix1 b) := by
  unfold V; simp only [hostOps0, hostOps0_1, hostOps0_2, List.flatten_cons, List.flatten_nil, List.append_nil, List.cons_append, List.nil_append]; after_reads_at; try rfl

set_option maxHeartbeats 4000000 in
/-- Host array 45 at an index. -/
theorem V_v45 (b : Fin 128) : (V m c main_v45 : Vec F S1x128 .f32) (ix2 0 b) = (m ((c : Thread nD τ).loc main_arg14) : Vec F S128 .f32) (ix1 b) := by
  unfold V; simp only [hostOps0, hostOps0_1, hostOps0_2, List.flatten_cons, List.flatten_nil, List.append_nil, List.cons_append, List.nil_append]; after_reads_at; try rfl

set_option maxHeartbeats 4000000 in
/-- Host array 46 at an index. -/
theorem V_v46 (b : Fin 128) : (V m c main_v46 : Vec F S1x128 .f32) (ix2 0 b) = (m ((c : Thread nD τ).loc main_arg15) : Vec F S128 .f32) (ix1 b) := by
  unfold V; simp only [hostOps0, hostOps0_1, hostOps0_2, List.flatten_cons, List.flatten_nil, List.append_nil, List.cons_append, List.nil_append]; after_reads_at; try rfl

set_option maxHeartbeats 4000000 in
/-- Host array 47 at an index. -/
theorem V_v47 (b : Fin 128) : (V m c main_v47 : Vec F S1x128 .f32) (ix2 0 b) = (m ((c : Thread nD τ).loc main_arg16) : Vec F S128 .f32) (ix1 b) := by
  unfold V; simp only [hostOps0, hostOps0_1, hostOps0_2, List.flatten_cons, List.flatten_nil, List.append_nil, List.cons_append, List.nil_append]; after_reads_at; try rfl

end Cert.KernelIdeal.Body

end
-- ==== Proof.KIIn.lean ====
module

public import proofs.«01_k».proof.Proof.KIPay
public import proofs.«01_k».proof.Proof.KIBlk
public import proofs.«01_k».proof.Proof.KIHost
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators
open Cert.Proof.Attn (In ofArgs)

variable (m : (ℓ : Loc nD τ sig) → Buf (Elt Ideal) ℓ) (c : Dev nD) (t : Fin (cfgM m).N)

/-! # The blocks' values in terms of the arguments -/

/-- The arguments as functions of their coordinates. -/
def inp : In := ofArgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

/-- Row `r` of point `t`. -/
def rowAt (n : ℕ) (hn : n < 20) (r : Fin 5000) : Fin 100000 := ⟨5000 * n + r.val, by omega⟩

variable (ht : t.val < 20) (r : Fin 5000)

/-- The segments of a block. -/
theorem seg_val : (blkAt m c t).seg (ValueIdx.ix2 0 r) = BitVec.ofNat 32 ((inp m c).seg (rowAt t.val ht r)) := by
  show k0_pay36 (F := Ideal) (iblk m c 1 t) (ValueIdx.ix2 0 r) = _
  refine (pay36_apply _ r).trans ?_
  rw [iblk1, ← Cert.Proof.Attn.ix3_eq, V_v18, Cert.Proof.Attn.ix1_eq]
  show _ = BitVec.ofNat 32 (BitVec.toNat ((m ((c : Thread nD τ).loc main_arg1) : IVec S100000 32) (ValueIdx.ix1 (rowAt t.val ht r))))
  rw [BitVec.ofNat_toNat, BitVec.setWidth_eq]
  congr 2
  exact Fin.ext (by show t.val * 5000 + r.val = 5000 * t.val + r.val; omega)

/-- A product with one. -/
theorem mul_of_one (x y : EReal) (h : y = 1) : x * y = x := by rw [h, mul_one]

/-- A comparison's bit as a number. -/
theorem uito_eq (x y : BitVec 32) : (FloatOps.uitofp (F := Ideal) .bf16 (IntOp.cmpi .eq x y) : Ideal .bf16) = if x = y then (1 : EReal) else 0 := by
  show ((((IntOp.cmpi .eq x y).toNat : ℝ)) : EReal) = _
  unfold IntOp.cmpi
  by_cases h : x = y
  · subst h; simp
  · have hb : (x == y) = false := by simpa using h
    simp [h, hb]

/-- The depths' one-hot columns of a block. -/
theorem cols_dep (d : Fin 32) : (blkAt m c t).cols (ValueIdx.ix2 r ⟨0 + d.val, by omega⟩) = if (inp m c).dep (rowAt t.val ht r) = d.val then (1 : EReal) else 0 := by
  show k0_pay37 (F := Ideal) (iblk m c 2 t) (ValueIdx.ix2 r ⟨0 + d.val, by omega⟩) = _
  refine (congrFun (pay37_eq _) _).trans ?_
  rw [iblk2 m c t r _ (rowAt t.val ht r).isLt, V_v28]
  have e : BitVec.ofNat 32 d.val = (m ((c : Thread nD τ).loc main_arg3) : IVec S100000 32) (ValueIdx.ix1 (rowAt t.val ht r)) ↔ (inp m c).dep (rowAt t.val ht r) = d.val := by
    show _ ↔ BitVec.toNat ((m ((c : Thread nD τ).loc main_arg3) : IVec S100000 32) (ValueIdx.ix1 (rowAt t.val ht r))) = d.val
    have := d.isLt
    constructor
    · intro h; rw [← h, BitVec.toNat_ofNat]; omega
    · intro h; rw [← h, BitVec.ofNat_toNat, BitVec.setWidth_eq]
  refine (congrArg (FloatOps.uitofp (F := Ideal) .bf16) (concatenate_apply_piece (t := S100000x40) 1 _ _ _ 0 (Nat.lt_of_lt_of_eq (by decide : 0 < 3) rfl) S100000x32 _ rfl rfl 0 rfl (ValueIdx.ix2 (rowAt t.val ht r) d)
    (fun b hb => by match b with | ⟨0, _⟩ => rfl | ⟨1, _⟩ => exact absurd rfl hb) rfl)).trans ?_
  refine (uito_eq _ _).trans ?_
  rw [broadcastInDim_apply _ _ _ _ (ValueIdx.ix2 (rowAt t.val ht r) 0) (fun a => by match a with | ⟨0, _⟩ => rfl | ⟨1, _⟩ => rfl),
    broadcastInDim_apply _ _ _ _ (ValueIdx.ix1 (rowAt t.val ht r)) (fun a => by match a with | ⟨0, _⟩ => rfl),
    broadcastInDim_apply _ _ _ _ (ValueIdx.ix2 0 d) (fun a => by match a with | ⟨0, _⟩ => rfl | ⟨1, _⟩ => rfl),
    broadcastInDim_apply _ _ _ _ (ValueIdx.ix1 d) (fun a => by match a with | ⟨0, _⟩ => rfl)]
  exact if_congr (eq_comm.trans e) rfl rfl

/-- The mask's column of a block. -/
theorem cols_ind : k0_pay40 (F := Ideal) (blkAt m c t).aux (ValueIdx.ix2 r 0) = (inp m c).ind (rowAt t.val ht r) := by
  rw [pay40_apply]
  show iblk m c 2 t (ValueIdx.ix2 r 32) = _
  rw [iblk2 m c t r _ (rowAt t.val ht r).isLt, V_v28]
  refine (congrArg (FloatOps.uitofp (F := Ideal) .bf16) (concatenate_apply_piece (t := S100000x40) 1 _ _ _ 1 (Nat.lt_of_lt_of_eq (by decide : 1 < 3) rfl) S100000x1 _ rfl rfl 32 rfl (ValueIdx.ix2 (rowAt t.val ht r) 0)
    (fun b hb => by match b with | ⟨0, _⟩ => rfl | ⟨1, _⟩ => exact absurd rfl hb) rfl)).trans ?_
  rw [broadcastInDim_apply _ _ _ _ (ValueIdx.ix1 (rowAt t.val ht r)) (fun a => by match a with | ⟨0, _⟩ => rfl)]
  rfl

/-- The block's `w1`. -/
theorem bw1 : (blkAt m c t).w1 = (V m c main_v2 : Vec Ideal S128x128 .bf16) := by
  unfold blkAt
  exact iblk3 m c t
/-- The block's `b1`. -/
theorem bb1 : (blkAt m c t).b1 = (V m c main_v3 : Vec Ideal S1x128 .f32) := by
  unfold blkAt
  exact iblk4 m c t
/-- The block's `w2`. -/
theorem bw2 : (blkAt m c t).w2 = (V m c main_v16 : Vec Ideal S128x4 .f32) := by
  unfold blkAt
  exact iblk5 m c t
/-- The block's `b2`. -/
theorem bb2 : (blkAt m c t).b2 = (V m c main_v17 : Vec Ideal S1x4 .f32) := by
  unfold blkAt
  exact iblk6 m c t
/-- The exponentials of a block. -/
theorem ex_val (k : Fin 4) : (blkAt m c t).ex (ValueIdx.ix2 r k) = Cert.Proof.Attn.wt (inp m c) k (rowAt t.val ht r) := by
  unfold Blk.ex
  refine (pay39_apply _ _ _ _ _ r k).trans ?_
  rw [bw1, bb1, bw2, bb2]
  unfold Cert.Proof.Attn.wt Cert.Proof.Attn.sc
  refine congrArg Ideal.exp (congrArg₂ (fun x y : EReal => x + y) ?_ ?_)
  · rw [Cert.Proof.Attn.sum_heads, Finset.sum_eq_single k]
    · refine Finset.sum_congr rfl fun q _ => ?_
      have e1 : (32 * k.val + q.val) / 32 = k.val := by omega
      have e2 : (32 * k.val + q.val) % 32 = q.val := by omega
      refine congrArg₂ (fun x y : EReal => x * y) (congrArg Ideal.tanh (congrArg₂ (fun x y : EReal => x + y) (Finset.sum_congr rfl fun i _ => congrArg₂ (fun x y : EReal => x * y) ?_ ?_) ?_)) ?_
      · exact iblk0 m c t r i (rowAt t.val ht r).isLt
      · rw [← Cert.Proof.Attn.ix2_eq, V_v2, Cert.Proof.Attn.ix3_eq]
        show (m ((c : Thread nD τ).loc main_arg4) : FVec Ideal S4x128x32 .f32) _ = (m ((c : Thread nD τ).loc main_arg4) : FVec Ideal S4x128x32 .f32) (ValueIdx.ix3 k i q)
        simp only [e1, e2]
      · rw [← Cert.Proof.Attn.ix2_eq, V_v3, Cert.Proof.Attn.ix2_eq]
        show (m ((c : Thread nD τ).loc main_arg5) : FVec Ideal S4x32 .f32) _ = (m ((c : Thread nD τ).loc main_arg5) : FVec Ideal S4x32 .f32) (ValueIdx.ix2 k q)
        simp only [e1, e2]
      · rw [← Cert.Proof.Attn.ix2_eq, V_v16, Cert.Proof.Attn.ix3_eq]
        simp only [e1, e2]
        exact mul_of_one _ _ ((uito_eq _ _).trans (if_pos (by show BitVec.ofNat 32 k.val + 0#32 = _; exact BitVec.add_zero _)))
    · intro b _ hb
      refine Finset.sum_eq_zero fun q _ => ?_
      have e1 : (32 * b.val + q.val) / 32 = b.val := by omega
      have e2 : (32 * b.val + q.val) % 32 = q.val := by omega
      rw [← Cert.Proof.Attn.ix2_eq ⟨32 * b.val + q.val, _⟩ k, V_v16]
      simp only [e1, e2]
      have z : (FloatOps.uitofp (F := Ideal) .f32 (IntOp.cmpi .eq (IntOp.addi (BitVec.ofNat 32 b.val) 0#32) (BitVec.ofNat 32 k.val)) : Ideal .f32) = (0 : EReal) := by
        refine (uito_eq _ _).trans (if_neg ?_)
        intro h
        have h2 : BitVec.ofNat 32 b.val = BitVec.ofNat 32 k.val := (BitVec.add_zero _).symm.trans h
        have := congrArg BitVec.toNat h2
        rw [BitVec.toNat_ofNat, BitVec.toNat_ofNat] at this
        exact hb (Fin.ext (by omega))
      rw [z]
      show _ * (_ * (0 : EReal)) = 0
      rw [mul_zero, mul_zero]
    · intro h; exact absurd (Finset.mem_univ _) h
  · rw [← Cert.Proof.Attn.ix2_eq, V_v17, Cert.Proof.Attn.ix2_eq]
    rfl

/-- The weighted rows of a block. -/
theorem rhs_num (q : Fin 512) : (blkAt m c t).rhs (ValueIdx.ix2 r ⟨q.val, by omega⟩)
    = Cert.Proof.Attn.wt (inp m c) ⟨q.val / 128, by omega⟩ (rowAt t.val ht r) * (inp m c).h (rowAt t.val ht r) ⟨q.val % 128, by omega⟩ := by
  have h0 : ∀ j : Fin 128, (blkAt m c t).h (ValueIdx.ix2 r j) = (inp m c).h (rowAt t.val ht r) j := fun j => iblk0 m c t r j (rowAt t.val ht r).isLt
  have hx := ex_val m c t ht r
  unfold Blk.ex at hx
  unfold Blk.rhs
  have hq : q.val / 128 = 0 ∨ q.val / 128 = 1 ∨ q.val / 128 = 2 ∨ q.val / 128 = 3 := by omega
  rcases hq with hq | hq | hq | hq
  · rw [pay1_0 _ _ _ _ _ _ r ⟨q.val % 128, by omega⟩ _ (by show q.val = 0 + q.val % 128; omega), pay41_apply, hx, h0, mul_comm]
    congr 2; exact Fin.ext hq.symm
  · rw [pay1_1 _ _ _ _ _ _ r ⟨q.val % 128, by omega⟩ _ (by show q.val = 128 + q.val % 128; omega), pay42_apply, hx, h0, mul_comm]
    congr 2; exact Fin.ext hq.symm
  · rw [pay1_2 _ _ _ _ _ _ r ⟨q.val % 128, by omega⟩ _ (by show q.val = 256 + q.val % 128; omega), pay43_apply, hx, h0, mul_comm]
    congr 2; exact Fin.ext hq.symm
  · rw [pay1_3 _ _ _ _ _ _ r ⟨q.val % 128, by omega⟩ _ (by show q.val = 384 + q.val % 128; omega), pay44_apply, hx, mul_comm]
    refine congrArg₂ (fun x y : EReal => x * y) (congrArg (fun k => Cert.Proof.Attn.wt (inp m c) k (rowAt t.val ht r)) (Fin.ext hq.symm)) (h0 _)

/-- The masked rows of a block. -/
theorem rhs_bh (j : Fin 128) : (blkAt m c t).rhs (ValueIdx.ix2 r ⟨512 + j.val, by omega⟩)
    = (inp m c).h (rowAt t.val ht r) j * (inp m c).ind (rowAt t.val ht r) := by
  unfold Blk.rhs
  rw [pay1_4 _ _ _ _ _ _ r j _ rfl, cols_ind m c t ht r]
  exact congrArg (fun x : EReal => x * _) (iblk0 m c t r j (rowAt t.val ht r).isLt)

/-- The mask's column, among the columns. -/
theorem cols_cnt (q : Fin 1) : (blkAt m c t).cols (ValueIdx.ix2 r ⟨32 + q.val, by omega⟩) = (inp m c).ind (rowAt t.val ht r) := by
  obtain rfl : q = 0 := Subsingleton.elim _ _
  rw [← cols_ind m c t ht r, pay40_apply]
  show k0_pay37 (F := Ideal) (iblk m c 2 t) (ValueIdx.ix2 r ⟨32 + 0, by omega⟩) = iblk m c 2 t (ValueIdx.ix2 r 32)
  exact congrFun (pay37_eq _) _

end Cert.KernelIdeal.Body

end
-- ==== Proof.KIStep.lean ====
module

public import proofs.«01_k».proof.Proof.KIVal
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (B : Blk Ideal) (σ : Fin 5000 → ℕ) (hv : ∀ n, B.seg (ix2 0 n) = BitVec.ofNat 32 (σ n))
include hv

/-- One column block of the weighted sums, updated in its window. -/
theorem win_col (G : ℕ) (hG : G ≤ 216) (hσ : ∀ n, G ≤ σ n ∧ σ n < G + 40) (R : FVec Ideal S5000x640 .bf16) (o : ℕ) (ho : o + 128 ≤ 640)
    (x y : FVec Ideal S256x512 .f32) (off : Fin 2 → ℕ) (inb : ∀ i, off i + (![40, 128] : Fin 2 → ℕ) i ≤ (![256, 512] : Fin 2 → ℕ) i)
    (f : FVec Ideal S40x128 .f32 → FVec Ideal S40x128 .f32) (h0 : off 0 = G) (h1 : off 1 = o)
    (hf : ∀ w r k, f w (ix2 r k) = w (ix2 r k) + k0_pay14 B.seg R (BitVec.ofNat 32 G) (ix2 r ⟨o + k.val, by omega⟩)) (s : Fin 256) (c : Fin 512) :
    updOf (F := Ideal) (s := S256x512) (e := .f32) x y off S40x128.size inb f (ix2 s c)
      = if o ≤ c.val ∧ c.val < o + 128 then (if G ≤ s.val ∧ s.val < G + 40 then x (ix2 s c) + rowsum σ (fun n => R (ix2 n ⟨c.val, by omega⟩)) s.val else y (ix2 s c)) else y (ix2 s c) := by
  by_cases hc : o ≤ c.val ∧ c.val < o + 128
  · rw [if_pos hc]
    by_cases h : G ≤ s.val ∧ s.val < G + 40
    · rw [if_pos h]
      refine (updOf_in x y off inb f _ hf s c ⟨s.val - G, by omega⟩ ⟨c.val - o, by omega⟩ (by show s.val = off 0 + (s.val - G); omega) (by show c.val = off 1 + (c.val - o); omega)).trans ?_
      refine congrArg (x (ix2 s c) + ·) ?_
      refine (pay14_apply _ _ _ _ _).trans ?_
      refine (win_sum B.seg σ hv G hG hσ _ _ s.val (by show s.val = G + (s.val - G); omega)).trans ?_
      have e : (⟨o + (c.val - o), by omega⟩ : Fin 640) = ⟨c.val, by omega⟩ := Fin.ext (by show o + (c.val - o) = c.val; omega)
      exact congrArg (fun q : Fin 640 => rowsum σ (fun n => R (ix2 n q)) s.val) e
    · rw [if_neg h]; exact updOf_out x y off inb f s c (.inl (by rw [h0]; exact h))
  · rw [if_neg hc]; exact updOf_out x y off inb f s c (.inr (by rw [h1]; exact hc))

/-- The same on the whole table. -/
theorem all_col (hσ : ∀ n, σ n < 256) (R : FVec Ideal S5000x640 .bf16) (o : ℕ) (ho : o + 128 ≤ 640)
    (x y : FVec Ideal S256x512 .f32) (off : Fin 2 → ℕ) (inb : ∀ i, off i + (![256, 128] : Fin 2 → ℕ) i ≤ (![256, 512] : Fin 2 → ℕ) i)
    (f : FVec Ideal S256x128 .f32 → FVec Ideal S256x128 .f32) (h0 : off 0 = 0) (h1 : off 1 = o)
    (hf : ∀ w r k, f w (ix2 r k) = w (ix2 r k) + k0_pay21 B.seg R (ix2 r ⟨o + k.val, by omega⟩)) (s : Fin 256) (c : Fin 512) :
    updOf (F := Ideal) (s := S256x512) (e := .f32) x y off S256x128.size inb f (ix2 s c)
      = if o ≤ c.val ∧ c.val < o + 128 then x (ix2 s c) + rowsum σ (fun n => R (ix2 n ⟨c.val, by omega⟩)) s.val else y (ix2 s c) := by
  by_cases hc : o ≤ c.val ∧ c.val < o + 128
  · rw [if_pos hc]
    refine (updOf_in x y off inb f _ hf s c s ⟨c.val - o, by omega⟩ (by omega) (by show c.val = off 1 + (c.val - o); omega)).trans ?_
    refine congrArg (x (ix2 s c) + ·) ?_
    refine (pay21_apply _ _ _ _).trans ?_
    refine (all_sum B.seg σ hv hσ _ _).trans ?_
    have e : (⟨o + (c.val - o), by omega⟩ : Fin 640) = ⟨c.val, by omega⟩ := Fin.ext (by show o + (c.val - o) = c.val; omega)
    exact congrArg (fun q : Fin 640 => rowsum σ (fun n => R (ix2 n q)) s.val) e
  · rw [if_neg hc]; exact updOf_out x y off inb f s c (.inr (by rw [h1]; exact hc))

/-- The row offset of a window. -/
theorem off_G (G : ℕ) (hG : G ≤ 216) : (BitVec.ofNat 32 G).toNat = G := by rw [BitVec.toNat_ofNat]; omega

/-- The weighted sums after a point in the window. -/
theorem winNum_apply (G : ℕ) (hG : G ≤ 216) (hσ : ∀ n, G ≤ σ n ∧ σ n < G + 40) (o : BitVec 32) (hk : k0_chk2 (BitVec.ofNat 32 G) o) (ho : k0_cond2 o = 1#1)
    (x : Vec Ideal S256x512 .f32) (s : Fin 256) (c : Fin 512) :
    winNum B (BitVec.ofNat 32 G) o hk ho x (ix2 s c) = x (ix2 s c) + rowsum σ (fun n => B.rhs (ix2 n ⟨c.val, by omega⟩)) s.val := by
  have eG := off_G B σ hv G hG
  unfold winNum
  by_cases h : G ≤ s.val ∧ s.val < G + 40
  · refine (win_col B σ hv G hG hσ B.rhs 384 (by decide) _ _ _ _ _ eG rfl (k0_pay18_apply _ _ _) s c).trans ?_
    rw [if_pos h]
    split
    · refine congrArg (· + _) ?_
      refine (win_col B σ hv G hG hσ B.rhs 256 (by decide) _ _ _ _ _ eG rfl (k0_pay17_apply _ _ _) s c).trans ((if_neg (by omega)).trans ?_)
      refine (win_col B σ hv G hG hσ B.rhs 128 (by decide) _ _ _ _ _ eG rfl (k0_pay16_apply _ _ _) s c).trans ((if_neg (by omega)).trans ?_)
      exact (win_col B σ hv G hG hσ B.rhs 0 (by decide) _ _ _ _ _ eG rfl (k0_pay15_apply _ _ _) s c).trans (if_neg (by omega))
    · refine (win_col B σ hv G hG hσ B.rhs 256 (by decide) _ _ _ _ _ eG rfl (k0_pay17_apply _ _ _) s c).trans ?_
      rw [if_pos h]
      split
      · refine congrArg (· + _) ?_
        refine (win_col B σ hv G hG hσ B.rhs 128 (by decide) _ _ _ _ _ eG rfl (k0_pay16_apply _ _ _) s c).trans ((if_neg (by omega)).trans ?_)
        exact (win_col B σ hv G hG hσ B.rhs 0 (by decide) _ _ _ _ _ eG rfl (k0_pay15_apply _ _ _) s c).trans (if_neg (by omega))
      · refine (win_col B σ hv G hG hσ B.rhs 128 (by decide) _ _ _ _ _ eG rfl (k0_pay16_apply _ _ _) s c).trans ?_
        rw [if_pos h]
        split
        · refine congrArg (· + _) ?_
          exact (win_col B σ hv G hG hσ B.rhs 0 (by decide) _ _ _ _ _ eG rfl (k0_pay15_apply _ _ _) s c).trans (if_neg (by omega))
        · refine (win_col B σ hv G hG hσ B.rhs 0 (by decide) _ _ _ _ _ eG rfl (k0_pay15_apply _ _ _) s c).trans ?_
          rw [if_pos h, if_pos (by omega)]
  · rw [rowsum_out σ _ s.val (fun n e => h (e ▸ hσ n)), add_zero]
    refine (updOf_out _ _ _ _ _ s c (.inl ?_)).trans ((updOf_out _ _ _ _ _ s c (.inl ?_)).trans ((updOf_out _ _ _ _ _ s c (.inl ?_)).trans (updOf_out _ _ _ _ _ s c (.inl ?_))))
    all_goals
      show ¬ ((BitVec.ofNat 32 G).toNat ≤ s.val ∧ s.val < (BitVec.ofNat 32 G).toNat + 40)
      rw [eG]; exact h

/-- The weighted sums after a point on the whole table. -/
theorem allNum_apply (hσ : ∀ n, σ n < 256) (x : Vec Ideal S256x512 .f32) (s : Fin 256) (c : Fin 512) :
    allNum B x (ix2 s c) = x (ix2 s c) + rowsum σ (fun n => B.rhs (ix2 n ⟨c.val, by omega⟩)) s.val := by
  unfold allNum
  refine (all_col B σ hv hσ B.rhs 384 (by decide) _ _ _ _ _ rfl rfl (k0_pay25_apply _ _) s c).trans ?_
  split
  · rfl
  · refine (all_col B σ hv hσ B.rhs 256 (by decide) _ _ _ _ _ rfl rfl (k0_pay24_apply _ _) s c).trans ?_
    split
    · rfl
    · refine (all_col B σ hv hσ B.rhs 128 (by decide) _ _ _ _ _ rfl rfl (k0_pay23_apply _ _) s c).trans ?_
      split
      · rfl
      · exact (all_col B σ hv hσ B.rhs 0 (by decide) _ _ _ _ _ rfl rfl (k0_pay22_apply _ _) s c).trans (if_pos (by omega))

variable (G : ℕ) (hG : G ≤ 216) (hlt : ∀ n, σ n < 256) (o : BitVec 32) (hk : k0_chk2 (BitVec.ofNat 32 G) o) (hw : k0_cond2 o = 1#1 → ∀ n, G ≤ σ n ∧ σ n < G + 40) (S : Acc Ideal)
include hG hlt hw

/-- The weighted sums after a point. -/
theorem step_num (s : Fin 256) (c : Fin 512) :
    (step B (BitVec.ofNat 32 G) o hk S).num (ix2 s c) = S.num (ix2 s c) + rowsum σ (fun n => B.rhs (ix2 n ⟨c.val, by omega⟩)) s.val := by
  by_cases ho : k0_cond2 o = 1#1
  · rw [step_win B _ o hk S ho]; exact winNum_apply B σ hv G hG (hw ho) o hk ho S.num s c
  · rw [step_all B _ o hk S ho]; exact allNum_apply B σ hv hlt S.num s c

/-- The plain sums after a point. -/
theorem step_bh (s : Fin 256) (c : Fin 128) :
    (step B (BitVec.ofNat 32 G) o hk S).bh (ix2 s c) = S.bh (ix2 s c) + rowsum σ (fun n => B.rhs (ix2 n ⟨512 + c.val, by omega⟩)) s.val := by
  by_cases ho : k0_cond2 o = 1#1
  · rw [step_win B _ o hk S ho]
    refine upd_rows (C := 128) S.bh (k0_off7 (BitVec.ofNat 32 G)) (k0_off7_inb _ _ hk ho) (fun x => k0_pay2 (k0_pay19 B.seg B.rhs (BitVec.ofNat 32 G) x)) σ (fun n k => B.rhs (ix2 n ⟨512 + k.val, by omega⟩)) G (off_G B σ hv G hG) rfl (hw ho) (fun u r k => ?_) s c
    unfold k0_pay2
    refine (congrFun (shapeCast_self _ shapeCasts_S40x128_S40x128) _).trans ((k0_pay19_apply _ _ _ u r k).trans (congrArg (u (ix2 r k) + ·) ?_))
    exact (pay14_apply _ _ _ _ _).trans (win_sum B.seg σ hv G hG (hw ho) _ r _ rfl)
  · rw [step_all B _ o hk S ho]
    show k0_pay7 (k0_pay26 B.seg B.rhs S.bh) (ix2 s c) = _
    unfold k0_pay7
    refine (congrFun (shapeCast_self _ shapeCasts_S256x128_S256x128) _).trans ((k0_pay26_apply _ _ S.bh s c).trans (congrArg (S.bh (ix2 s c) + ·) ?_))
    exact (pay21_apply _ _ _ _).trans (all_sum B.seg σ hv hlt _ s)

/-- The weights after a point. -/
theorem step_den (s : Fin 256) (c : Fin 4) :
    (step B (BitVec.ofNat 32 G) o hk S).den (ix2 s c) = S.den (ix2 s c) + rowsum σ (fun n => B.ex (ix2 n c)) s.val := by
  by_cases ho : k0_cond2 o = 1#1
  · rw [step_win B _ o hk S ho]
    refine upd_rows (C := 4) S.den _ _ _ σ (fun n k => B.ex (ix2 n k)) G (off_G B σ hv G hG) rfl (hw ho) (fun u r k => ?_) s c
    exact (k0_pay3_apply _ _ u r k).trans (congrArg (u (ix2 r k) + ·) (win_sum B.seg σ hv G hG (hw ho) _ r _ rfl))
  · rw [step_all B _ o hk S ho]
    exact (k0_pay8_apply _ _ S.den s c).trans (congrArg (S.den (ix2 s c) + ·) (all_sum B.seg σ hv hlt _ s))

/-- The row counts after a point. -/
theorem step_cnt (s : Fin 256) (c : Fin 1) :
    (step B (BitVec.ofNat 32 G) o hk S).cnt (ix2 s c) = S.cnt (ix2 s c) + rowsum σ (fun n => B.cols (ix2 n ⟨32 + c.val, by omega⟩)) s.val := by
  by_cases ho : k0_cond2 o = 1#1
  · rw [step_win B _ o hk S ho]
    refine upd_rows (C := 1) S.cnt _ _ _ σ (fun n k => B.cols (ix2 n ⟨32 + k.val, by omega⟩)) G (off_G B σ hv G hG) rfl (hw ho) (fun u r k => ?_) s c
    refine (k0_pay6_apply _ _ u r k).trans (congrArg (u (ix2 r k) + ·) ?_)
    exact (pay4_apply _ _ _ _).trans (win_sum B.seg σ hv G hG (hw ho) _ r _ rfl)
  · rw [step_all B _ o hk S ho]
    refine (k0_pay11_apply _ _ S.cnt s c).trans (congrArg (S.cnt (ix2 s c) + ·) ?_)
    exact (pay9_apply _ _ _ _).trans (all_sum B.seg σ hv hlt _ s)

/-- The depth counts after a point. -/
theorem step_dep (s : Fin 256) (c : Fin 32) :
    (step B (BitVec.ofNat 32 G) o hk S).dep (ix2 s c) = S.dep (ix2 s c) + rowsum σ (fun n => B.cols (ix2 n ⟨0 + c.val, by omega⟩)) s.val := by
  by_cases ho : k0_cond2 o = 1#1
  · rw [step_win B _ o hk S ho]
    refine upd_rows (C := 32) S.dep _ _ _ σ (fun n k => B.cols (ix2 n ⟨0 + k.val, by omega⟩)) G (off_G B σ hv G hG) rfl (hw ho) (fun u r k => ?_) s c
    refine (k0_pay5_apply _ _ u r k).trans (congrArg (u (ix2 r k) + ·) ?_)
    exact (pay4_apply _ _ _ _).trans (win_sum B.seg σ hv G hG (hw ho) _ r _ rfl)
  · rw [step_all B _ o hk S ho]
    refine (k0_pay10_apply _ _ S.dep s c).trans (congrArg (S.dep (ix2 s c) + ·) ?_)
    exact (pay9_apply _ _ _ _).trans (all_sum B.seg σ hv hlt _ s)

end Cert.KernelIdeal.Body

end
-- ==== Proof.KISum.lean ====
module

public import proofs.«01_k».proof.Proof.KIIn
public import proofs.«01_k».proof.Proof.KIStep
public import proofs.«01_k».proof.Proof.KITab
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators
open Cert.Proof.Attn (In ofArgs)

/-! # What the accumulators hold after the last point -/

/-- Sums by points are sums over all rows. -/
theorem fold_rows {N : ℕ} (hN : N = 20) (f : (n : ℕ) → n ≤ N → EReal) (g : Fin 100000 → EReal) (h0 : f 0 (Nat.zero_le _) = 0)
    (hs : ∀ t : Fin N, f (t.val + 1) t.isLt = f t.val (Nat.le_of_lt t.isLt) + ∑ r : Fin 5000, g (rowAt t.val (Nat.lt_of_lt_of_eq t.isLt hN) r)) : f N (le_refl N) = ∑ i, g i := by
  subst hN
  have key : ∀ n (h : n ≤ 20), f n h = ∑ i ∈ Finset.range (5000 * n), if hi : i < 100000 then g ⟨i, hi⟩ else 0 := by
    intro n
    induction n with
    | zero => intro h; simpa using h0
    | succ n ih =>
      intro h
      rw [hs ⟨n, h⟩, ih, Nat.mul_succ, Finset.sum_range_add]
      congr 1
      rw [Finset.sum_range]
      refine Finset.sum_congr rfl fun r _ => ?_
      have hr := r.isLt
      rw [dif_pos (by omega : 5000 * n + r.val < 100000)]
      rfl
  rw [key 20 (le_refl _)]
  show (∑ i ∈ Finset.range 100000, if hi : i < 100000 then g ⟨i, hi⟩ else 0) = _
  rw [Finset.sum_range]
  exact Finset.sum_congr rfl fun i _ => dif_pos i.isLt

/-- A point's step of `num`, its words given by their values. -/
theorem word_num (B : Blk Ideal) (σ : Fin 5000 → ℕ) (v : Fin 5000 → EReal) (hv : ∀ n, B.seg (ValueIdx.ix2 0 n) = BitVec.ofNat 32 (σ n)) (G : ℕ) (hG : G ≤ 216) (hlt : ∀ n, σ n < 256) (g : BitVec 32) (hg : g = BitVec.ofNat 32 G) (o : BitVec 32)
    (hk : k0_chk2 g o) (hw : k0_cond2 o = 1#1 → ∀ n, G ≤ σ n ∧ σ n < G + 40) (S : Acc Ideal) (s : Fin 256) (c : Fin 512) (he : ∀ n, B.rhs (ValueIdx.ix2 n ⟨c.val, by omega⟩) = v n) :
    (step B g o hk S).num (ValueIdx.ix2 s c) = S.num (ValueIdx.ix2 s c) + ∑ n, if σ n = s.val then v n else 0 := by
  subst hg
  refine (step_num B σ hv G hG hlt o hk hw S s c).trans ?_
  simp only [he]
  rfl

/-- A point's step of `bh`, its words given by their values. -/
theorem word_bh (B : Blk Ideal) (σ : Fin 5000 → ℕ) (v : Fin 5000 → EReal) (hv : ∀ n, B.seg (ValueIdx.ix2 0 n) = BitVec.ofNat 32 (σ n)) (G : ℕ) (hG : G ≤ 216) (hlt : ∀ n, σ n < 256) (g : BitVec 32) (hg : g = BitVec.ofNat 32 G) (o : BitVec 32)
    (hk : k0_chk2 g o) (hw : k0_cond2 o = 1#1 → ∀ n, G ≤ σ n ∧ σ n < G + 40) (S : Acc Ideal) (s : Fin 256) (c : Fin 128) (he : ∀ n, B.rhs (ValueIdx.ix2 n ⟨512 + c.val, by omega⟩) = v n) :
    (step B g o hk S).bh (ValueIdx.ix2 s c) = S.bh (ValueIdx.ix2 s c) + ∑ n, if σ n = s.val then v n else 0 := by
  subst hg
  refine (step_bh B σ hv G hG hlt o hk hw S s c).trans ?_
  simp only [he]
  rfl

/-- A point's step of `den`, its words given by their values. -/
theorem word_den (B : Blk Ideal) (σ : Fin 5000 → ℕ) (v : Fin 5000 → EReal) (hv : ∀ n, B.seg (ValueIdx.ix2 0 n) = BitVec.ofNat 32 (σ n)) (G : ℕ) (hG : G ≤ 216) (hlt : ∀ n, σ n < 256) (g : BitVec 32) (hg : g = BitVec.ofNat 32 G) (o : BitVec 32)
    (hk : k0_chk2 g o) (hw : k0_cond2 o = 1#1 → ∀ n, G ≤ σ n ∧ σ n < G + 40) (S : Acc Ideal) (s : Fin 256) (c : Fin 4) (he : ∀ n, B.ex (ValueIdx.ix2 n c) = v n) :
    (step B g o hk S).den (ValueIdx.ix2 s c) = S.den (ValueIdx.ix2 s c) + ∑ n, if σ n = s.val then v n else 0 := by
  subst hg
  refine (step_den B σ hv G hG hlt o hk hw S s c).trans ?_
  simp only [he]
  rfl

/-- A point's step of `cnt`, its words given by their values. -/
theorem word_cnt (B : Blk Ideal) (σ : Fin 5000 → ℕ) (v : Fin 5000 → EReal) (hv : ∀ n, B.seg (ValueIdx.ix2 0 n) = BitVec.ofNat 32 (σ n)) (G : ℕ) (hG : G ≤ 216) (hlt : ∀ n, σ n < 256) (g : BitVec 32) (hg : g = BitVec.ofNat 32 G) (o : BitVec 32)
    (hk : k0_chk2 g o) (hw : k0_cond2 o = 1#1 → ∀ n, G ≤ σ n ∧ σ n < G + 40) (S : Acc Ideal) (s : Fin 256) (c : Fin 1) (he : ∀ n, B.cols (ValueIdx.ix2 n ⟨32 + c.val, by omega⟩) = v n) :
    (step B g o hk S).cnt (ValueIdx.ix2 s c) = S.cnt (ValueIdx.ix2 s c) + ∑ n, if σ n = s.val then v n else 0 := by
  subst hg
  refine (step_cnt B σ hv G hG hlt o hk hw S s c).trans ?_
  simp only [he]
  rfl

/-- A point's step of `dep`, its words given by their values. -/
theorem word_dep (B : Blk Ideal) (σ : Fin 5000 → ℕ) (v : Fin 5000 → EReal) (hv : ∀ n, B.seg (ValueIdx.ix2 0 n) = BitVec.ofNat 32 (σ n)) (G : ℕ) (hG : G ≤ 216) (hlt : ∀ n, σ n < 256) (g : BitVec 32) (hg : g = BitVec.ofNat 32 G) (o : BitVec 32)
    (hk : k0_chk2 g o) (hw : k0_cond2 o = 1#1 → ∀ n, G ≤ σ n ∧ σ n < G + 40) (S : Acc Ideal) (s : Fin 256) (c : Fin 32) (he : ∀ n, B.cols (ValueIdx.ix2 n ⟨0 + c.val, by omega⟩) = v n) :
    (step B g o hk S).dep (ValueIdx.ix2 s c) = S.dep (ValueIdx.ix2 s c) + ∑ n, if σ n = s.val then v n else 0 := by
  subst hg
  refine (step_dep B σ hv G hG hlt o hk hw S s c).trans ?_
  simp only [he]
  rfl

variable (m : (ℓ : Loc nD τ sig) → Buf (Elt Ideal) ℓ)

/-- The segments are the ids. -/
theorem seg_batN (i : Fin 100000) : (inp m 0).seg i = batN m i := by
  unfold batN; rw [Cert.Proof.Attn.ix1_eq]; rfl

variable (hb : ∀ i, batN m i < 256) (hle : ∀ i j : Fin 100000, i ≤ j → batN m i ≤ batN m j) (hT : Tok m)
include hb hle

/-- In the window's branch every row's segment is in the window. -/
theorem in_window (t : Fin (cfgM m).N) (ht : t.val < 20) (ho : k0_cond2 (ovAt m 0 t) = 1#1) (r : Fin 5000) :
    gN m t.val ht ≤ (inp m 0).seg (rowAt t.val ht r) ∧ (inp m 0).seg (rowAt t.val ht r) < gN m t.val ht + 40 := by
  have h1 := (ovAt_cond m hb 0 t ht).mp ho
  have h2 := hle ⟨5000 * t.val, by omega⟩ (rowAt t.val ht r) (by show 5000 * t.val ≤ 5000 * t.val + r.val; omega)
  have h3 := hle (rowAt t.val ht r) ⟨4999 + 5000 * t.val, by omega⟩ (by show 5000 * t.val + r.val ≤ 4999 + 5000 * t.val; omega)
  rw [seg_batN]
  refine ⟨le_trans ?_ h2, lt_of_le_of_lt h3 h1⟩
  unfold gN
  exact (Nat.min_le_left _ _).trans (Nat.div_mul_le_self _ _)

/-- The point's segments are below the table's end. -/
theorem seg_lt (n : ℕ) (hn : n < 20) (r : Fin 5000) : (inp m 0).seg (rowAt n hn r) < 256 := by rw [seg_batN]; exact hb _

/-- A point's step of the weighted sums. -/
theorem pt_num (t : Fin (cfgM m).N) (ht : t.val < 20) (s : Fin 256) (c : Fin 512) : (St m hT 0 (t.val + 1) t.isLt).num (ValueIdx.ix2 s c)
    = (St m hT 0 t.val (Nat.le_of_lt t.isLt)).num (ValueIdx.ix2 s c) + ∑ r : Fin 5000, if (inp m 0).seg (rowAt t.val ht r) = s.val then Cert.Proof.Attn.wt (inp m 0) ⟨c.val / 128, by omega⟩ (rowAt t.val ht r) * (inp m 0).h (rowAt t.val ht r) ⟨c.val % 128, by omega⟩ else 0 := by
  rw [St_succ m hT 0 t t.isLt]
  exact word_num (blkAt m 0 t) (fun r => (inp m 0).seg (rowAt t.val ht r)) _ (seg_val m 0 t ht) (gN m t.val ht) (Nat.min_le_right _ _) (seg_lt m hb hle t.val ht)
      (g0At m 0 t) (g0At_eq m hb 0 t ht) (ovAt m 0 t) (hT 0 t).2 (in_window m hb hle t ht) (St m hT 0 t.val (Nat.le_of_lt t.isLt)) s c (fun r => rhs_num m 0 t ht r c)

/-- The weighted sums. -/
theorem fin_num (s : Fin 256) (c : Fin 512) : (St m hT 0 (cfgM m).N (le_refl _)).num (ValueIdx.ix2 s c) = (Cert.Proof.Attn.num (inp m 0) ⟨c.val / 128, by omega⟩ s.val ⟨c.val % 128, by omega⟩) := by
  refine fold_rows (N := (cfgM m).N) N_0 (fun n h => (St m hT 0 n h).num (ValueIdx.ix2 s c)) (fun i => if (inp m 0).seg i = s.val then Cert.Proof.Attn.wt (inp m 0) ⟨c.val / 128, by omega⟩ i * (inp m 0).h i ⟨c.val % 128, by omega⟩ else 0) ?_ (fun t => pt_num m hb hle hT t (Nat.lt_of_lt_of_eq t.isLt N_0) s c)
  show k0_pay31 (F := Ideal) (ValueIdx.ix2 s c) = 0
  unfold k0_pay31
  exact (congrFun (shapeCast_self _ _) _).trans Ideal.ofBits_zero_f32

/-- A point's step of the masked sums. -/
theorem pt_bh (t : Fin (cfgM m).N) (ht : t.val < 20) (s : Fin 256) (c : Fin 128) : (St m hT 0 (t.val + 1) t.isLt).bh (ValueIdx.ix2 s c)
    = (St m hT 0 t.val (Nat.le_of_lt t.isLt)).bh (ValueIdx.ix2 s c) + ∑ r : Fin 5000, if (inp m 0).seg (rowAt t.val ht r) = s.val then (inp m 0).h (rowAt t.val ht r) c * (inp m 0).ind (rowAt t.val ht r) else 0 := by
  rw [St_succ m hT 0 t t.isLt]
  exact word_bh (blkAt m 0 t) (fun r => (inp m 0).seg (rowAt t.val ht r)) _ (seg_val m 0 t ht) (gN m t.val ht) (Nat.min_le_right _ _) (seg_lt m hb hle t.val ht)
      (g0At m 0 t) (g0At_eq m hb 0 t ht) (ovAt m 0 t) (hT 0 t).2 (in_window m hb hle t ht) (St m hT 0 t.val (Nat.le_of_lt t.isLt)) s c (fun r => rhs_bh m 0 t ht r c)

/-- The masked sums. -/
theorem fin_bh (s : Fin 256) (c : Fin 128) : (St m hT 0 (cfgM m).N (le_refl _)).bh (ValueIdx.ix2 s c) = (Cert.Proof.Attn.mrow (inp m 0) s.val c) := by
  refine fold_rows (N := (cfgM m).N) N_0 (fun n h => (St m hT 0 n h).bh (ValueIdx.ix2 s c)) (fun i => if (inp m 0).seg i = s.val then (inp m 0).h i c * (inp m 0).ind i else 0) ?_ (fun t => pt_bh m hb hle hT t (Nat.lt_of_lt_of_eq t.isLt N_0) s c)
  show k0_pay32 (F := Ideal) (ValueIdx.ix2 s c) = 0
  unfold k0_pay32
  exact (congrFun (shapeCast_self _ _) _).trans Ideal.ofBits_zero_f32

/-- A point's step of the weights' totals. -/
theorem pt_den (t : Fin (cfgM m).N) (ht : t.val < 20) (s : Fin 256) (c : Fin 4) : (St m hT 0 (t.val + 1) t.isLt).den (ValueIdx.ix2 s c)
    = (St m hT 0 t.val (Nat.le_of_lt t.isLt)).den (ValueIdx.ix2 s c) + ∑ r : Fin 5000, if (inp m 0).seg (rowAt t.val ht r) = s.val then Cert.Proof.Attn.wt (inp m 0) c (rowAt t.val ht r) else 0 := by
  rw [St_succ m hT 0 t t.isLt]
  exact word_den (blkAt m 0 t) (fun r => (inp m 0).seg (rowAt t.val ht r)) _ (seg_val m 0 t ht) (gN m t.val ht) (Nat.min_le_right _ _) (seg_lt m hb hle t.val ht)
      (g0At m 0 t) (g0At_eq m hb 0 t ht) (ovAt m 0 t) (hT 0 t).2 (in_window m hb hle t ht) (St m hT 0 t.val (Nat.le_of_lt t.isLt)) s c (fun r => ex_val m 0 t ht r c)

/-- The weights' totals. -/
theorem fin_den (s : Fin 256) (c : Fin 4) : (St m hT 0 (cfgM m).N (le_refl _)).den (ValueIdx.ix2 s c) = (Cert.Proof.Attn.den (inp m 0) c s.val) := by
  refine fold_rows (N := (cfgM m).N) N_0 (fun n h => (St m hT 0 n h).den (ValueIdx.ix2 s c)) (fun i => if (inp m 0).seg i = s.val then Cert.Proof.Attn.wt (inp m 0) c i else 0) ?_ (fun t => pt_den m hb hle hT t (Nat.lt_of_lt_of_eq t.isLt N_0) s c)
  show k0_pay33 (F := Ideal) (ValueIdx.ix2 s c) = 0
  unfold k0_pay33
  exact (congrFun (shapeCast_self _ _) _).trans Ideal.ofBits_zero_f32

/-- A point's step of the masked counts. -/
theorem pt_cnt (t : Fin (cfgM m).N) (ht : t.val < 20) (s : Fin 256) (c : Fin 1) : (St m hT 0 (t.val + 1) t.isLt).cnt (ValueIdx.ix2 s c)
    = (St m hT 0 t.val (Nat.le_of_lt t.isLt)).cnt (ValueIdx.ix2 s c) + ∑ r : Fin 5000, if (inp m 0).seg (rowAt t.val ht r) = s.val then (inp m 0).ind (rowAt t.val ht r) else 0 := by
  rw [St_succ m hT 0 t t.isLt]
  exact word_cnt (blkAt m 0 t) (fun r => (inp m 0).seg (rowAt t.val ht r)) _ (seg_val m 0 t ht) (gN m t.val ht) (Nat.min_le_right _ _) (seg_lt m hb hle t.val ht)
      (g0At m 0 t) (g0At_eq m hb 0 t ht) (ovAt m 0 t) (hT 0 t).2 (in_window m hb hle t ht) (St m hT 0 t.val (Nat.le_of_lt t.isLt)) s c (fun r => cols_cnt m 0 t ht r c)

/-- The masked counts. -/
theorem fin_cnt (s : Fin 256) (c : Fin 1) : (St m hT 0 (cfgM m).N (le_refl _)).cnt (ValueIdx.ix2 s c) = (Cert.Proof.Attn.cnt (inp m 0) s.val) := by
  refine fold_rows (N := (cfgM m).N) N_0 (fun n h => (St m hT 0 n h).cnt (ValueIdx.ix2 s c)) (fun i => if (inp m 0).seg i = s.val then (inp m 0).ind i else 0) ?_ (fun t => pt_cnt m hb hle hT t (Nat.lt_of_lt_of_eq t.isLt N_0) s c)
  show k0_pay34 (F := Ideal) (ValueIdx.ix2 s c) = 0
  unfold k0_pay34
  exact (congrFun (shapeCast_self _ _) _).trans Ideal.ofBits_zero_f32

/-- A point's step of the counts by depth. -/
theorem pt_dep (t : Fin (cfgM m).N) (ht : t.val < 20) (s : Fin 256) (c : Fin 32) : (St m hT 0 (t.val + 1) t.isLt).dep (ValueIdx.ix2 s c)
    = (St m hT 0 t.val (Nat.le_of_lt t.isLt)).dep (ValueIdx.ix2 s c) + ∑ r : Fin 5000, if (inp m 0).seg (rowAt t.val ht r) = s.val then (if (inp m 0).dep (rowAt t.val ht r) = c.val then (1 : EReal) else 0) else 0 := by
  rw [St_succ m hT 0 t t.isLt]
  exact word_dep (blkAt m 0 t) (fun r => (inp m 0).seg (rowAt t.val ht r)) _ (seg_val m 0 t ht) (gN m t.val ht) (Nat.min_le_right _ _) (seg_lt m hb hle t.val ht)
      (g0At m 0 t) (g0At_eq m hb 0 t ht) (ovAt m 0 t) (hT 0 t).2 (in_window m hb hle t ht) (St m hT 0 t.val (Nat.le_of_lt t.isLt)) s c (fun r => cols_dep m 0 t ht r c)

/-- The counts by depth. -/
theorem fin_dep (s : Fin 256) (c : Fin 32) : (St m hT 0 (cfgM m).N (le_refl _)).dep (ValueIdx.ix2 s c) = (Cert.Proof.Attn.dct (inp m 0) s.val c.val) := by
  refine fold_rows (N := (cfgM m).N) N_0 (fun n h => (St m hT 0 n h).dep (ValueIdx.ix2 s c)) (fun i => if (inp m 0).seg i = s.val then (if (inp m 0).dep i = c.val then (1 : EReal) else 0) else 0) ?_ (fun t => pt_dep m hb hle hT t (Nat.lt_of_lt_of_eq t.isLt N_0) s c)
  show k0_pay35 (F := Ideal) (ValueIdx.ix2 s c) = 0
  unfold k0_pay35
  exact (congrFun (shapeCast_self _ _) _).trans Ideal.ofBits_zero_f32

end Cert.KernelIdeal.Body

end
-- ==== Proof.KIRunWL.lean ====
module

public import proofs.«01_k».proof.Proof.KIBody
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .vmem S5000x128 .f32) (harg3 : arg3.IsWhole) (arg4 : Memref sig .tc .vmem S1x1x5000 .i32) (harg4 : arg4.IsWhole) (arg5 : Memref sig .tc .vmem S5000x40 .bf16) (harg5 : arg5.IsWhole) (arg6 : Memref sig .tc .vmem S128x128 .bf16) (harg6 : arg6.IsWhole) (arg7 : Memref sig .tc .vmem S1x128 .f32) (harg7 : arg7.IsWhole) (arg8 : Memref sig .tc .vmem S128x4 .f32) (harg8 : arg8.IsWhole) (arg9 : Memref sig .tc .vmem S1x4 .f32) (harg9 : arg9.IsWhole) (arg10 : Memref sig .tc .vmem S512x128 .f32) (harg10 : arg10.IsWhole) (arg11 : Memref sig .tc .vmem S1x128 .f32) (harg11 : arg11.IsWhole) (arg12 : Memref sig .tc .vmem S32x8 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S8x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S256x128 .f32) (harg21 : arg21.IsWhole) (arg22 : Memref sig .tc .vmem S256x512 .f32) (harg22 : arg22.IsWhole) (arg23 : Memref sig .tc .vmem S256x128 .f32) (harg23 : arg23.IsWhole) (arg24 : Memref sig .tc .vmem S256x4 .f32) (harg24 : arg24.IsWhole) (arg25 : Memref sig .tc .vmem S256x1 .f32) (harg25 : arg25.IsWhole) (arg26 : Memref sig .tc .vmem S256x32 .f32) (harg26 : arg26.IsWhole)

set_option maxHeartbeats 16000000 in
/-- One run of the body at a point that works in its window, the last one. -/
theorem body_run_WL (B : Blk F) (P : Par F) (S : Acc F) (o0 : Vec F S256x128 .f32) (T0 : TbBuf (F := F) c tbM0_0) (T1 : TbBuf (F := F) c tbM0_1)
    (hk1 : k0_chk1 (word0 c i T0)) (hk2 : k0_chk2 (word0 c i T0) (word1 c i T1)) (ho' : k0_cond2 (word1 c i T1) = 1#1) (hl : k0_cond4 i = 1#1) (E : Set ℕ) (K : PUnit → sProp 𝕄) :
    iprop(owns (c : Thread nD τ) arg3 fullShare B.h ∗ owns (c : Thread nD τ) arg4 fullShare B.bat ∗ owns (c : Thread nD τ) arg5 fullShare B.aux ∗ owns (c : Thread nD τ) arg6 fullShare B.w1 ∗ owns (c : Thread nD τ) arg7 fullShare B.b1 ∗ owns (c : Thread nD τ) arg8 fullShare B.w2 ∗ owns (c : Thread nD τ) arg9 fullShare B.b2 ∗ owns (c : Thread nD τ) arg10 fullShare P.hp ∗ owns (c : Thread nD τ) arg11 fullShare P.hpb ∗ owns (c : Thread nD τ) arg12 fullShare P.dt ∗ owns (c : Thread nD τ) arg13 fullShare P.fa ∗ owns (c : Thread nD τ) arg14 fullShare P.fb ∗ owns (c : Thread nD τ) arg15 fullShare P.fc ∗ owns (c : Thread nD τ) arg16 fullShare P.fb1 ∗ owns (c : Thread nD τ) arg17 fullShare P.fw2 ∗ owns (c : Thread nD τ) arg18 fullShare P.fb2 ∗ owns (c : Thread nD τ) arg19 fullShare P.ga ∗ owns (c : Thread nD τ) arg20 fullShare P.be ∗ owns (c : Thread nD τ) arg21 fullShare o0 ∗ owns (c : Thread nD τ) arg22 fullShare S.num ∗ owns (c : Thread nD τ) arg23 fullShare S.bh ∗ owns (c : Thread nD τ) arg24 fullShare S.den ∗ owns (c : Thread nD τ) arg25 fullShare S.cnt ∗ owns (c : Thread nD τ) arg26 fullShare S.dep ∗ tbPt c tbM0_0 T0 ∗ tbPt c tbM0_1 T1
      ∗ (iprop(owns (c : Thread nD τ) arg3 fullShare B.h ∗ owns (c : Thread nD τ) arg4 fullShare B.bat ∗ owns (c : Thread nD τ) arg5 fullShare B.aux ∗ owns (c : Thread nD τ) arg6 fullShare B.w1 ∗ owns (c : Thread nD τ) arg7 fullShare B.b1 ∗ owns (c : Thread nD τ) arg8 fullShare B.w2 ∗ owns (c : Thread nD τ) arg9 fullShare B.b2 ∗ owns (c : Thread nD τ) arg10 fullShare P.hp ∗ owns (c : Thread nD τ) arg11 fullShare P.hpb ∗ owns (c : Thread nD τ) arg12 fullShare P.dt ∗ owns (c : Thread nD τ) arg13 fullShare P.fa ∗ owns (c : Thread nD τ) arg14 fullShare P.fb ∗ owns (c : Thread nD τ) arg15 fullShare P.fc ∗ owns (c : Thread nD τ) arg16 fullShare P.fb1 ∗ owns (c : Thread nD τ) arg17 fullShare P.fw2 ∗ owns (c : Thread nD τ) arg18 fullShare P.fb2 ∗ owns (c : Thread nD τ) arg19 fullShare P.ga ∗ owns (c : Thread nD τ) arg20 fullShare P.be ∗ owns (c : Thread nD τ) arg21 fullShare (fin P (step B (word0 c i T0) (word1 c i T1) hk2 (start i S))) ∗ owns (c : Thread nD τ) arg22 fullShare (step B (word0 c i T0) (word1 c i T1) hk2 (start i S)).num ∗ owns (c : Thread nD τ) arg23 fullShare (step B (word0 c i T0) (word1 c i T1) hk2 (start i S)).bh ∗ owns (c : Thread nD τ) arg24 fullShare (step B (word0 c i T0) (word1 c i T1) hk2 (start i S)).den ∗ owns (c : Thread nD τ) arg25 fullShare (step B (word0 c i T0) (word1 c i T1) hk2 (start i S)).cnt ∗ owns (c : Thread nD τ) arg26 fullShare (step B (word0 c i T0) (word1 c i T1) hk2 (start i S)).dep ∗ tbPt c tbM0_0 T0 ∗ tbPt c tbM0_1 T1) -∗ K ⟨⟩))
      ⊢ wp frame (wpE (defs₀ (F := F)) Variants.none c none) E (cc0__body i tbM0_0 htbM0_0 tbM0_1 htbM0_1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__body_eq_skeleton]; unfold cc0__body_skel
  rw [wp_bind]
  iintro ⟨H3, H4, H5, H6, H7, H8, H9, H10, H11, H12, H13, H14, H15, H16, H17, H18, H19, H20, H21, H22, H23, H24, H25, H26, HT0, HT1, Hk⟩
  iapply part6_run (B := B) (S := S)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H22]; · iexact H22
  isplitl [H23]; · iexact H23
  isplitl [H24]; · iexact H24
  isplitl [H25]; · iexact H25
  isplitl [H26]; · iexact H26
  iintro ⟨H3, H4, H5, H6, H7, H8, H9, H22, H23, H24, H25, H26⟩
  generalize start i S = S'
  rw [step_win B _ _ hk2 S' ho']
  simp only [k0_part1_eq_skeleton, k0_part3_eq_skeleton, k0_part4_eq_skeleton, k0_part5_eq_skeleton]
  unfold owns
  icases H3 with ⟨%f3, %hf3, H3⟩; icases H4 with ⟨%f4, %hf4, H4⟩; icases H5 with ⟨%f5, %hf5, H5⟩; icases H6 with ⟨%f6, %hf6, H6⟩; icases H7 with ⟨%f7, %hf7, H7⟩; icases H8 with ⟨%f8, %hf8, H8⟩; icases H9 with ⟨%f9, %hf9, H9⟩; icases H10 with ⟨%f10, %hf10, H10⟩; icases H11 with ⟨%f11, %hf11, H11⟩; icases H12 with ⟨%f12, %hf12, H12⟩; icases H13 with ⟨%f13, %hf13, H13⟩; icases H14 with ⟨%f14, %hf14, H14⟩; icases H15 with ⟨%f15, %hf15, H15⟩; icases H16 with ⟨%f16, %hf16, H16⟩; icases H17 with ⟨%f17, %hf17, H17⟩; icases H18 with ⟨%f18, %hf18, H18⟩; icases H19 with ⟨%f19, %hf19, H19⟩; icases H20 with ⟨%f20, %hf20, H20⟩; icases H21 with ⟨%f21, %hf21, H21⟩; icases H22 with ⟨%f22, %hf22, H22⟩; icases H23 with ⟨%f23, %hf23, H23⟩; icases H24 with ⟨%f24, %hf24, H24⟩; icases H25 with ⟨%f25, %hf25, H25⟩; icases H26 with ⟨%f26, %hf26, H26⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg24.eq_unread hf24; obtain rfl := harg25.eq_unread hf25; obtain rfl := harg26.eq_unread hf26
  have hw1 : k0_chk1 (tbM0_0.view.readAt (Elt F) (Rect.unit (s := S20) (k0_off1 i) S1.size (k0_off1_inb i)).toLoadRect T0 (Shape.Idx.first (numel1_S1.symm ▸ Nat.one_pos))) := hk1
  have hw2 : k0_chk2 (tbM0_0.view.readAt (Elt F) (Rect.unit (s := S20) (k0_off1 i) S1.size (k0_off1_inb i)).toLoadRect T0 (Shape.Idx.first (numel1_S1.symm ▸ Nat.one_pos))) (tbM0_1.view.readAt (Elt F) (Rect.unit (s := S20) (k0_off2 i) S1.size (k0_off2_inb i)).toLoadRect T1 (Shape.Idx.first (numel1_S1.symm ▸ Nat.one_pos))) := hk2
  have ho : k0_cond2 (tbM0_1.view.readAt (Elt F) (Rect.unit (s := S20) (k0_off2 i) S1.size (k0_off2_inb i)).toLoadRect T1 (Shape.Idx.first (numel1_S1.symm ▸ Nat.one_pos))) = 1#1 := ho'
  have hn := cond_eq _ ho
  sl_exec (disch := first | sl_exact hw1 | sl_exact hw2 | sl_exact ho | sl_exact hn | sl_exact hl)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; · ipureintro; exact harg20.read_unread _
    iexact H20
  isplitl [H21]
  · iexists _; isplitr; swap; · iexact H21
    ipureintro; exact (View.read_writes_full _ _ _ _ _).trans (fin_eq P _ ((View.readAt_full _ _ _).trans (read_upd_cons arg22 harg22 S'.num _ _ (read_upd_cons arg22 harg22 S'.num _ _ (read_upd_cons arg22 harg22 S'.num _ _ (read_upd arg22 harg22 S'.num _ _ _ _) _ _ _ _) _ _ _ _) _ _ _ _)) ((View.readAt_full _ _ _).trans (read_upd arg24 harg24 S'.den _ _ _ _)) ((View.readAt_full _ _ _).trans (harg10.read_unread _)) ((View.readAt_full _ _ _).trans (harg11.read_unread _)) ((View.readAt_full _ _ _).trans (read_upd arg23 harg23 S'.bh _ _ _ (fun x => k0_pay2 (k0_pay19 B.seg B.rhs (word0 c i T0) x)))) ((View.readAt_full _ _ _).trans (read_upd arg25 harg25 S'.cnt _ _ _ _)) ((View.readAt_full _ _ _).trans (read_upd arg26 harg26 S'.dep _ _ _ _)) ((View.readAt_full _ _ _).trans (harg12.read_unread _)) ((View.readAt_full _ _ _).trans (harg13.read_unread _)) ((View.readAt_full _ _ _).trans (harg14.read_unread _)) ((View.readAt_full _ _ _).trans (harg15.read_unread _)) ((View.readAt_full _ _ _).trans (harg16.read_unread _)) ((View.readAt_full _ _ _).trans (harg17.read_unread _)) ((View.readAt_full _ _ _).trans (harg18.read_unread _)) ((View.readAt_full _ _ _).trans (harg19.read_unread _)) ((View.readAt_full _ _ _).trans (harg20.read_unread _)))
  isplitl [H22]
  · iexists _; isplitr; swap; · iexact H22
    ipureintro; exact read_upd_cons arg22 harg22 S'.num _ _ (read_upd_cons arg22 harg22 S'.num _ _ (read_upd_cons arg22 harg22 S'.num _ _ (read_upd arg22 harg22 S'.num _ _ _ _) _ _ _ _) _ _ _ _) _ _ _ _
  isplitl [H23]
  · iexists _; isplitr; swap; · iexact H23
    ipureintro; exact read_upd arg23 harg23 S'.bh _ _ _ (fun x => k0_pay2 (k0_pay19 B.seg B.rhs (word0 c i T0) x))
  isplitl [H24]
  · iexists _; isplitr; swap; · iexact H24
    ipureintro; exact read_upd arg24 harg24 S'.den _ _ _ _
  isplitl [H25]
  · iexists _; isplitr; swap; · iexact H25
    ipureintro; exact read_upd arg25 harg25 S'.cnt _ _ _ _
  isplitl [H26]
  · iexists _; isplitr; swap; · iexact H26
    ipureintro; exact read_upd arg26 harg26 S'.dep _ _ _ _
  isplitl [HT0]; · iexact HT0
  iexact HT1

end Cert.KernelIdeal.Body

end
-- ==== Proof.KIRunWN.lean ====
module

public import proofs.«01_k».proof.Proof.KIBody
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .vmem S5000x128 .f32) (harg3 : arg3.IsWhole) (arg4 : Memref sig .tc .vmem S1x1x5000 .i32) (harg4 : arg4.IsWhole) (arg5 : Memref sig .tc .vmem S5000x40 .bf16) (harg5 : arg5.IsWhole) (arg6 : Memref sig .tc .vmem S128x128 .bf16) (harg6 : arg6.IsWhole) (arg7 : Memref sig .tc .vmem S1x128 .f32) (harg7 : arg7.IsWhole) (arg8 : Memref sig .tc .vmem S128x4 .f32) (harg8 : arg8.IsWhole) (arg9 : Memref sig .tc .vmem S1x4 .f32) (harg9 : arg9.IsWhole) (arg10 : Memref sig .tc .vmem S512x128 .f32) (harg10 : arg10.IsWhole) (arg11 : Memref sig .tc .vmem S1x128 .f32) (harg11 : arg11.IsWhole) (arg12 : Memref sig .tc .vmem S32x8 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S8x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S256x128 .f32) (harg21 : arg21.IsWhole) (arg22 : Memref sig .tc .vmem S256x512 .f32) (harg22 : arg22.IsWhole) (arg23 : Memref sig .tc .vmem S256x128 .f32) (harg23 : arg23.IsWhole) (arg24 : Memref sig .tc .vmem S256x4 .f32) (harg24 : arg24.IsWhole) (arg25 : Memref sig .tc .vmem S256x1 .f32) (harg25 : arg25.IsWhole) (arg26 : Memref sig .tc .vmem S256x32 .f32) (harg26 : arg26.IsWhole)

set_option maxHeartbeats 16000000 in
/-- One run of the body at a point that works in its window. -/
theorem body_run_WN (B : Blk F) (P : Par F) (S : Acc F) (o0 : Vec F S256x128 .f32) (T0 : TbBuf (F := F) c tbM0_0) (T1 : TbBuf (F := F) c tbM0_1)
    (hk1 : k0_chk1 (word0 c i T0)) (hk2 : k0_chk2 (word0 c i T0) (word1 c i T1)) (ho' : k0_cond2 (word1 c i T1) = 1#1) (hl : ¬ k0_cond4 i = 1#1) (E : Set ℕ) (K : PUnit → sProp 𝕄) :
    iprop(owns (c : Thread nD τ) arg3 fullShare B.h ∗ owns (c : Thread nD τ) arg4 fullShare B.bat ∗ owns (c : Thread nD τ) arg5 fullShare B.aux ∗ owns (c : Thread nD τ) arg6 fullShare B.w1 ∗ owns (c : Thread nD τ) arg7 fullShare B.b1 ∗ owns (c : Thread nD τ) arg8 fullShare B.w2 ∗ owns (c : Thread nD τ) arg9 fullShare B.b2 ∗ owns (c : Thread nD τ) arg10 fullShare P.hp ∗ owns (c : Thread nD τ) arg11 fullShare P.hpb ∗ owns (c : Thread nD τ) arg12 fullShare P.dt ∗ owns (c : Thread nD τ) arg13 fullShare P.fa ∗ owns (c : Thread nD τ) arg14 fullShare P.fb ∗ owns (c : Thread nD τ) arg15 fullShare P.fc ∗ owns (c : Thread nD τ) arg16 fullShare P.fb1 ∗ owns (c : Thread nD τ) arg17 fullShare P.fw2 ∗ owns (c : Thread nD τ) arg18 fullShare P.fb2 ∗ owns (c : Thread nD τ) arg19 fullShare P.ga ∗ owns (c : Thread nD τ) arg20 fullShare P.be ∗ owns (c : Thread nD τ) arg21 fullShare o0 ∗ owns (c : Thread nD τ) arg22 fullShare S.num ∗ owns (c : Thread nD τ) arg23 fullShare S.bh ∗ owns (c : Thread nD τ) arg24 fullShare S.den ∗ owns (c : Thread nD τ) arg25 fullShare S.cnt ∗ owns (c : Thread nD τ) arg26 fullShare S.dep ∗ tbPt c tbM0_0 T0 ∗ tbPt c tbM0_1 T1
      ∗ (iprop(owns (c : Thread nD τ) arg3 fullShare B.h ∗ owns (c : Thread nD τ) arg4 fullShare B.bat ∗ owns (c : Thread nD τ) arg5 fullShare B.aux ∗ owns (c : Thread nD τ) arg6 fullShare B.w1 ∗ owns (c : Thread nD τ) arg7 fullShare B.b1 ∗ owns (c : Thread nD τ) arg8 fullShare B.w2 ∗ owns (c : Thread nD τ) arg9 fullShare B.b2 ∗ owns (c : Thread nD τ) arg10 fullShare P.hp ∗ owns (c : Thread nD τ) arg11 fullShare P.hpb ∗ owns (c : Thread nD τ) arg12 fullShare P.dt ∗ owns (c : Thread nD τ) arg13 fullShare P.fa ∗ owns (c : Thread nD τ) arg14 fullShare P.fb ∗ owns (c : Thread nD τ) arg15 fullShare P.fc ∗ owns (c : Thread nD τ) arg16 fullShare P.fb1 ∗ owns (c : Thread nD τ) arg17 fullShare P.fw2 ∗ owns (c : Thread nD τ) arg18 fullShare P.fb2 ∗ owns (c : Thread nD τ) arg19 fullShare P.ga ∗ owns (c : Thread nD τ) arg20 fullShare P.be ∗ owns (c : Thread nD τ) arg21 fullShare o0 ∗ owns (c : Thread nD τ) arg22 fullShare (step B (word0 c i T0) (word1 c i T1) hk2 (start i S)).num ∗ owns (c : Thread nD τ) arg23 fullShare (step B (word0 c i T0) (word1 c i T1) hk2 (start i S)).bh ∗ owns (c : Thread nD τ) arg24 fullShare (step B (word0 c i T0) (word1 c i T1) hk2 (start i S)).den ∗ owns (c : Thread nD τ) arg25 fullShare (step B (word0 c i T0) (word1 c i T1) hk2 (start i S)).cnt ∗ owns (c : Thread nD τ) arg26 fullShare (step B (word0 c i T0) (word1 c i T1) hk2 (start i S)).dep ∗ tbPt c tbM0_0 T0 ∗ tbPt c tbM0_1 T1) -∗ K ⟨⟩))
      ⊢ wp frame (wpE (defs₀ (F := F)) Variants.none c none) E (cc0__body i tbM0_0 htbM0_0 tbM0_1 htbM0_1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__body_eq_skeleton]; unfold cc0__body_skel
  rw [wp_bind]
  iintro ⟨H3, H4, H5, H6, H7, H8, H9, H10, H11, H12, H13, H14, H15, H16, H17, H18, H19, H20, H21, H22, H23, H24, H25, H26, HT0, HT1, Hk⟩
  iapply part6_run (B := B) (S := S)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H22]; · iexact H22
  isplitl [H23]; · iexact H23
  isplitl [H24]; · iexact H24
  isplitl [H25]; · iexact H25
  isplitl [H26]; · iexact H26
  iintro ⟨H3, H4, H5, H6, H7, H8, H9, H22, H23, H24, H25, H26⟩
  generalize start i S = S'
  rw [step_win B _ _ hk2 S' ho']
  simp only [k0_part1_eq_skeleton]
  unfold owns
  icases H3 with ⟨%f3, %hf3, H3⟩; icases H4 with ⟨%f4, %hf4, H4⟩; icases H5 with ⟨%f5, %hf5, H5⟩; icases H6 with ⟨%f6, %hf6, H6⟩; icases H7 with ⟨%f7, %hf7, H7⟩; icases H8 with ⟨%f8, %hf8, H8⟩; icases H9 with ⟨%f9, %hf9, H9⟩; icases H10 with ⟨%f10, %hf10, H10⟩; icases H11 with ⟨%f11, %hf11, H11⟩; icases H12 with ⟨%f12, %hf12, H12⟩; icases H13 with ⟨%f13, %hf13, H13⟩; icases H14 with ⟨%f14, %hf14, H14⟩; icases H15 with ⟨%f15, %hf15, H15⟩; icases H16 with ⟨%f16, %hf16, H16⟩; icases H17 with ⟨%f17, %hf17, H17⟩; icases H18 with ⟨%f18, %hf18, H18⟩; icases H19 with ⟨%f19, %hf19, H19⟩; icases H20 with ⟨%f20, %hf20, H20⟩; icases H21 with ⟨%f21, %hf21, H21⟩; icases H22 with ⟨%f22, %hf22, H22⟩; icases H23 with ⟨%f23, %hf23, H23⟩; icases H24 with ⟨%f24, %hf24, H24⟩; icases H25 with ⟨%f25, %hf25, H25⟩; icases H26 with ⟨%f26, %hf26, H26⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg24.eq_unread hf24; obtain rfl := harg25.eq_unread hf25; obtain rfl := harg26.eq_unread hf26
  have hw1 : k0_chk1 (tbM0_0.view.readAt (Elt F) (Rect.unit (s := S20) (k0_off1 i) S1.size (k0_off1_inb i)).toLoadRect T0 (Shape.Idx.first (numel1_S1.symm ▸ Nat.one_pos))) := hk1
  have hw2 : k0_chk2 (tbM0_0.view.readAt (Elt F) (Rect.unit (s := S20) (k0_off1 i) S1.size (k0_off1_inb i)).toLoadRect T0 (Shape.Idx.first (numel1_S1.symm ▸ Nat.one_pos))) (tbM0_1.view.readAt (Elt F) (Rect.unit (s := S20) (k0_off2 i) S1.size (k0_off2_inb i)).toLoadRect T1 (Shape.Idx.first (numel1_S1.symm ▸ Nat.one_pos))) := hk2
  have ho : k0_cond2 (tbM0_1.view.readAt (Elt F) (Rect.unit (s := S20) (k0_off2 i) S1.size (k0_off2_inb i)).toLoadRect T1 (Shape.Idx.first (numel1_S1.symm ▸ Nat.one_pos))) = 1#1 := ho'
  have hn := cond_eq _ ho
  sl_exec (disch := first | sl_exact hw1 | sl_exact hw2 | sl_exact ho | sl_exact hn | sl_exact hl)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; · ipureintro; exact harg20.read_unread _
    iexact H20
  isplitl [H21]
  · iexists _; isplitr; swap; · iexact H21
    ipureintro; exact harg21.read_unread _
  isplitl [H22]
  · iexists _; isplitr; swap; · iexact H22
    ipureintro; exact read_upd_cons arg22 harg22 S'.num _ _ (read_upd_cons arg22 harg22 S'.num _ _ (read_upd_cons arg22 harg22 S'.num _ _ (read_upd arg22 harg22 S'.num _ _ _ _) _ _ _ _) _ _ _ _) _ _ _ _
  isplitl [H23]
  · iexists _; isplitr; swap; · iexact H23
    ipureintro; exact read_upd arg23 harg23 S'.bh _ _ _ (fun x => k0_pay2 (k0_pay19 B.seg B.rhs (word0 c i T0) x))
  isplitl [H24]
  · iexists _; isplitr; swap; · iexact H24
    ipureintro; exact read_upd arg24 harg24 S'.den _ _ _ _
  isplitl [H25]
  · iexists _; isplitr; swap; · iexact H25
    ipureintro; exact read_upd arg25 harg25 S'.cnt _ _ _ _
  isplitl [H26]
  · iexists _; isplitr; swap; · iexact H26
    ipureintro; exact read_upd arg26 harg26 S'.dep _ _ _ _
  isplitl [HT0]; · iexact HT0
  iexact HT1

end Cert.KernelIdeal.Body

end
-- ==== Proof.KICov.lean ====
module

public import proofs.«01_k».proof.Proof.KIBody
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Four stores of 128 columns each cover the table: what is read back over them does not depend on what was held before. -/
theorem readCov_quarters (M : Memref sig .tc .vmem S256x512 .f32) (hM : M.IsWhole) (x y : Vec F S256x512 .f32) (p0 p1 p2 p3 : Vec F S256x128 .f32)
    (hy : M.view.read (Elt F) (M.view.writes (Elt F) (hM.unread x)
      [⟨Rect.unit ![0, 384] S256x128.size inb_S256x512_S256x128_0_384, p3⟩, ⟨Rect.unit ![0, 256] S256x128.size inb_S256x512_S256x128_0_256, p2⟩,
       ⟨Rect.unit ![0, 128] S256x128.size inb_S256x512_S256x128_0_128, p1⟩, ⟨Rect.unit ![0, 0] S256x128.size inb_S256x512_S256x128_0_0, p0⟩]) = y) :
    M.view.readCov (Val := Elt F)
      [⟨Rect.unit ![0, 384] S256x128.size inb_S256x512_S256x128_0_384, p3⟩, ⟨Rect.unit ![0, 256] S256x128.size inb_S256x512_S256x128_0_256, p2⟩,
       ⟨Rect.unit ![0, 128] S256x128.size inb_S256x512_S256x128_0_128, p1⟩, ⟨Rect.unit ![0, 0] S256x128.size inb_S256x512_S256x128_0_0, p0⟩]
      (Rect.unit ![0, 0] S256x512.size inb_S256x512_S256x512_0_0).toLoadRect = y := by
  refine (View.readAt_writes_of_cover M.view (hM.unread x) _ _ fun j => ?_).symm.trans ((View.readAt_full _ _ _).trans hy)
  generalize (Rect.unit ![0, 0] S256x512.size inb_S256x512_S256x512_0_0).toLoadRect.idx j = z
  have h0 := (z 0).isLt
  have h1 := (z 1).isLt
  change (z 0).val < 256 at h0
  change (z 1).val < 512 at h1
  have hc : (z 1).val < 128 ∨ (128 ≤ (z 1).val ∧ (z 1).val < 256) ∨ (256 ≤ (z 1).val ∧ (z 1).val < 384) ∨ 384 ≤ (z 1).val := by omega
  rcases hc with hc | hc | hc | hc
  · refine ⟨⟨Rect.unit ![0, 0] S256x128.size inb_S256x512_S256x128_0_0, p0⟩, List.mem_cons_of_mem _ (List.mem_cons_of_mem _ (List.mem_cons_of_mem _ List.mem_cons_self)), (Rect.mem_set_unit (s := S256x512) (off := ![0, 0]) (size := S256x128.size) (inb := inb_S256x512_S256x128_0_0)).mpr fun a => ?_⟩
    match a with
    | ⟨0, _⟩ => exact ⟨Nat.zero_le _, (Nat.zero_add 256).symm ▸ h0⟩
    | ⟨1, _⟩ => exact ⟨Nat.zero_le _, (Nat.zero_add 128).symm ▸ hc⟩
  · refine ⟨⟨Rect.unit ![0, 128] S256x128.size inb_S256x512_S256x128_0_128, p1⟩, List.mem_cons_of_mem _ (List.mem_cons_of_mem _ List.mem_cons_self), (Rect.mem_set_unit (s := S256x512) (off := ![0, 128]) (size := S256x128.size) (inb := inb_S256x512_S256x128_0_128)).mpr fun a => ?_⟩
    match a with
    | ⟨0, _⟩ => exact ⟨Nat.zero_le _, (Nat.zero_add 256).symm ▸ h0⟩
    | ⟨1, _⟩ => exact hc
  · refine ⟨⟨Rect.unit ![0, 256] S256x128.size inb_S256x512_S256x128_0_256, p2⟩, List.mem_cons_of_mem _ List.mem_cons_self, (Rect.mem_set_unit (s := S256x512) (off := ![0, 256]) (size := S256x128.size) (inb := inb_S256x512_S256x128_0_256)).mpr fun a => ?_⟩
    match a with
    | ⟨0, _⟩ => exact ⟨Nat.zero_le _, (Nat.zero_add 256).symm ▸ h0⟩
    | ⟨1, _⟩ => exact hc
  · refine ⟨⟨Rect.unit ![0, 384] S256x128.size inb_S256x512_S256x128_0_384, p3⟩, List.mem_cons_self, (Rect.mem_set_unit (s := S256x512) (off := ![0, 384]) (size := S256x128.size) (inb := inb_S256x512_S256x128_0_384)).mpr fun a => ?_⟩
    match a with
    | ⟨0, _⟩ => exact ⟨Nat.zero_le _, (Nat.zero_add 256).symm ▸ h0⟩
    | ⟨1, _⟩ => exact ⟨hc, h1⟩

end Cert.KernelIdeal.Body

end
-- ==== Proof.KIRunAL.lean ====
module

public import proofs.«01_k».proof.Proof.KICov
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .vmem S5000x128 .f32) (harg3 : arg3.IsWhole) (arg4 : Memref sig .tc .vmem S1x1x5000 .i32) (harg4 : arg4.IsWhole) (arg5 : Memref sig .tc .vmem S5000x40 .bf16) (harg5 : arg5.IsWhole) (arg6 : Memref sig .tc .vmem S128x128 .bf16) (harg6 : arg6.IsWhole) (arg7 : Memref sig .tc .vmem S1x128 .f32) (harg7 : arg7.IsWhole) (arg8 : Memref sig .tc .vmem S128x4 .f32) (harg8 : arg8.IsWhole) (arg9 : Memref sig .tc .vmem S1x4 .f32) (harg9 : arg9.IsWhole) (arg10 : Memref sig .tc .vmem S512x128 .f32) (harg10 : arg10.IsWhole) (arg11 : Memref sig .tc .vmem S1x128 .f32) (harg11 : arg11.IsWhole) (arg12 : Memref sig .tc .vmem S32x8 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S8x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S256x128 .f32) (harg21 : arg21.IsWhole) (arg22 : Memref sig .tc .vmem S256x512 .f32) (harg22 : arg22.IsWhole) (arg23 : Memref sig .tc .vmem S256x128 .f32) (harg23 : arg23.IsWhole) (arg24 : Memref sig .tc .vmem S256x4 .f32) (harg24 : arg24.IsWhole) (arg25 : Memref sig .tc .vmem S256x1 .f32) (harg25 : arg25.IsWhole) (arg26 : Memref sig .tc .vmem S256x32 .f32) (harg26 : arg26.IsWhole)

set_option maxHeartbeats 16000000 in
/-- One run of the body at a point that works on the whole tables, the last one. -/
theorem body_run_AL (B : Blk F) (P : Par F) (S : Acc F) (o0 : Vec F S256x128 .f32) (T0 : TbBuf (F := F) c tbM0_0) (T1 : TbBuf (F := F) c tbM0_1)
    (hk1 : k0_chk1 (word0 c i T0)) (hk2 : k0_chk2 (word0 c i T0) (word1 c i T1)) (ho' : ¬ k0_cond2 (word1 c i T1) = 1#1) (hl : k0_cond4 i = 1#1) (E : Set ℕ) (K : PUnit → sProp 𝕄) :
    iprop(owns (c : Thread nD τ) arg3 fullShare B.h ∗ owns (c : Thread nD τ) arg4 fullShare B.bat ∗ owns (c : Thread nD τ) arg5 fullShare B.aux ∗ owns (c : Thread nD τ) arg6 fullShare B.w1 ∗ owns (c : Thread nD τ) arg7 fullShare B.b1 ∗ owns (c : Thread nD τ) arg8 fullShare B.w2 ∗ owns (c : Thread nD τ) arg9 fullShare B.b2 ∗ owns (c : Thread nD τ) arg10 fullShare P.hp ∗ owns (c : Thread nD τ) arg11 fullShare P.hpb ∗ owns (c : Thread nD τ) arg12 fullShare P.dt ∗ owns (c : Thread nD τ) arg13 fullShare P.fa ∗ owns (c : Thread nD τ) arg14 fullShare P.fb ∗ owns (c : Thread nD τ) arg15 fullShare P.fc ∗ owns (c : Thread nD τ) arg16 fullShare P.fb1 ∗ owns (c : Thread nD τ) arg17 fullShare P.fw2 ∗ owns (c : Thread nD τ) arg18 fullShare P.fb2 ∗ owns (c : Thread nD τ) arg19 fullShare P.ga ∗ owns (c : Thread nD τ) arg20 fullShare P.be ∗ owns (c : Thread nD τ) arg21 fullShare o0 ∗ owns (c : Thread nD τ) arg22 fullShare S.num ∗ owns (c : Thread nD τ) arg23 fullShare S.bh ∗ owns (c : Thread nD τ) arg24 fullShare S.den ∗ owns (c : Thread nD τ) arg25 fullShare S.cnt ∗ owns (c : Thread nD τ) arg26 fullShare S.dep ∗ tbPt c tbM0_0 T0 ∗ tbPt c tbM0_1 T1
      ∗ (iprop(owns (c : Thread nD τ) arg3 fullShare B.h ∗ owns (c : Thread nD τ) arg4 fullShare B.bat ∗ owns (c : Thread nD τ) arg5 fullShare B.aux ∗ owns (c : Thread nD τ) arg6 fullShare B.w1 ∗ owns (c : Thread nD τ) arg7 fullShare B.b1 ∗ owns (c : Thread nD τ) arg8 fullShare B.w2 ∗ owns (c : Thread nD τ) arg9 fullShare B.b2 ∗ owns (c : Thread nD τ) arg10 fullShare P.hp ∗ owns (c : Thread nD τ) arg11 fullShare P.hpb ∗ owns (c : Thread nD τ) arg12 fullShare P.dt ∗ owns (c : Thread nD τ) arg13 fullShare P.fa ∗ owns (c : Thread nD τ) arg14 fullShare P.fb ∗ owns (c : Thread nD τ) arg15 fullShare P.fc ∗ owns (c : Thread nD τ) arg16 fullShare P.fb1 ∗ owns (c : Thread nD τ) arg17 fullShare P.fw2 ∗ owns (c : Thread nD τ) arg18 fullShare P.fb2 ∗ owns (c : Thread nD τ) arg19 fullShare P.ga ∗ owns (c : Thread nD τ) arg20 fullShare P.be ∗ owns (c : Thread nD τ) arg21 fullShare (fin P (step B (word0 c i T0) (word1 c i T1) hk2 (start i S))) ∗ owns (c : Thread nD τ) arg22 fullShare (step B (word0 c i T0) (word1 c i T1) hk2 (start i S)).num ∗ owns (c : Thread nD τ) arg23 fullShare (step B (word0 c i T0) (word1 c i T1) hk2 (start i S)).bh ∗ owns (c : Thread nD τ) arg24 fullShare (step B (word0 c i T0) (word1 c i T1) hk2 (start i S)).den ∗ owns (c : Thread nD τ) arg25 fullShare (step B (word0 c i T0) (word1 c i T1) hk2 (start i S)).cnt ∗ owns (c : Thread nD τ) arg26 fullShare (step B (word0 c i T0) (word1 c i T1) hk2 (start i S)).dep ∗ tbPt c tbM0_0 T0 ∗ tbPt c tbM0_1 T1) -∗ K ⟨⟩))
      ⊢ wp frame (wpE (defs₀ (F := F)) Variants.none c none) E (cc0__body i tbM0_0 htbM0_0 tbM0_1 htbM0_1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__body_eq_skeleton]; unfold cc0__body_skel
  rw [wp_bind]
  iintro ⟨H3, H4, H5, H6, H7, H8, H9, H10, H11, H12, H13, H14, H15, H16, H17, H18, H19, H20, H21, H22, H23, H24, H25, H26, HT0, HT1, Hk⟩
  iapply part6_run (B := B) (S := S)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H22]; · iexact H22
  isplitl [H23]; · iexact H23
  isplitl [H24]; · iexact H24
  isplitl [H25]; · iexact H25
  isplitl [H26]; · iexact H26
  iintro ⟨H3, H4, H5, H6, H7, H8, H9, H22, H23, H24, H25, H26⟩
  generalize start i S = S'
  rw [step_all B _ _ hk2 S' ho']
  simp only [k0_part2_eq_skeleton, k0_part3_eq_skeleton, k0_part4_eq_skeleton, k0_part5_eq_skeleton]
  unfold owns
  icases H3 with ⟨%f3, %hf3, H3⟩; icases H4 with ⟨%f4, %hf4, H4⟩; icases H5 with ⟨%f5, %hf5, H5⟩; icases H6 with ⟨%f6, %hf6, H6⟩; icases H7 with ⟨%f7, %hf7, H7⟩; icases H8 with ⟨%f8, %hf8, H8⟩; icases H9 with ⟨%f9, %hf9, H9⟩; icases H10 with ⟨%f10, %hf10, H10⟩; icases H11 with ⟨%f11, %hf11, H11⟩; icases H12 with ⟨%f12, %hf12, H12⟩; icases H13 with ⟨%f13, %hf13, H13⟩; icases H14 with ⟨%f14, %hf14, H14⟩; icases H15 with ⟨%f15, %hf15, H15⟩; icases H16 with ⟨%f16, %hf16, H16⟩; icases H17 with ⟨%f17, %hf17, H17⟩; icases H18 with ⟨%f18, %hf18, H18⟩; icases H19 with ⟨%f19, %hf19, H19⟩; icases H20 with ⟨%f20, %hf20, H20⟩; icases H21 with ⟨%f21, %hf21, H21⟩; icases H22 with ⟨%f22, %hf22, H22⟩; icases H23 with ⟨%f23, %hf23, H23⟩; icases H24 with ⟨%f24, %hf24, H24⟩; icases H25 with ⟨%f25, %hf25, H25⟩; icases H26 with ⟨%f26, %hf26, H26⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg24.eq_unread hf24; obtain rfl := harg25.eq_unread hf25; obtain rfl := harg26.eq_unread hf26
  have hw1 : k0_chk1 (tbM0_0.view.readAt (Elt F) (Rect.unit (s := S20) (k0_off1 i) S1.size (k0_off1_inb i)).toLoadRect T0 (Shape.Idx.first (numel1_S1.symm ▸ Nat.one_pos))) := hk1
  have hw2 : k0_chk2 (tbM0_0.view.readAt (Elt F) (Rect.unit (s := S20) (k0_off1 i) S1.size (k0_off1_inb i)).toLoadRect T0 (Shape.Idx.first (numel1_S1.symm ▸ Nat.one_pos))) (tbM0_1.view.readAt (Elt F) (Rect.unit (s := S20) (k0_off2 i) S1.size (k0_off2_inb i)).toLoadRect T1 (Shape.Idx.first (numel1_S1.symm ▸ Nat.one_pos))) := hk2
  have ho : ¬ k0_cond2 (tbM0_1.view.readAt (Elt F) (Rect.unit (s := S20) (k0_off2 i) S1.size (k0_off2_inb i)).toLoadRect T1 (Shape.Idx.first (numel1_S1.symm ▸ Nat.one_pos))) = 1#1 := ho'
  have hn := cond_ne _ ho
  sl_exec (disch := first | sl_exact hw1 | sl_exact hw2 | sl_exact ho | sl_exact hn | sl_exact hl)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; · ipureintro; exact harg20.read_unread _
    iexact H20
  isplitl [H21]
  · iexists _; isplitr; swap; · iexact H21
    ipureintro; unfold body_run_AL.sl.r_7 body_run_AL.sl.r_6 body_run_AL.sl.r_5 body_run_AL.sl.r_8
    refine (View.read_writes_full _ _ _ _ _).trans (fin_eq P _ ?h22 ?h24 ?h10 ?h11 ?h23 ?h25 ?h26 ?h12 ?h13 ?h14 ?h15 ?h16 ?h17 ?h18 ?h19 ?h20)
    case h23 => unfold body_run_AL.sl.v102 body_run_AL.sl.H23_1; exact (View.readCov_full _ _ _ _ _).trans (congrArg (fun x => k0_pay7 (k0_pay26 B.seg B.rhs x)) ((View.readAt_full _ _ _).trans (Memref.IsWhole.read_unread _ _)))
    case h24 => unfold body_run_AL.sl.v58 body_run_AL.sl.H24_1; exact (View.readCov_full _ _ _ _ _).trans (congrArg (k0_pay8 B.ex (k0_pay20 B.seg)) ((View.readAt_full _ _ _).trans (Memref.IsWhole.read_unread _ _)))
    case h25 => unfold body_run_AL.sl.v103 body_run_AL.sl.H25_1; exact (View.readCov_full _ _ _ _ _).trans (congrArg (k0_pay11 B.cols (k0_pay20 B.seg)) ((View.readAt_full _ _ _).trans (Memref.IsWhole.read_unread _ _)))
    case h26 => unfold body_run_AL.sl.v108 body_run_AL.sl.H26_1; exact (View.readCov_full _ _ _ _ _).trans (congrArg (k0_pay10 B.cols (k0_pay20 B.seg)) ((View.readAt_full _ _ _).trans (Memref.IsWhole.read_unread _ _)))
    case h22 => clear * -; unfold body_run_AL.sl.v57; unfold body_run_AL.sl.H22_4; (try unfold body_run_AL.sl.H22_3); (try unfold body_run_AL.sl.H22_2); (try unfold body_run_AL.sl.H22_1); exact readCov_quarters arg22 harg22 S'.num _ _ _ _ _ (read_updOf_cons arg22 harg22 S'.num _ _ (read_updOf_cons arg22 harg22 S'.num _ _ (read_updOf_cons arg22 harg22 S'.num _ _ (read_upd arg22 harg22 S'.num _ _ _ _) _ _ _ _) _ _ _ _) _ _ _ _)
    all_goals exact (View.readAt_full _ _ _).trans (Memref.IsWhole.read_unread _ _)
  isplitl [H22]
  · iexists _; isplitr; swap; · iexact H22
    ipureintro; exact read_updOf_cons arg22 harg22 S'.num _ _ (read_updOf_cons arg22 harg22 S'.num _ _ (read_updOf_cons arg22 harg22 S'.num _ _ (read_upd arg22 harg22 S'.num _ _ _ _) _ _ _ _) _ _ _ _) _ _ _ _
  isplitl [H23]
  · iexists _; isplitr; swap; · iexact H23
    ipureintro; exact read_full arg23 harg23 S'.bh _ _ (fun x => k0_pay7 (k0_pay26 B.seg B.rhs x))
  isplitl [H24]
  · iexists _; isplitr; swap; · iexact H24
    ipureintro; exact read_full arg24 harg24 S'.den _ _ (k0_pay8 B.ex (k0_pay20 B.seg))
  isplitl [H25]
  · iexists _; isplitr; swap; · iexact H25
    ipureintro; exact read_full arg25 harg25 S'.cnt _ _ (k0_pay11 B.cols (k0_pay20 B.seg))
  isplitl [H26]
  · iexists _; isplitr; swap; · iexact H26
    ipureintro; exact read_full arg26 harg26 S'.dep _ _ (k0_pay10 B.cols (k0_pay20 B.seg))
  isplitl [HT0]; · iexact HT0
  iexact HT1

end Cert.KernelIdeal.Body

end
-- ==== Proof.KIRunAN.lean ====
module

public import proofs.«01_k».proof.Proof.KIBody
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .vmem S5000x128 .f32) (harg3 : arg3.IsWhole) (arg4 : Memref sig .tc .vmem S1x1x5000 .i32) (harg4 : arg4.IsWhole) (arg5 : Memref sig .tc .vmem S5000x40 .bf16) (harg5 : arg5.IsWhole) (arg6 : Memref sig .tc .vmem S128x128 .bf16) (harg6 : arg6.IsWhole) (arg7 : Memref sig .tc .vmem S1x128 .f32) (harg7 : arg7.IsWhole) (arg8 : Memref sig .tc .vmem S128x4 .f32) (harg8 : arg8.IsWhole) (arg9 : Memref sig .tc .vmem S1x4 .f32) (harg9 : arg9.IsWhole) (arg10 : Memref sig .tc .vmem S512x128 .f32) (harg10 : arg10.IsWhole) (arg11 : Memref sig .tc .vmem S1x128 .f32) (harg11 : arg11.IsWhole) (arg12 : Memref sig .tc .vmem S32x8 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S8x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S256x128 .f32) (harg21 : arg21.IsWhole) (arg22 : Memref sig .tc .vmem S256x512 .f32) (harg22 : arg22.IsWhole) (arg23 : Memref sig .tc .vmem S256x128 .f32) (harg23 : arg23.IsWhole) (arg24 : Memref sig .tc .vmem S256x4 .f32) (harg24 : arg24.IsWhole) (arg25 : Memref sig .tc .vmem S256x1 .f32) (harg25 : arg25.IsWhole) (arg26 : Memref sig .tc .vmem S256x32 .f32) (harg26 : arg26.IsWhole)

set_option maxHeartbeats 16000000 in
/-- One run of the body at a point that works on the whole tables. -/
theorem body_run_AN (B : Blk F) (P : Par F) (S : Acc F) (o0 : Vec F S256x128 .f32) (T0 : TbBuf (F := F) c tbM0_0) (T1 : TbBuf (F := F) c tbM0_1)
    (hk1 : k0_chk1 (word0 c i T0)) (hk2 : k0_chk2 (word0 c i T0) (word1 c i T1)) (ho' : ¬ k0_cond2 (word1 c i T1) = 1#1) (hl : ¬ k0_cond4 i = 1#1) (E : Set ℕ) (K : PUnit → sProp 𝕄) :
    iprop(owns (c : Thread nD τ) arg3 fullShare B.h ∗ owns (c : Thread nD τ) arg4 fullShare B.bat ∗ owns (c : Thread nD τ) arg5 fullShare B.aux ∗ owns (c : Thread nD τ) arg6 fullShare B.w1 ∗ owns (c : Thread nD τ) arg7 fullShare B.b1 ∗ owns (c : Thread nD τ) arg8 fullShare B.w2 ∗ owns (c : Thread nD τ) arg9 fullShare B.b2 ∗ owns (c : Thread nD τ) arg10 fullShare P.hp ∗ owns (c : Thread nD τ) arg11 fullShare P.hpb ∗ owns (c : Thread nD τ) arg12 fullShare P.dt ∗ owns (c : Thread nD τ) arg13 fullShare P.fa ∗ owns (c : Thread nD τ) arg14 fullShare P.fb ∗ owns (c : Thread nD τ) arg15 fullShare P.fc ∗ owns (c : Thread nD τ) arg16 fullShare P.fb1 ∗ owns (c : Thread nD τ) arg17 fullShare P.fw2 ∗ owns (c : Thread nD τ) arg18 fullShare P.fb2 ∗ owns (c : Thread nD τ) arg19 fullShare P.ga ∗ owns (c : Thread nD τ) arg20 fullShare P.be ∗ owns (c : Thread nD τ) arg21 fullShare o0 ∗ owns (c : Thread nD τ) arg22 fullShare S.num ∗ owns (c : Thread nD τ) arg23 fullShare S.bh ∗ owns (c : Thread nD τ) arg24 fullShare S.den ∗ owns (c : Thread nD τ) arg25 fullShare S.cnt ∗ owns (c : Thread nD τ) arg26 fullShare S.dep ∗ tbPt c tbM0_0 T0 ∗ tbPt c tbM0_1 T1
      ∗ (iprop(owns (c : Thread nD τ) arg3 fullShare B.h ∗ owns (c : Thread nD τ) arg4 fullShare B.bat ∗ owns (c : Thread nD τ) arg5 fullShare B.aux ∗ owns (c : Thread nD τ) arg6 fullShare B.w1 ∗ owns (c : Thread nD τ) arg7 fullShare B.b1 ∗ owns (c : Thread nD τ) arg8 fullShare B.w2 ∗ owns (c : Thread nD τ) arg9 fullShare B.b2 ∗ owns (c : Thread nD τ) arg10 fullShare P.hp ∗ owns (c : Thread nD τ) arg11 fullShare P.hpb ∗ owns (c : Thread nD τ) arg12 fullShare P.dt ∗ owns (c : Thread nD τ) arg13 fullShare P.fa ∗ owns (c : Thread nD τ) arg14 fullShare P.fb ∗ owns (c : Thread nD τ) arg15 fullShare P.fc ∗ owns (c : Thread nD τ) arg16 fullShare P.fb1 ∗ owns (c : Thread nD τ) arg17 fullShare P.fw2 ∗ owns (c : Thread nD τ) arg18 fullShare P.fb2 ∗ owns (c : Thread nD τ) arg19 fullShare P.ga ∗ owns (c : Thread nD τ) arg20 fullShare P.be ∗ owns (c : Thread nD τ) arg21 fullShare o0 ∗ owns (c : Thread nD τ) arg22 fullShare (step B (word0 c i T0) (word1 c i T1) hk2 (start i S)).num ∗ owns (c : Thread nD τ) arg23 fullShare (step B (word0 c i T0) (word1 c i T1) hk2 (start i S)).bh ∗ owns (c : Thread nD τ) arg24 fullShare (step B (word0 c i T0) (word1 c i T1) hk2 (start i S)).den ∗ owns (c : Thread nD τ) arg25 fullShare (step B (word0 c i T0) (word1 c i T1) hk2 (start i S)).cnt ∗ owns (c : Thread nD τ) arg26 fullShare (step B (word0 c i T0) (word1 c i T1) hk2 (start i S)).dep ∗ tbPt c tbM0_0 T0 ∗ tbPt c tbM0_1 T1) -∗ K ⟨⟩))
      ⊢ wp frame (wpE (defs₀ (F := F)) Variants.none c none) E (cc0__body i tbM0_0 htbM0_0 tbM0_1 htbM0_1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__body_eq_skeleton]; unfold cc0__body_skel
  rw [wp_bind]
  iintro ⟨H3, H4, H5, H6, H7, H8, H9, H10, H11, H12, H13, H14, H15, H16, H17, H18, H19, H20, H21, H22, H23, H24, H25, H26, HT0, HT1, Hk⟩
  iapply part6_run (B := B) (S := S)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H22]; · iexact H22
  isplitl [H23]; · iexact H23
  isplitl [H24]; · iexact H24
  isplitl [H25]; · iexact H25
  isplitl [H26]; · iexact H26
  iintro ⟨H3, H4, H5, H6, H7, H8, H9, H22, H23, H24, H25, H26⟩
  generalize start i S = S'
  rw [step_all B _ _ hk2 S' ho']
  simp only [k0_part2_eq_skeleton]
  unfold owns
  icases H3 with ⟨%f3, %hf3, H3⟩; icases H4 with ⟨%f4, %hf4, H4⟩; icases H5 with ⟨%f5, %hf5, H5⟩; icases H6 with ⟨%f6, %hf6, H6⟩; icases H7 with ⟨%f7, %hf7, H7⟩; icases H8 with ⟨%f8, %hf8, H8⟩; icases H9 with ⟨%f9, %hf9, H9⟩; icases H10 with ⟨%f10, %hf10, H10⟩; icases H11 with ⟨%f11, %hf11, H11⟩; icases H12 with ⟨%f12, %hf12, H12⟩; icases H13 with ⟨%f13, %hf13, H13⟩; icases H14 with ⟨%f14, %hf14, H14⟩; icases H15 with ⟨%f15, %hf15, H15⟩; icases H16 with ⟨%f16, %hf16, H16⟩; icases H17 with ⟨%f17, %hf17, H17⟩; icases H18 with ⟨%f18, %hf18, H18⟩; icases H19 with ⟨%f19, %hf19, H19⟩; icases H20 with ⟨%f20, %hf20, H20⟩; icases H21 with ⟨%f21, %hf21, H21⟩; icases H22 with ⟨%f22, %hf22, H22⟩; icases H23 with ⟨%f23, %hf23, H23⟩; icases H24 with ⟨%f24, %hf24, H24⟩; icases H25 with ⟨%f25, %hf25, H25⟩; icases H26 with ⟨%f26, %hf26, H26⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg24.eq_unread hf24; obtain rfl := harg25.eq_unread hf25; obtain rfl := harg26.eq_unread hf26
  have hw1 : k0_chk1 (tbM0_0.view.readAt (Elt F) (Rect.unit (s := S20) (k0_off1 i) S1.size (k0_off1_inb i)).toLoadRect T0 (Shape.Idx.first (numel1_S1.symm ▸ Nat.one_pos))) := hk1
  have hw2 : k0_chk2 (tbM0_0.view.readAt (Elt F) (Rect.unit (s := S20) (k0_off1 i) S1.size (k0_off1_inb i)).toLoadRect T0 (Shape.Idx.first (numel1_S1.symm ▸ Nat.one_pos))) (tbM0_1.view.readAt (Elt F) (Rect.unit (s := S20) (k0_off2 i) S1.size (k0_off2_inb i)).toLoadRect T1 (Shape.Idx.first (numel1_S1.symm ▸ Nat.one_pos))) := hk2
  have ho : ¬ k0_cond2 (tbM0_1.view.readAt (Elt F) (Rect.unit (s := S20) (k0_off2 i) S1.size (k0_off2_inb i)).toLoadRect T1 (Shape.Idx.first (numel1_S1.symm ▸ Nat.one_pos))) = 1#1 := ho'
  have hn := cond_ne _ ho
  sl_exec (disch := first | sl_exact hw1 | sl_exact hw2 | sl_exact ho | sl_exact hn | sl_exact hl)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; · ipureintro; exact harg20.read_unread _
    iexact H20
  isplitl [H21]
  · iexists _; isplitr; swap; · iexact H21
    ipureintro; exact harg21.read_unread _
  isplitl [H22]
  · iexists _; isplitr; swap; · iexact H22
    ipureintro; exact read_updOf_cons arg22 harg22 S'.num _ _ (read_updOf_cons arg22 harg22 S'.num _ _ (read_updOf_cons arg22 harg22 S'.num _ _ (read_upd arg22 harg22 S'.num _ _ _ _) _ _ _ _) _ _ _ _) _ _ _ _
  isplitl [H23]
  · iexists _; isplitr; swap; · iexact H23
    ipureintro; exact read_full arg23 harg23 S'.bh _ _ (fun x => k0_pay7 (k0_pay26 B.seg B.rhs x))
  isplitl [H24]
  · iexists _; isplitr; swap; · iexact H24
    ipureintro; exact read_full arg24 harg24 S'.den _ _ (k0_pay8 B.ex (k0_pay20 B.seg))
  isplitl [H25]
  · iexists _; isplitr; swap; · iexact H25
    ipureintro; exact read_full arg25 harg25 S'.cnt _ _ (k0_pay11 B.cols (k0_pay20 B.seg))
  isplitl [H26]
  · iexists _; isplitr; swap; · iexact H26
    ipureintro; exact read_full arg26 harg26 S'.dep _ _ (k0_pay10 B.cols (k0_pay20 B.seg))
  isplitl [HT0]; · iexact HT0
  iexact HT1

end Cert.KernelIdeal.Body

end
-- ==== Proof.KIRun.lean ====
module

public import proofs.«01_k».proof.Proof.KIRunWL
public import proofs.«01_k».proof.Proof.KIRunWN
public import proofs.«01_k».proof.Proof.KIRunAL
public import proofs.«01_k».proof.Proof.KIRunAN
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .vmem S5000x128 .f32) (harg3 : arg3.IsWhole) (arg4 : Memref sig .tc .vmem S1x1x5000 .i32) (harg4 : arg4.IsWhole) (arg5 : Memref sig .tc .vmem S5000x40 .bf16) (harg5 : arg5.IsWhole) (arg6 : Memref sig .tc .vmem S128x128 .bf16) (harg6 : arg6.IsWhole) (arg7 : Memref sig .tc .vmem S1x128 .f32) (harg7 : arg7.IsWhole) (arg8 : Memref sig .tc .vmem S128x4 .f32) (harg8 : arg8.IsWhole) (arg9 : Memref sig .tc .vmem S1x4 .f32) (harg9 : arg9.IsWhole) (arg10 : Memref sig .tc .vmem S512x128 .f32) (harg10 : arg10.IsWhole) (arg11 : Memref sig .tc .vmem S1x128 .f32) (harg11 : arg11.IsWhole) (arg12 : Memref sig .tc .vmem S32x8 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S8x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S256x128 .f32) (harg21 : arg21.IsWhole) (arg22 : Memref sig .tc .vmem S256x512 .f32) (harg22 : arg22.IsWhole) (arg23 : Memref sig .tc .vmem S256x128 .f32) (harg23 : arg23.IsWhole) (arg24 : Memref sig .tc .vmem S256x4 .f32) (harg24 : arg24.IsWhole) (arg25 : Memref sig .tc .vmem S256x1 .f32) (harg25 : arg25.IsWhole) (arg26 : Memref sig .tc .vmem S256x32 .f32) (harg26 : arg26.IsWhole)

/-- One run of the body: the tables move by a step, and the last point writes the result. -/
theorem body_run (B : Blk F) (P : Par F) (S : Acc F) (o0 : Vec F S256x128 .f32) (T0 : TbBuf (F := F) c tbM0_0) (T1 : TbBuf (F := F) c tbM0_1)
    (hk1 : k0_chk1 (word0 c i T0)) (hk2 : k0_chk2 (word0 c i T0) (word1 c i T1))
    (o1 : Vec F S256x128 .f32) (h1 : k0_cond4 i = 1#1 → o1 = fin P (step B (word0 c i T0) (word1 c i T1) hk2 (start i S))) (h0 : ¬ k0_cond4 i = 1#1 → o1 = o0) (E : Set ℕ) (K : PUnit → sProp 𝕄) :
    iprop(owns (c : Thread nD τ) arg3 fullShare B.h ∗ owns (c : Thread nD τ) arg4 fullShare B.bat ∗ owns (c : Thread nD τ) arg5 fullShare B.aux ∗ owns (c : Thread nD τ) arg6 fullShare B.w1 ∗ owns (c : Thread nD τ) arg7 fullShare B.b1 ∗ owns (c : Thread nD τ) arg8 fullShare B.w2 ∗ owns (c : Thread nD τ) arg9 fullShare B.b2 ∗ owns (c : Thread nD τ) arg10 fullShare P.hp ∗ owns (c : Thread nD τ) arg11 fullShare P.hpb ∗ owns (c : Thread nD τ) arg12 fullShare P.dt ∗ owns (c : Thread nD τ) arg13 fullShare P.fa ∗ owns (c : Thread nD τ) arg14 fullShare P.fb ∗ owns (c : Thread nD τ) arg15 fullShare P.fc ∗ owns (c : Thread nD τ) arg16 fullShare P.fb1 ∗ owns (c : Thread nD τ) arg17 fullShare P.fw2 ∗ owns (c : Thread nD τ) arg18 fullShare P.fb2 ∗ owns (c : Thread nD τ) arg19 fullShare P.ga ∗ owns (c : Thread nD τ) arg20 fullShare P.be ∗ owns (c : Thread nD τ) arg21 fullShare o0 ∗ owns (c : Thread nD τ) arg22 fullShare S.num ∗ owns (c : Thread nD τ) arg23 fullShare S.bh ∗ owns (c : Thread nD τ) arg24 fullShare S.den ∗ owns (c : Thread nD τ) arg25 fullShare S.cnt ∗ owns (c : Thread nD τ) arg26 fullShare S.dep ∗ tbPt c tbM0_0 T0 ∗ tbPt c tbM0_1 T1
      ∗ (iprop(owns (c : Thread nD τ) arg3 fullShare B.h ∗ owns (c : Thread nD τ) arg4 fullShare B.bat ∗ owns (c : Thread nD τ) arg5 fullShare B.aux ∗ owns (c : Thread nD τ) arg6 fullShare B.w1 ∗ owns (c : Thread nD τ) arg7 fullShare B.b1 ∗ owns (c : Thread nD τ) arg8 fullShare B.w2 ∗ owns (c : Thread nD τ) arg9 fullShare B.b2 ∗ owns (c : Thread nD τ) arg10 fullShare P.hp ∗ owns (c : Thread nD τ) arg11 fullShare P.hpb ∗ owns (c : Thread nD τ) arg12 fullShare P.dt ∗ owns (c : Thread nD τ) arg13 fullShare P.fa ∗ owns (c : Thread nD τ) arg14 fullShare P.fb ∗ owns (c : Thread nD τ) arg15 fullShare P.fc ∗ owns (c : Thread nD τ) arg16 fullShare P.fb1 ∗ owns (c : Thread nD τ) arg17 fullShare P.fw2 ∗ owns (c : Thread nD τ) arg18 fullShare P.fb2 ∗ owns (c : Thread nD τ) arg19 fullShare P.ga ∗ owns (c : Thread nD τ) arg20 fullShare P.be ∗ owns (c : Thread nD τ) arg21 fullShare o1 ∗ owns (c : Thread nD τ) arg22 fullShare (step B (word0 c i T0) (word1 c i T1) hk2 (start i S)).num ∗ owns (c : Thread nD τ) arg23 fullShare (step B (word0 c i T0) (word1 c i T1) hk2 (start i S)).bh ∗ owns (c : Thread nD τ) arg24 fullShare (step B (word0 c i T0) (word1 c i T1) hk2 (start i S)).den ∗ owns (c : Thread nD τ) arg25 fullShare (step B (word0 c i T0) (word1 c i T1) hk2 (start i S)).cnt ∗ owns (c : Thread nD τ) arg26 fullShare (step B (word0 c i T0) (word1 c i T1) hk2 (start i S)).dep ∗ tbPt c tbM0_0 T0 ∗ tbPt c tbM0_1 T1) -∗ K ⟨⟩))
      ⊢ wp frame (wpE (defs₀ (F := F)) Variants.none c none) E (cc0__body i tbM0_0 htbM0_0 tbM0_1 htbM0_1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  by_cases ho : k0_cond2 (word1 c i T1) = 1#1
  · by_cases hl : k0_cond4 i = 1#1
    · rw [h1 hl]; exact body_run_WL c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B P S o0 T0 T1 hk1 hk2 ho hl E K
    · rw [h0 hl]; exact body_run_WN c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B P S o0 T0 T1 hk1 hk2 ho hl E K
  · by_cases hl : k0_cond4 i = 1#1
    · rw [h1 hl]; exact body_run_AL c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B P S o0 T0 T1 hk1 hk2 ho hl E K
    · rw [h0 hl]; exact body_run_AN c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B P S o0 T0 T1 hk1 hk2 ho hl E K

end Cert.KernelIdeal.Body

end
-- ==== Proof.KIFrame.lean ====
module

public import proofs.«01_k».proof.Proof.Gen.KernelIdeal.Launch
public import proofs.«01_k».proof.Proof.Gen.KernelIdeal.Skeleton
public import proofs.«01_k».proof.Proof.KIKit
public import proofs.«01_k».proof.Proof.KIRun
public import Idealize.ShloMosaic.Lib.Pipeline.ValueKit
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hT : Tok m)

/-- The body at point `t`, as the pipeline calls it. -/
abbrev bodyAt (t : Fin (cfgM m).N) : Prog (TpuEff nD τ sig (Elt F) Λ₀ .tc) PUnit :=
  cc0__body (grid0.coords t) (Memref.whole main_v35) (Memref.isWhole_whole _) (Memref.whole main_v39) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (spec0_7.stage ((cfgM m).slots t 7)) (hstage0_7 (((cfgM m).slots t 7).cast nbuf0_7)) (spec0_8.stage ((cfgM m).slots t 8)) (hstage0_8 (((cfgM m).slots t 8).cast nbuf0_8)) (spec0_9.stage ((cfgM m).slots t 9)) (hstage0_9 (((cfgM m).slots t 9).cast nbuf0_9)) (spec0_10.stage ((cfgM m).slots t 10)) (hstage0_10 (((cfgM m).slots t 10).cast nbuf0_10)) (spec0_11.stage ((cfgM m).slots t 11)) (hstage0_11 (((cfgM m).slots t 11).cast nbuf0_11)) (spec0_12.stage ((cfgM m).slots t 12)) (hstage0_12 (((cfgM m).slots t 12).cast nbuf0_12)) (spec0_13.stage ((cfgM m).slots t 13)) (hstage0_13 (((cfgM m).slots t 13).cast nbuf0_13)) (spec0_14.stage ((cfgM m).slots t 14)) (hstage0_14 (((cfgM m).slots t 14).cast nbuf0_14)) (spec0_15.stage ((cfgM m).slots t 15)) (hstage0_15 (((cfgM m).slots t 15).cast nbuf0_15)) (spec0_16.stage ((cfgM m).slots t 16)) (hstage0_16 (((cfgM m).slots t 16).cast nbuf0_16)) (spec0_17.stage ((cfgM m).slots t 17)) (hstage0_17 (((cfgM m).slots t 17).cast nbuf0_17)) (spec0_18.stage ((cfgM m).slots t 18)) (hstage0_18 (((cfgM m).slots t 18).cast nbuf0_18)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

/-- The buffers the body is handed at point `t`, and that nothing is owed. -/
def preBufs (c : Dev nD) (t : Fin (cfgM m).N) : sProp 𝕄 :=
  iprop((dats m hT 0 c).owesAt () t.castSucc
    ∗ (∃ d, owns (c : Thread nD τ) (spec0_0.stage ((cfgM m).slots t 0)) fullShare ((dats m hT 0 c).before 0 t d))
    ∗ (∃ d, owns (c : Thread nD τ) (spec0_1.stage ((cfgM m).slots t 1)) fullShare ((dats m hT 0 c).before 1 t d))
    ∗ (∃ d, owns (c : Thread nD τ) (spec0_2.stage ((cfgM m).slots t 2)) fullShare ((dats m hT 0 c).before 2 t d))
    ∗ (∃ d, owns (c : Thread nD τ) (spec0_3.stage ((cfgM m).slots t 3)) fullShare ((dats m hT 0 c).before 3 t d))
    ∗ (∃ d, owns (c : Thread nD τ) (spec0_4.stage ((cfgM m).slots t 4)) fullShare ((dats m hT 0 c).before 4 t d))
    ∗ (∃ d, owns (c : Thread nD τ) (spec0_5.stage ((cfgM m).slots t 5)) fullShare ((dats m hT 0 c).before 5 t d))
    ∗ (∃ d, owns (c : Thread nD τ) (spec0_6.stage ((cfgM m).slots t 6)) fullShare ((dats m hT 0 c).before 6 t d))
    ∗ (∃ d, owns (c : Thread nD τ) (spec0_7.stage ((cfgM m).slots t 7)) fullShare ((dats m hT 0 c).before 7 t d))
    ∗ (∃ d, owns (c : Thread nD τ) (spec0_8.stage ((cfgM m).slots t 8)) fullShare ((dats m hT 0 c).before 8 t d))
    ∗ (∃ d, owns (c : Thread nD τ) (spec0_9.stage ((cfgM m).slots t 9)) fullShare ((dats m hT 0 c).before 9 t d))
    ∗ (∃ d, owns (c : Thread nD τ) (spec0_10.stage ((cfgM m).slots t 10)) fullShare ((dats m hT 0 c).before 10 t d))
    ∗ (∃ d, owns (c : Thread nD τ) (spec0_11.stage ((cfgM m).slots t 11)) fullShare ((dats m hT 0 c).before 11 t d))
    ∗ (∃ d, owns (c : Thread nD τ) (spec0_12.stage ((cfgM m).slots t 12)) fullShare ((dats m hT 0 c).before 12 t d))
    ∗ (∃ d, owns (c : Thread nD τ) (spec0_13.stage ((cfgM m).slots t 13)) fullShare ((dats m hT 0 c).before 13 t d))
    ∗ (∃ d, owns (c : Thread nD τ) (spec0_14.stage ((cfgM m).slots t 14)) fullShare ((dats m hT 0 c).before 14 t d))
    ∗ (∃ d, owns (c : Thread nD τ) (spec0_15.stage ((cfgM m).slots t 15)) fullShare ((dats m hT 0 c).before 15 t d))
    ∗ (∃ d, owns (c : Thread nD τ) (spec0_16.stage ((cfgM m).slots t 16)) fullShare ((dats m hT 0 c).before 16 t d))
    ∗ (∃ d, owns (c : Thread nD τ) (spec0_17.stage ((cfgM m).slots t 17)) fullShare ((dats m hT 0 c).before 17 t d))
    ∗ (∃ d, owns (c : Thread nD τ) (spec0_18.stage ((cfgM m).slots t 18)) fullShare ((dats m hT 0 c).before 18 t d)))

/-- What it returns. -/
def postAll (c : Dev nD) (t : Fin (cfgM m).N) : sProp 𝕄 :=
  iprop((dats m hT 0 c).Φ t.succ ∗ (dats m hT 0 c).owesAt () t.succ
    ∗ (dats m hT 0 c).leavesExact 0 t
    ∗ (dats m hT 0 c).leavesExact 1 t
    ∗ (dats m hT 0 c).leavesExact 2 t
    ∗ (dats m hT 0 c).leavesExact 3 t
    ∗ (dats m hT 0 c).leavesExact 4 t
    ∗ (dats m hT 0 c).leavesExact 5 t
    ∗ (dats m hT 0 c).leavesExact 6 t
    ∗ (dats m hT 0 c).leavesExact 7 t
    ∗ (dats m hT 0 c).leavesExact 8 t
    ∗ (dats m hT 0 c).leavesExact 9 t
    ∗ (dats m hT 0 c).leavesExact 10 t
    ∗ (dats m hT 0 c).leavesExact 11 t
    ∗ (dats m hT 0 c).leavesExact 12 t
    ∗ (dats m hT 0 c).leavesExact 13 t
    ∗ (dats m hT 0 c).leavesExact 14 t
    ∗ (dats m hT 0 c).leavesExact 15 t
    ∗ (dats m hT 0 c).leavesExact 16 t
    ∗ (dats m hT 0 c).leavesExact 17 t
    ∗ (dats m hT 0 c).leavesExact 18 t)

set_option maxHeartbeats 8000000 in
/-- The body at a point, from sums `S` that start it at `St`. -/
theorem point_run (c : Dev nD) (t : Fin (cfgM m).N) (S : Acc F) (hS : start (grid0.coords t) S = St m hT c t.val (Nat.le_of_lt t.isLt)) :
    iprop(iprop(iprop(held5 c S ∗ (∃ r, prngReg c r)) ∗ Pipeline.ΦT pre0 (tbl m) c) ∗ preBufs m hT c t)
      ⊢ wp frame (wpE (defs₀ (F := F)) Variants.none c none) Set.univ (bodyAt m t) (fun _ => postAll m hT c t) := by
  unfold preBufs postAll held5
  simp only [(in0_0 m hT c t).1, (in0_1 m hT c t).1, (in0_2 m hT c t).1, (in0_3 m hT c t).1, (in0_4 m hT c t).1, (in0_5 m hT c t).1, (in0_6 m hT c t).1, (in0_7 m hT c t).1, (in0_8 m hT c t).1, (in0_9 m hT c t).1, (in0_10 m hT c t).1, (in0_11 m hT c t).1, (in0_12 m hT c t).1, (in0_13 m hT c t).1, (in0_14 m hT c t).1, (in0_15 m hT c t).1, (in0_16 m hT c t).1, (in0_17 m hT c t).1]
  rw [(in0_0 m hT c t).2, (in0_1 m hT c t).2, (in0_2 m hT c t).2, (in0_3 m hT c t).2, (in0_4 m hT c t).2, (in0_5 m hT c t).2, (in0_6 m hT c t).2, (in0_7 m hT c t).2, (in0_8 m hT c t).2, (in0_9 m hT c t).2, (in0_10 m hT c t).2, (in0_11 m hT c t).2, (in0_12 m hT c t).2, (in0_13 m hT c t).2, (in0_14 m hT c t).2, (in0_15 m hT c t).2, (in0_16 m hT c t).2, (in0_17 m hT c t).2]
  rw [show (dats m hT 0 c).owesAt () t.succ = (dats m hT 0 c).owesAt () t.castSucc from rfl]
  rw [show (dats m hT 0 c).Φ t.succ = PhiS m hT c (t.val + 1) t.isLt from rfl, PhiS_succ, PhiT0_eq, St_succ, ← hS]
  unfold held5 bodyAt
  iintro ⟨⟨⟨⟨HS0, HS1, HS2, HS3, HS4⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  generalize ho1 : (if t.val = 19 then fin (parAt m c t) (step (blkAt m c t) (g0At m c t) (ovAt m c t) (hT c t).2 (start (grid0.coords t) S)) else (dats m hT 0 c).before 18 t d18) = o1
  iapply (body_run c (grid0.coords t) _ _ _ _ _ _ _ _ _ _ _ _ _ _ _ _ _ _ _ _ _ _ _ _ _ _ _ _ _ _ _ _ _ _ _ _ _ _ _ _ _ _ _ _ _ _ _ _ (blkAt m c t) (parAt m c t) S ((dats m hT 0 c).before 18 t d18) (tbl m 0) (tbl m 1) (hT c t).1 (hT c t).2
    o1 (fun h => ho1.symm.trans (if_pos ((last_iff t).mp h))) (fun h => ho1.symm.trans (if_neg fun h' => h ((last_iff t).mpr h'))) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [HS0]; · iexact HS0
  isplitl [HS1]; · iexact HS1
  isplitl [HS2]; · iexact HS2
  isplitl [HS3]; · iexact HS3
  isplitl [HS4]; · iexact HS4
  isplitl [HT0]; · iexact HT0
  isplitl [HT1]; · iexact HT1
  iintro ⟨H0, H1, H2, H3, H4, H5, H6, H7, H8, H9, H10, H11, H12, H13, H14, H15, H16, H17, H18, HS0, HS1, HS2, HS3, HS4, HT0, HT1⟩
  isplitl [HS0 HS1 HS2 HS3 HS4 Hg HT0 HT1]
  · isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  by_cases hl : t.val = 19
  · rw [show (dats m hT 0 c).leavesExact 18 t = owns (c : Thread nD τ) (spec0_18.stage ((cfgM m).slots t 18)) fullShare ((dats m hT 0 c).after 18 t) from by
      unfold Dat.leavesExact; rw [live18 m t hl]; try rfl, after0_18, St_succ, ← hS]
    iapply (show (owns (c : Thread nD τ) (spec0_18.stage ((cfgM m).slots t 18)) fullShare o1 : sProp 𝕄) ⊢ _ from Entails.of_eq (congrArg (owns (c : Thread nD τ) (spec0_18.stage ((cfgM m).slots t 18)) fullShare) (ho1.symm.trans (if_pos hl))))
    iexact H18
  · rw [Dat.leavesExact_idle (dats m hT 0 c) 18 t (idle18 m t hl) (flush18 m t hl)]
    iexists d18
    iapply (show (owns (c : Thread nD τ) (spec0_18.stage ((cfgM m).slots t 18)) fullShare o1 : sProp 𝕄) ⊢ owns (c : Thread nD τ) (((cfgM m).win 18).stage ((cfgM m).slots t 18)) fullShare ((dats m hT 0 c).before 18 t d18) from
      Entails.of_eq (congrArg (owns (c : Thread nD τ) (spec0_18.stage ((cfgM m).slots t 18)) fullShare) (ho1.symm.trans (if_neg hl))))
    iexact H18

/-- The body at any point. -/
theorem sound_body (c : Dev nD) (t : Fin (cfgM m).N) :
    iprop((dats m hT 0 c).Φ t.castSucc ∗ preBufs m hT c t)
      ⊢ wp frame (wpE (defs₀ (F := F)) Variants.none c none) Set.univ (bodyAt m t) (fun _ => postAll m hT c t) := by
  rw [PhiS_castSucc]
  by_cases hz : t.val = 0
  · rw [PhiS_zero m hT c _ _ hz, PhiA0_eq]
    iintro ⟨⟨⟨⟨⟨%d0, HS0⟩, ⟨%d1, HS1⟩, ⟨%d2, HS2⟩, ⟨%d3, HS3⟩, ⟨%d4, HS4⟩⟩, Hg⟩, HT⟩, Hb⟩
    iapply (point_run m hT c t ⟨d0, d1, d2, d3, d4⟩ (by
      rw [start, if_pos ((first_iff t).mpr hz)]
      obtain ⟨n, hn⟩ := t; subst hz; rfl))
    unfold held5
    isplitr [Hb]
    · isplitr [HT]
      · isplitr [Hg]
        · isplitl [HS0]; · iexact HS0
          isplitl [HS1]; · iexact HS1
          isplitl [HS2]; · iexact HS2
          isplitl [HS3]; · iexact HS3
          iexact HS4
        iexact Hg
      iexact HT
    iexact Hb
  · rw [PhiS_pos m hT c _ _ hz]
    exact point_run m hT c t _ (by rw [start, if_neg fun h => hz ((first_iff t).mp h)])

/-- The body table's row. -/
theorem defs₀_row (t : Fin (cfgM m).N) :
    defs₀ (F := F) .tc (cfgM m).body ((cfgM m).bodyArgs t ((cfgM m).slots t)) = bodyAt m t := by
  unfold defs₀; rw [Defs.onTc_tc]

/-- The body obligation. -/
theorem body_obligation (c : Dev nD) : BodyObligation (dats (F := F) m hT 0 c) (defs₀ (F := F)) Variants.none () Set.univ := fun t => by
  rw [bigSep_W0, bigSep_W0, defs₀_row m]
  exact triple_restated (sound_body m hT c t) rfl .rfl fun _ => .rfl

/-- What the launch hands the kernel is the invariant before the first point. -/
theorem hin (c : Dev nD) : iprop(Pipeline.ΦA spec0 c ∗ Pipeline.ΦT pre0 (tbl m) c) ⊢ (dats m hT 0 c).Φ 0 := by
  rw [show (dats m hT 0 c).Φ 0 = PhiS m hT c 0 (Nat.zero_le _) from rfl, PhiS_zero m hT c 0 _ rfl]
  try exact Idealize.SL.BI.Entails.refl _

/-- After the last point the invariant gives the scoped buffers back. -/
theorem hout (c : Dev nD) : (dats m hT 0 c).Φ (Fin.last (cfgM m).N) ⊢ Pipeline.ΦA spec0 c := by
  rw [show (dats m hT 0 c).Φ (Fin.last (cfgM m).N) = PhiS m hT c (Fin.last (cfgM m).N).val (Nat.le_of_lt_succ (Fin.last (cfgM m).N).isLt) from rfl,
    PhiS_pos m hT c _ _ (by rw [Fin.val_last]; have : (cfgM m).N = 20 := N_0; omega), PhiA0_eq]
  unfold held5
  iintro ⟨⟨⟨HS0, HS1, HS2, HS3, HS4⟩, Hg⟩, -⟩
  isplitr [Hg]
  · isplitl [HS0]; · iexists _; iexact HS0
    isplitl [HS1]; · iexists _; iexact HS1
    isplitl [HS2]; · iexists _; iexact HS2
    isplitl [HS3]; · iexists _; iexact HS3
    iexists _; iexact HS4
  iexact Hg

set_option backward.isDefEq.respectTransparency.types false in
/-- The run: every array ends as the data says, and every semaphore is back at zero. -/
theorem run_main : θ_run defs (onTc (τ := τ) (main (F := F))) (s₀ m ρ) (fun r => (Pipeline.FramePost (Pipeline.pin pcfgs fun _ => adm m) (dats m hT) 0 (V m)) r ∧ r.2.sem = fun _ => 0) :=
  Pipeline.θ_run_frameP_track (Q' := _) pcfgs (fun _ => adm m) (dats m hT) (0 : Fin 1) launch0 defs₀ Variants.none m ρ main
    (hbody := fun c => (body_obligation m hT c).loose) (hshare := fun c => (dats m hT 0 c).share_full fun _ => rfl)
    (howed := fun _ _ => rfl) (V := V m) (hmain := hmain m Variants.none) (hA := A_eq m hT) (hpf := V_pre m)
    (hin := hin m hT) (hout := hout m hT)

/-- The last point. -/
abbrev tLast : Fin (cfgM m).N := (⟨19, by decide⟩ : Fin grid0.N)

/-- The result the kernel leaves. -/
def result (c : Dev nD) : Vec F S256x128 .f32 := fin (parAt m c (tLast m)) (St m hT c 20 (le_of_eq N_0.symm))

/-- The result's window covers its array at the last point. -/
theorem whole18 : ((cfgM m).win 18).WholeAt (tLast m) :=
  ⟨(by decide +kernel : Pipeline.Window.flushOf grid0 true cc0_transform_18 ⟨19, by decide⟩ = true),
    fun t ht => Fin.ext (by_contra fun h => by rw [flush18 m t h] at ht; exact absurd ht (by decide)),
    fun a => (by decide +kernel : ∀ a : Fin 2, cc0_transform_18 (grid0.coords ⟨19, by decide⟩) a = 0 ∧ S256x128.size a = S256x128.size a) a⟩

/-- The result's array after the run. -/
theorem final_o (c : Dev nD) : (dats m hT 0 c).arrAt 18 (cfgM m).N = result m hT c := by
  refine (dats m hT 0 c).arrAt_eq_of_after_last 18 (tLast m) (whole18 m) _ fun j => ?_
  rw [after0_18]; rfl

/-- The launch leaves the result, the arguments unchanged, and every semaphore at zero. -/
theorem run_all : θ_run defs (onTc (τ := τ) (main (F := F))) ⟨m, fun _ => 0, ρ⟩ (fun r => ((∀ c : Dev nD,
      r.2.mem ((c.tc : Thread nD τ).loc main_v48) = result m hT c)
      ∧ (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)))
      ∧ r.2.sem = fun _ => 0) :=
  (θ_run defs _ _).mono (fun _ h => ⟨⟨fun c => ((h.1 c).1 18).trans (final_o m hT c), fun c => ⟨((h.1 c).1 0).trans (((dats m hT 0 c).arrAt_in 0 rfl _).trans ((A_eq m hT c 0).trans (V_kept m main_arg0 (by decide) c))),
      ((h.1 c).2 main_arg1 (by decide : main_arg1 ∈ Pipeline.restRefs sig spec0)).trans (V_kept m main_arg1 (by decide) c),
      ((h.1 c).2 main_arg2 (by decide : main_arg2 ∈ Pipeline.restRefs sig spec0)).trans (V_kept m main_arg2 (by decide) c),
      ((h.1 c).2 main_arg3 (by decide : main_arg3 ∈ Pipeline.restRefs sig spec0)).trans (V_kept m main_arg3 (by decide) c),
      ((h.1 c).2 main_arg4 (by decide : main_arg4 ∈ Pipeline.restRefs sig spec0)).trans (V_kept m main_arg4 (by decide) c),
      ((h.1 c).2 main_arg5 (by decide : main_arg5 ∈ Pipeline.restRefs sig spec0)).trans (V_kept m main_arg5 (by decide) c),
      ((h.1 c).2 main_arg6 (by decide : main_arg6 ∈ Pipeline.restRefs sig spec0)).trans (V_kept m main_arg6 (by decide) c),
      ((h.1 c).2 main_arg7 (by decide : main_arg7 ∈ Pipeline.restRefs sig spec0)).trans (V_kept m main_arg7 (by decide) c),
      ((h.1 c).1 7).trans (((dats m hT 0 c).arrAt_in 7 rfl _).trans ((A_eq m hT c 7).trans (V_kept m main_arg8 (by decide) c))),
      ((h.1 c).2 main_arg9 (by decide : main_arg9 ∈ Pipeline.restRefs sig spec0)).trans (V_kept m main_arg9 (by decide) c),
      ((h.1 c).1 9).trans (((dats m hT 0 c).arrAt_in 9 rfl _).trans ((A_eq m hT c 9).trans (V_kept m main_arg10 (by decide) c))),
      ((h.1 c).2 main_arg11 (by decide : main_arg11 ∈ Pipeline.restRefs sig spec0)).trans (V_kept m main_arg11 (by decide) c),
      ((h.1 c).2 main_arg12 (by decide : main_arg12 ∈ Pipeline.restRefs sig spec0)).trans (V_kept m main_arg12 (by decide) c),
      ((h.1 c).1 14).trans (((dats m hT 0 c).arrAt_in 14 rfl _).trans ((A_eq m hT c 14).trans (V_kept m main_arg13 (by decide) c))),
      ((h.1 c).2 main_arg14 (by decide : main_arg14 ∈ Pipeline.restRefs sig spec0)).trans (V_kept m main_arg14 (by decide) c),
      ((h.1 c).2 main_arg15 (by decide : main_arg15 ∈ Pipeline.restRefs sig spec0)).trans (V_kept m main_arg15 (by decide) c),
      ((h.1 c).2 main_arg16 (by decide : main_arg16 ∈ Pipeline.restRefs sig spec0)).trans (V_kept m main_arg16 (by decide) c)⟩⟩, h.2⟩) (run_main m ρ hT)

end Cert.KernelIdeal.Body

end
-- ==== Proof.KIRes.lean ====
module

public import proofs.«01_k».proof.Proof.KITail
public import proofs.«01_k».proof.Proof.KISum
public import proofs.«01_k».proof.Proof.KIFrame
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators
open Cert.Proof.Attn (In ofArgs)

/-! # The kernel's result is the readout -/

variable (m : (ℓ : Loc nD τ sig) → Buf (Elt Ideal) ℓ) (t : Fin (cfgM m).N)

/-- The parameter `hp`. -/
theorem par_hp (c : Fin 512) (j : Fin 128) : (parAt m 0 t).hp (ValueIdx.ix2 c j) = (inp m 0).hp c j := by
  unfold parAt
  refine (congrFun (iblk7 m 0 t) _).trans ?_
  rw [V_kept m main_arg8 (by decide) 0]
  rfl

/-- The parameter `hpb`. -/
theorem par_hpb (j : Fin 128) : (parAt m 0 t).hpb (ValueIdx.ix2 0 j) = (inp m 0).hpb j := by
  unfold parAt
  refine (congrFun (iblk8 m 0 t) _).trans ?_
  refine (congrArg (V m 0 main_v43 : FVec Ideal S1x128 .f32) (Cert.Proof.Attn.ix2_eq 0 j).symm).trans ((V_v43 m 0 j).trans ?_)
  rw [Cert.Proof.Attn.ix1_eq]
  rfl

/-- The parameter `dt`. -/
theorem par_dt (c : Fin 32) (j : Fin 8) : (parAt m 0 t).dt (ValueIdx.ix2 c j) = (inp m 0).dt c j := by
  unfold parAt
  refine (congrFun (iblk9 m 0 t) _).trans ?_
  rw [V_kept m main_arg10 (by decide) 0]
  rfl

/-- The parameter `fa`. -/
theorem par_fa (i : Fin 128) (j : Fin 128) : (parAt m 0 t).fa (ValueIdx.ix2 i j) = (inp m 0).f1 ⟨i.val, by omega⟩ j := by
  unfold parAt
  refine (congrFun (iblk10 m 0 t) _).trans ?_
  refine (congrArg (V m 0 main_v40 : FVec Ideal S128x128 .f32) (Cert.Proof.Attn.ix2_eq i j).symm).trans ((V_v40 m 0 i j).trans ?_)
  rw [Cert.Proof.Attn.ix2_eq]
  simp only [Nat.zero_add]
  rfl

/-- The parameter `fb`. -/
theorem par_fb (i : Fin 128) (j : Fin 128) : (parAt m 0 t).fb (ValueIdx.ix2 i j) = (inp m 0).f1 ⟨128 + i.val, by omega⟩ j := by
  unfold parAt
  refine (congrFun (iblk11 m 0 t) _).trans ?_
  refine (congrArg (V m 0 main_v41 : FVec Ideal S128x128 .f32) (Cert.Proof.Attn.ix2_eq i j).symm).trans ((V_v41 m 0 i j).trans ?_)
  rw [Cert.Proof.Attn.ix2_eq]
  rfl

/-- The parameter `fc`. -/
theorem par_fc (i : Fin 8) (j : Fin 128) : (parAt m 0 t).fc (ValueIdx.ix2 i j) = (inp m 0).f1 ⟨256 + i.val, by omega⟩ j := by
  unfold parAt
  refine (congrFun (iblk12 m 0 t) _).trans ?_
  refine (congrArg (V m 0 main_v42 : FVec Ideal S8x128 .f32) (Cert.Proof.Attn.ix2_eq i j).symm).trans ((V_v42 m 0 i j).trans ?_)
  rw [Cert.Proof.Attn.ix2_eq]
  rfl

/-- The parameter `fb1`. -/
theorem par_fb1 (j : Fin 128) : (parAt m 0 t).fb1 (ValueIdx.ix2 0 j) = (inp m 0).f1b j := by
  unfold parAt
  refine (congrFun (iblk13 m 0 t) _).trans ?_
  refine (congrArg (V m 0 main_v44 : FVec Ideal S1x128 .f32) (Cert.Proof.Attn.ix2_eq 0 j).symm).trans ((V_v44 m 0 j).trans ?_)
  rw [Cert.Proof.Attn.ix1_eq]
  rfl

/-- The parameter `fw2`. -/
theorem par_fw2 (c j : Fin 128) : (parAt m 0 t).fw2 (ValueIdx.ix2 c j) = (inp m 0).f2 c j := by
  unfold parAt
  refine (congrFun (iblk14 m 0 t) _).trans ?_
  rw [V_kept m main_arg13 (by decide) 0]
  rfl

/-- The parameter `fb2`. -/
theorem par_fb2 (j : Fin 128) : (parAt m 0 t).fb2 (ValueIdx.ix2 0 j) = (inp m 0).f2b j := by
  unfold parAt
  refine (congrFun (iblk15 m 0 t) _).trans ?_
  refine (congrArg (V m 0 main_v45 : FVec Ideal S1x128 .f32) (Cert.Proof.Attn.ix2_eq 0 j).symm).trans ((V_v45 m 0 j).trans ?_)
  rw [Cert.Proof.Attn.ix1_eq]
  rfl

/-- The parameter `ga`. -/
theorem par_ga (j : Fin 128) : (parAt m 0 t).ga (ValueIdx.ix2 0 j) = (inp m 0).ga j := by
  unfold parAt
  refine (congrFun (iblk16 m 0 t) _).trans ?_
  refine (congrArg (V m 0 main_v46 : FVec Ideal S1x128 .f32) (Cert.Proof.Attn.ix2_eq 0 j).symm).trans ((V_v46 m 0 j).trans ?_)
  rw [Cert.Proof.Attn.ix1_eq]
  rfl

/-- The parameter `be`. -/
theorem par_be (j : Fin 128) : (parAt m 0 t).be (ValueIdx.ix2 0 j) = (inp m 0).be j := by
  unfold parAt
  refine (congrFun (iblk17 m 0 t) _).trans ?_
  refine (congrArg (V m 0 main_v47 : FVec Ideal S1x128 .f32) (Cert.Proof.Attn.ix2_eq 0 j).symm).trans ((V_v47 m 0 j).trans ?_)
  rw [Cert.Proof.Attn.ix1_eq]
  rfl

/-- The scaled rows, the row given. -/
theorem nrmV_of (y : FVec Ideal S256x128 .f32) (ga : FVec Ideal S1x128 .f32) (s : Fin 256) (Y : Fin 128 → EReal) (hY : ∀ j, y (ValueIdx.ix2 s j) = Y j) (j : Fin 128) :
    nrmV y ga (ValueIdx.ix2 s j) = ((Y j - Cert.Proof.Attn.mean Y) * Ideal.rsqrt (Cert.Proof.Attn.vari Y + Ideal.ofBits .f32 0x3727C5AC#32)) * ga (ValueIdx.ix2 0 j) := by
  obtain rfl : (fun j => y (ValueIdx.ix2 s j)) = Y := funext hY
  exact nrmV_apply y ga s j

variable (S : Acc Ideal) (P : Par Ideal) (I : In) (s : Fin 256)

/-- Clipping a small number changes nothing. -/
theorem min31 (f : Fin 32 → EReal) (d : ℕ) (h : d < 32) : f ⟨d, h⟩ = f ⟨min d 31, by omega⟩ := congrArg f (Fin.ext (by show d = min d 31; omega))

/-- The epilogue, its parts given. -/
theorem fin_res (hdep : ∀ n, I.dep n < 32)
    (hnum : ∀ c : Fin 512, S.num (ValueIdx.ix2 s c) = Cert.Proof.Attn.num I ⟨c.val / 128, by omega⟩ s.val ⟨c.val % 128, by omega⟩)
    (hbh : ∀ c, S.bh (ValueIdx.ix2 s c) = Cert.Proof.Attn.mrow I s.val c) (hden : ∀ c, S.den (ValueIdx.ix2 s c) = Cert.Proof.Attn.den I c s.val)
    (hcnt : S.cnt (ValueIdx.ix2 s 0) = Cert.Proof.Attn.cnt I s.val) (hdp : ∀ c : Fin 32, S.dep (ValueIdx.ix2 s c) = Cert.Proof.Attn.dct I s.val c.val)
    (php : ∀ c j, P.hp (ValueIdx.ix2 c j) = I.hp c j) (phpb : ∀ j, P.hpb (ValueIdx.ix2 0 j) = I.hpb j) (pdt : ∀ c j, P.dt (ValueIdx.ix2 c j) = I.dt c j)
    (pfa : ∀ (i : Fin 128) j, P.fa (ValueIdx.ix2 i j) = I.f1 ⟨i.val, by omega⟩ j) (pfb : ∀ (i : Fin 128) j, P.fb (ValueIdx.ix2 i j) = I.f1 ⟨128 + i.val, by omega⟩ j)
    (pfc : ∀ (i : Fin 8) j, P.fc (ValueIdx.ix2 i j) = I.f1 ⟨256 + i.val, by omega⟩ j) (pfb1 : ∀ j, P.fb1 (ValueIdx.ix2 0 j) = I.f1b j) (pfw2 : ∀ c j, P.fw2 (ValueIdx.ix2 c j) = I.f2 c j)
    (pfb2 : ∀ j, P.fb2 (ValueIdx.ix2 0 j) = I.f2b j) (pga : ∀ j, P.ga (ValueIdx.ix2 0 j) = I.ga j) (pbe : ∀ j, P.be (ValueIdx.ix2 0 j) = I.be j) (j : Fin 128) :
    fin P S (ValueIdx.ix2 s j) = Cert.Proof.Attn.res I s.val j := by
  have hD : Cert.Proof.Attn.dmax I s.val < 32 := (Finset.sup_lt_iff (show (⊥ : ℕ) < 32 from Nat.zero_lt_succ _)).mpr fun n _ => hdep n
  have hm : (Finset.univ : Finset (Fin 32)).fold max (⊥ : EReal) (fun d => if 0 < S.dep (ValueIdx.ix2 s d) then ((d.val : ℝ) : EReal) else 0) = ((Cert.Proof.Attn.dmax I s.val : ℝ) : EReal) := by
    simp only [hdp]
    exact Cert.Proof.Attn.dmax_fold I hdep s.val
  unfold fin Cert.Proof.Attn.res Cert.Proof.Attn.norm
  refine (pay12_apply _ _ s j).trans (congrArg₂ (fun x y : EReal => x + y) ?_ (pbe j))
  rw [pay29_eq, nrmV_of _ _ s (Cert.Proof.Attn.out I (Cert.Proof.Attn.pre I s.val)) (fun j => ?_) j, pga]
  refine (outV_apply _ _ _ _ s j).trans ?_
  unfold Cert.Proof.Attn.out
  refine congrArg₂ (fun x y : EReal => x + y) (Finset.sum_congr rfl fun k _ => congrArg₂ (fun x y : EReal => x * y) (congrArg Cert.Proof.Attn.gel ?_) (pfw2 k j)) (pfb2 j)
  unfold Cert.Proof.Attn.pre
  refine congrArg₂ (fun x y : EReal => x + y) ((pay28_apply _ _ _ _ _ _ _ _ _ s k _ hD hm).trans (congrArg₂ (fun x y : EReal => x + y) (congrArg₂ (fun x y : EReal => x + y)
    (Finset.sum_congr rfl fun i _ => congrArg₂ (fun x y : EReal => x * y) ?_ (pfa i k)) (Finset.sum_congr rfl fun i _ => congrArg₂ (fun x y : EReal => x * y) ?_ (pfb i k)))
    (Finset.sum_congr rfl fun e _ => congrArg₂ (fun x y : EReal => x * y) ?_ (pfc e k)))) (pfb1 k)
  · refine congrArg₂ (fun x y : EReal => x + y) ((pay27_apply _ _ _ s i).trans (Finset.sum_congr rfl fun c _ => congrArg₂ (fun x y : EReal => x * y) ?_ (php c i))) (phpb i)
    rw [hnum, hden]
    rfl
  · rw [hbh, hcnt]
    rfl
  · rw [pdt]
    unfold Cert.Proof.Attn.pc
    exact min31 (fun d => I.dt d e) _ hD

/-- The sums before the last point's end, however the number of points is spelled. -/
theorem St_full (hT : Tok m) (n : ℕ) (h : n ≤ (cfgM m).N) (e : n = (cfgM m).N) : St m hT 0 n h = St m hT 0 (cfgM m).N (le_refl _) := by
  subst e; rfl

/-- The kernel's result. -/
theorem result_eq (hb : ∀ i, batN m i < 256) (hle : ∀ i j : Fin 100000, i ≤ j → batN m i ≤ batN m j) (hdep : ∀ n, (inp m 0).dep n < 32) (hT : Tok m) (s : Fin 256) (j : Fin 128) :
    result m hT 0 (ValueIdx.ix2 s j) = Cert.Proof.Attn.res (inp m 0) s.val j := by
  unfold result
  rw [St_full m hT 20 _ N_0.symm]
  exact fin_res _ _ (inp m 0) s hdep (fin_num m hb hle hT s) (fin_bh m hb hle hT s) (fin_den m hb hle hT s) (fin_cnt m hb hle hT s 0) (fin_dep m hb hle hT s)
    (par_hp m _) (par_hpb m _) (par_dt m _) (par_fa m _) (par_fb m _) (par_fc m _) (par_fb1 m _) (par_fw2 m _) (par_fb2 m _) (par_ga m _) (par_be m _) j

end Cert.KernelIdeal.Body

end
-- ==== Proof.RefOps.lean ====
module

public import Idealize.ShloMosaic.Lib.Routing.OpsPair
public import Idealize.ShloMosaic.Lib.StableHlo.Predicate
public import Idealize.ShloMosaic.Lib.Pipeline.Value
public import Idealize.ShloMosaic.Lib.WordCmp
public import Idealize.ShloMosaic.PureOps.Ideal.Laws

@[expose] public section

noncomputable section

namespace Cert.Proof.RefOps

open Idealize.ShloMosaic
open scoped BigOperators

/-! # Segment sums, segment maxima and lookups by one index word a row -/

variable {N R C : ℕ}

/-- A vector's positions. -/
def idx1 (n : ℕ) : Fin n ≃ (⟨1, ![n]⟩ : Shape).Idx := ⟨ValueIdx.ix1, fun i => i 0, fun _ => rfl, fun i => (ValueIdx.eq_ix1 i).symm⟩

/-- Row `i` of a scatter into a vector lands where its word says. -/
theorem lands1 (d : ScatterDims ⟨1, ![R]⟩ ⟨2, ![N, 1]⟩ ⟨1, ![N]⟩) (hiw : d.insertedWindowDims = [0]) (hsd : d.scatterDimsToOperandDims = [0])
    (hivd : d.indexVectorDim = 1) (idx : IVec ⟨2, ![N, 1]⟩ 32) (i : Fin N) (x : Fin R) :
    d.resultIdx? (ValueIdx.ix1 i) idx = some (ValueIdx.ix1 x) ↔ (idx (ValueIdx.ix2 i 0)).toInt = (x.val : Int) := by
  have hm : (0 : Fin 1) ∈ d.scatterDimsToOperandDims := by rw [hsd]; exact List.mem_singleton.2 rfl
  have hwin : d.window (ValueIdx.ix1 i) 0 = 0 := by
    unfold ScatterDims.window
    rw [dif_neg fun h => (of_decide_eq_true (List.mem_filter.1 h).2) (by rw [hiw]; exact List.mem_singleton.2 rfl)]
  have hstart : d.start (ValueIdx.ix1 i) idx 0 = (idx (ValueIdx.ix2 i 0)).toInt := by
    unfold ScatterDims.start
    rw [dif_pos hm]
    refine congrArg (fun k => (idx k).toInt) (funext fun b => Fin.ext ?_)
    match b with
    | ⟨0, _⟩ =>
      unfold ScatterDims.siIdx
      rw [dif_neg (by rw [hivd]; exact Nat.zero_ne_one)]
      unfold ScatterDims.siCoord
      simp only [Fin.val_cast]
      have e : ∀ X : Fin 1, (ValueIdx.ix1 i X).val = i.val := fun X => by
        obtain rfl : X = 0 := Subsingleton.elim _ _
        rfl
      exact e _
    | ⟨1, _⟩ =>
      unfold ScatterDims.siIdx
      rw [dif_pos (by rw [hivd])]
      show List.idxOf (0 : Fin 1) d.scatterDimsToOperandDims = 0
      rw [hsd]; simp
  refine (Routing.resultIdx?_eq_some d _ idx _).trans ?_
  constructor
  · intro h
    have := h 0
    rw [hstart, hwin] at this
    change (idx (ValueIdx.ix2 i 0)).toInt + ((0 : ℕ) : Int) = (x.val : Int) at this
    omega
  · intro h a
    obtain rfl : a = 0 := Subsingleton.elim _ _
    rw [hstart, hwin]
    show (idx (ValueIdx.ix2 i 0)).toInt + ((0 : ℕ) : Int) = (x.val : Int)
    omega

/-- Element `(i, j)` of a row scatter into a matrix lands in the row its word says, in its own column. -/
theorem lands2 (d : ScatterDims ⟨2, ![R, C]⟩ ⟨2, ![N, 1]⟩ ⟨2, ![N, C]⟩) (huw : d.updateWindowDims = [1]) (hiw : d.insertedWindowDims = [0])
    (hsd : d.scatterDimsToOperandDims = [0]) (hivd : d.indexVectorDim = 1) (idx : IVec ⟨2, ![N, 1]⟩ 32) (i : Fin N) (j : Fin C) (x : Fin R) (y : Fin C) :
    d.resultIdx? (ValueIdx.ix2 i j) idx = some (ValueIdx.ix2 x y) ↔ (idx (ValueIdx.ix2 i 0)).toInt = (x.val : Int) ∧ j = y := by
  have hm : (0 : Fin 2) ∈ d.scatterDimsToOperandDims := by rw [hsd]; exact List.mem_singleton.2 rfl
  have hm1 : (1 : Fin 2) ∉ d.scatterDimsToOperandDims := by rw [hsd]; simp
  have hk0 : ∀ k : Fin 2, k ∉ d.updateWindowDims → k = 0 := fun k hk => by
    rw [huw] at hk
    have h1 : k.val ≠ 1 := fun e => hk (List.mem_singleton.2 (Fin.ext e))
    exact Fin.ext (by show k.val = 0; omega)
  have hkS : ∀ k ∈ d.uScatter, k = (0 : Fin 2) := fun k hk => hk0 k (by simpa using (List.mem_filter.1 hk).2)
  have hk1 : ∀ k ∈ d.updateWindowDims, k = (1 : Fin 2) := fun k hk => by rw [huw] at hk; exact List.mem_singleton.1 hk
  have hwin : d.window (ValueIdx.ix2 i j) 0 = 0 := by
    unfold ScatterDims.window
    rw [dif_neg fun h => (of_decide_eq_true (List.mem_filter.1 h).2) (by rw [hiw]; exact List.mem_singleton.2 rfl)]
  have hwin1 : d.window (ValueIdx.ix2 i j) 1 = j.val := by
    unfold ScatterDims.window
    rw [dif_pos (show (1 : Fin 2) ∈ d.sKept from List.mem_filter.2 ⟨List.mem_finRange _, decide_eq_true (by rw [hiw]; simp)⟩)]
    have e : ∀ X : Fin 2, X = 1 → (ValueIdx.ix2 i j X).val = j.val := fun X h => by subst h; rfl
    exact e _ (hk1 _ (List.getElem_mem _))
  have hstart1 : d.start (ValueIdx.ix2 i j) idx 1 = 0 := by
    unfold ScatterDims.start
    rw [dif_neg hm1]
  have hstart : d.start (ValueIdx.ix2 i j) idx 0 = (idx (ValueIdx.ix2 i 0)).toInt := by
    unfold ScatterDims.start
    rw [dif_pos hm]
    refine congrArg (fun k => (idx k).toInt) (funext fun b => Fin.ext ?_)
    match b with
    | ⟨0, _⟩ =>
      unfold ScatterDims.siIdx
      rw [dif_neg (by rw [hivd]; exact Nat.zero_ne_one)]
      unfold ScatterDims.siCoord
      simp only [Fin.val_cast]
      have e : ∀ X : Fin 2, X = 0 → (ValueIdx.ix2 i j X).val = i.val := fun X h => by subst h; rfl
      exact e _ (hkS _ (List.getElem_mem _))
    | ⟨1, _⟩ =>
      unfold ScatterDims.siIdx
      rw [dif_pos (by rw [hivd])]
      show List.idxOf (0 : Fin 2) d.scatterDimsToOperandDims = 0
      rw [hsd]; simp
  refine (Routing.resultIdx?_eq_some d _ idx _).trans ?_
  constructor
  · intro h
    have h0 := h 0
    have h1 := h 1
    rw [hstart, hwin] at h0
    rw [hstart1, hwin1] at h1
    change 0 + (j.val : Int) = (y.val : Int) at h1
    change (idx (ValueIdx.ix2 i 0)).toInt + ((0 : ℕ) : Int) = (x.val : Int) at h0
    exact ⟨by omega, Fin.ext (by omega)⟩
  · rintro ⟨h, rfl⟩ a
    match a with
    | ⟨0, _⟩ => show d.start (ValueIdx.ix2 i j) idx 0 + (d.window (ValueIdx.ix2 i j) 0 : Int) = (x.val : Int); rw [hstart, hwin]; simpa using h
    | ⟨1, _⟩ => show d.start (ValueIdx.ix2 i j) idx 1 + (d.window (ValueIdx.ix2 i j) 1 : Int) = (j.val : Int); rw [hstart1, hwin1]; simp

/-- A segment sum of scalars. -/
theorem segsum1 (d : ScatterDims ⟨1, ![R]⟩ ⟨2, ![N, 1]⟩ ⟨1, ![N]⟩) (hiw : d.insertedWindowDims = [0]) (hsd : d.scatterDimsToOperandDims = [0])
    (hivd : d.indexVectorDim = 1) (x0 : FVec Ideal ⟨1, ![R]⟩ .f32) (idx : IVec ⟨2, ![N, 1]⟩ 32) (upd : FVec Ideal ⟨1, ![N]⟩ .f32) (g : Fin R) (h0 : x0 (ValueIdx.ix1 g) = 0)
    (seg : Fin N → ℕ) (hs : ∀ n, (idx (ValueIdx.ix2 n 0)).toInt = (seg n : Int)) :
    Host.scatterAdd d x0 idx upd (ValueIdx.ix1 g) = ∑ n, if seg n = g.val then upd (ValueIdx.ix1 n) else (0 : EReal) := by
  have e : ∀ n, (d.resultIdx? (ValueIdx.ix1 n) idx = some (ValueIdx.ix1 g)) ↔ seg n = g.val := fun n => by
    rw [lands1 d hiw hsd hivd, hs]; omega
  show x0 (ValueIdx.ix1 g) + ∑ j ∈ Finset.univ.filter (fun j => d.resultIdx? j idx = some (ValueIdx.ix1 g)), upd j = _
  rw [h0, zero_add, Finset.sum_filter, ← (idx1 N).sum_comp]
  exact Finset.sum_congr rfl fun n _ => if_congr (e n) rfl rfl

/-- A segment sum of rows. -/
theorem segsum2 (d : ScatterDims ⟨2, ![R, C]⟩ ⟨2, ![N, 1]⟩ ⟨2, ![N, C]⟩) (huw : d.updateWindowDims = [1]) (hiw : d.insertedWindowDims = [0])
    (hsd : d.scatterDimsToOperandDims = [0]) (hivd : d.indexVectorDim = 1) (x0 : FVec Ideal ⟨2, ![R, C]⟩ .f32) (idx : IVec ⟨2, ![N, 1]⟩ 32) (upd : FVec Ideal ⟨2, ![N, C]⟩ .f32)
    (g : Fin R) (y : Fin C) (h0 : x0 (ValueIdx.ix2 g y) = 0) (seg : Fin N → ℕ) (hs : ∀ n, (idx (ValueIdx.ix2 n 0)).toInt = (seg n : Int)) :
    Host.scatterAdd d x0 idx upd (ValueIdx.ix2 g y) = ∑ n, if seg n = g.val then upd (ValueIdx.ix2 n y) else (0 : EReal) := by
  have e : ∀ n j, (d.resultIdx? (ValueIdx.ix2 n j) idx = some (ValueIdx.ix2 g y)) ↔ (seg n = g.val ∧ j = y) := fun n j => by
    rw [lands2 d huw hiw hsd hivd, hs]; omega
  show x0 (ValueIdx.ix2 g y) + ∑ j ∈ Finset.univ.filter (fun j => d.resultIdx? j idx = some (ValueIdx.ix2 g y)), upd j = _
  rw [h0, zero_add, Finset.sum_filter, ValueIdx.sum_idx2]
  refine Finset.sum_congr rfl fun n _ => ?_
  refine (Finset.sum_congr rfl fun j _ => if_congr (e n j) rfl rfl).trans ?_
  by_cases h : seg n = g.val
  · simp [h]
  · simp [h]

/-- A segment maximum of words is at most a bound exactly when its start and the segment's words are. -/
theorem segmax_le (d : ScatterDims ⟨1, ![R]⟩ ⟨2, ![N, 1]⟩ ⟨1, ![N]⟩) (hiw : d.insertedWindowDims = [0]) (hsd : d.scatterDimsToOperandDims = [0])
    (hivd : d.indexVectorDim = 1) (x0 : IVec ⟨1, ![R]⟩ 32) (idx : IVec ⟨2, ![N, 1]⟩ 32) (upd : IVec ⟨1, ![N]⟩ 32) (g : Fin R)
    (seg : Fin N → ℕ) (hs : ∀ n, (idx (ValueIdx.ix2 n 0)).toInt = (seg n : Int)) (b : Int) :
    (Host.scatter d IntOp.maxsi x0 idx upd (ValueIdx.ix1 g)).toInt ≤ b ↔ (x0 (ValueIdx.ix1 g)).toInt ≤ b ∧ ∀ n, seg n = g.val → (upd (ValueIdx.ix1 n)).toInt ≤ b := by
  have e : ∀ n, (d.resultIdx? (ValueIdx.ix1 n) idx = some (ValueIdx.ix1 g)) ↔ seg n = g.val := fun n => by
    rw [lands1 d hiw hsd hivd, hs]; omega
  rw [Routing.scatter_at]
  have main : ∀ (L : List (Fin (⟨1, ![N]⟩ : Shape).numel)) (a : BitVec 32),
      (L.foldl (fun a n => if d.resultIdx? ((⟨1, ![N]⟩ : Shape).rowMajor.symm n) idx = some (ValueIdx.ix1 g) then IntOp.maxsi a (upd ((⟨1, ![N]⟩ : Shape).rowMajor.symm n)) else a) a).toInt ≤ b
        ↔ a.toInt ≤ b ∧ ∀ n ∈ L, d.resultIdx? ((⟨1, ![N]⟩ : Shape).rowMajor.symm n) idx = some (ValueIdx.ix1 g) → (upd ((⟨1, ![N]⟩ : Shape).rowMajor.symm n)).toInt ≤ b := by
    intro L
    induction L with
    | nil => intro a; simp
    | cons n L ih =>
      intro a
      rw [List.foldl_cons, ih]
      by_cases h : d.resultIdx? ((⟨1, ![N]⟩ : Shape).rowMajor.symm n) idx = some (ValueIdx.ix1 g)
      · rw [if_pos h]
        have hm : (IntOp.maxsi a (upd ((⟨1, ![N]⟩ : Shape).rowMajor.symm n))).toInt ≤ b ↔ a.toInt ≤ b ∧ (upd ((⟨1, ![N]⟩ : Shape).rowMajor.symm n)).toInt ≤ b := by
          unfold IntOp.maxsi
          simp only [BitVec.slt]
          split
          · rename_i hh; have := of_decide_eq_true hh; omega
          · rename_i hh; have : ¬ _ := fun q => hh (decide_eq_true q); omega
        rw [hm]
        simp only [List.mem_cons, forall_eq_or_imp, h, true_implies]
        tauto
      · rw [if_neg h]
        simp only [List.mem_cons, forall_eq_or_imp, h, false_implies, true_and]
  rw [main]
  refine and_congr Iff.rfl ⟨fun h n hn => ?_, fun h k _ hk => ?_⟩
  · have := h ((⟨1, ![N]⟩ : Shape).rowMajor (ValueIdx.ix1 n)) (List.mem_finRange _)
    rw [Equiv.symm_apply_apply] at this
    exact this ((e n).mpr hn)
  · generalize (⟨1, ![N]⟩ : Shape).rowMajor.symm k = p at hk ⊢
    obtain ⟨n, rfl⟩ : ∃ n : Fin N, p = ValueIdx.ix1 n := ⟨p 0, ValueIdx.eq_ix1 p⟩
    exact h n ((e n).mp hk)

/-- A word that is a small natural reads the same signed and wrapped. -/
theorem toInt_small (x : BitVec 32) (h : x.toNat < 2 ^ 31) : x.toInt = (x.toNat : Int) := by
  rw [BitVec.toInt_eq_toNat_cond]; split <;> omega

/-- A lookup in a vector by a word inside it. -/
theorem take1 {α : Type} (d : GatherDims ⟨1, ![R]⟩ ⟨2, ![N, 1]⟩ ⟨1, ![N]⟩) (hcoll : d.collapsedSliceDims = [0]) (hob : d.operandBatchingDims = [])
    (hsim : d.startIndexMap = [0]) (hivd : d.indexVectorDim = 1) (x : (⟨1, ![R]⟩ : Shape).Idx → α) (idx : IVec ⟨2, ![N, 1]⟩ 32) (n : Fin N) (g : Fin R)
    (h : (idx (ValueIdx.ix2 n 0)).toInt = (g.val : Int)) : Host.gather d x idx (ValueIdx.ix1 n) = x (ValueIdx.ix1 g) := by
  have e1 : ∀ {k : ℕ} (p : Fin k), (Shape.Idx.ofFin p : (⟨1, ![k]⟩ : Shape).Idx) = ValueIdx.ix1 p := fun p => by
    funext a; match a with | ⟨0, _⟩ => rfl
  have e2 : (StableHlo.Predicate.ixP n : (⟨2, ![N, 1]⟩ : Shape).Idx) = ValueIdx.ix2 n 0 := by
    funext a; match a with
    | ⟨0, _⟩ => rfl
    | ⟨1, _⟩ => rfl
  rw [← e1]
  refine (StableHlo.Predicate.gather_take d hcoll hob hsim hivd x idx n (by have := g.isLt; omega)).trans ?_
  rw [e1]
  refine congrArg x (congrArg ValueIdx.ix1 (Fin.ext ?_))
  show min (idx (StableHlo.Predicate.ixP n)).toInt.toNat (R - 1) = g.val
  rw [e2, h]
  have := g.isLt
  omega

/-- The greatest of some reals, the others minus infinity. -/
theorem max_real {ι : Type*} [Fintype ι] (p : ι → Prop) [DecidablePred p] (s : ι → ℝ) (hp : ∃ n, p n) :
    ∃ M : ℝ, (Finset.univ : Finset ι).fold max (⊥ : EReal) (fun n => if p n then (s n : EReal) else ⊥) = (M : EReal) := by
  obtain ⟨n, hn⟩ := hp
  have hlt : (Finset.univ : Finset ι).fold max (⊥ : EReal) (fun n => if p n then (s n : EReal) else ⊥) < ⊤ := by
    rw [Finset.fold_max_lt]
    refine ⟨bot_lt_top, fun k _ => ?_⟩
    split
    · exact EReal.coe_lt_top _
    · exact bot_lt_top
  have hgt : ⊥ < (Finset.univ : Finset ι).fold max (⊥ : EReal) (fun n => if p n then (s n : EReal) else ⊥) := by
    rw [Finset.lt_fold_max]
    exact Or.inr ⟨n, Finset.mem_univ _, by rw [if_pos hn]; exact EReal.bot_lt_coe _⟩
  exact ⟨_, (EReal.coe_toReal hlt.ne hgt.ne').symm⟩

/-- A maximum down the rows of a matrix. -/
theorem colmax (x : FVec Ideal ⟨2, ![N, R]⟩ .f32) (h' : (⟨2, ![N, R]⟩ : Shape).ReducesTo [0] (⟨1, ![R]⟩ : Shape)) (hu : 0 < (⟨0, ![]⟩ : Shape).numel) (g : Fin R) :
    Host.reduce FloatOps.maximumf x (constant (⟨0, ![]⟩ : Shape) .f32 0xFF800000#32) h' hu (ValueIdx.ix1 g)
      = (Finset.univ : Finset (Fin N)).fold max (⊥ : EReal) fun n => x (ValueIdx.ix2 n g) := by
  have h : (⟨2, ![N, R]⟩ : Shape).Reduces [0] (⟨1, ![R]⟩ : Shape) := ⟨h'.1, Nat.one_pos, h'.2⟩
  rw [Host.reduce_eq_fold_single FloatOps.maximumf x _ h' h hu]
  have hf : (x ∘ h.lift (ValueIdx.ix1 g)) = fun k : Fin N => x (ValueIdx.ix2 k g) := funext fun k => congrArg x (by
    funext c; apply Fin.ext
    fin_cases c <;> rfl)
  have hb : Ideal.ofBits .f32 0xFF800000#32 = (⊥ : EReal) := by simp [Ideal.ofBits, Ideal.ieee]
  refine (congrArg (fun f => Finset.fold max (Ideal.ofBits .f32 0xFF800000#32) f (Finset.univ : Finset (Fin N))) hf).trans ?_
  rw [hb]

end Cert.Proof.RefOps

end
-- ==== Proof.RefHead.lean ====
module

public import proofs.«01_k».proof.Proof.Gen.ReferenceIdeal.Read
public import proofs.«01_k».proof.Proof.RefOps
public import proofs.«01_k».proof.Proof.Alg

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo
open Cert.Proof.RefOps
open scoped BigOperators

/-! # One head of the reference, over any score vector -/

/-- Zero. -/
theorem zero_bits : Ideal.ofBits .f32 0x00000000#32 = (0 : EReal) := by
  simp [Ideal.ofBits, Ideal.ieee]

/-- The greatest score of every segment. -/
def hMax (sv : FVec Ideal S100000 .f32) (x1 : IVec S100000 32) : FVec Ideal S256 .f32 :=
  Host.reduce FloatOps.maximumf (select (val_main_v5 (F := Ideal) x1)
    (broadcastInDim S100000x256 ![0, 1] bcast_S100000x1_S100000x256_0_1 (broadcastInDim S100000x1 ![0] bcast_S100000_S100000x1_0 sv)) (val_main_call0_v2 (F := Ideal)))
    (val_main_cst_0 (F := Ideal)) reducesTo_S100000x256_S256_d0 h_S_
/-- The exponentials of the scores, relative to their segment's greatest. -/
def hExp (sv : FVec Ideal S100000 .f32) (x1 : IVec S100000 32) : FVec Ideal S100000 .f32 :=
  Host.exp (subf sv (Host.gather gather_S256_S100000x1_S100000_n_0_n_n_0_1_1 (hMax sv x1) (val_main_v32 (F := Ideal) x1)))
/-- Their sums by segments. -/
def hDen (sv : FVec Ideal S100000 .f32) (x1 : IVec S100000 32) : FVec Ideal S256 .f32 :=
  Host.scatterAdd scatter_S256_S100000x1_S100000_n_0_0_1 (val_main_v36 (F := Ideal)) (val_main_v37 (F := Ideal) x1) (hExp sv x1)
/-- The softmax's weights. -/
def hWt (sv : FVec Ideal S100000 .f32) (x1 : IVec S100000 32) : FVec Ideal S100000 .f32 :=
  Host.divf (hExp sv x1) (Host.gather gather_S256_S100000x1_S100000_n_0_n_n_0_1_1 (hDen sv x1) (val_main_v44 (F := Ideal) x1))
/-- The weighted rows' sums by segments. -/
def hOut (sv : FVec Ideal S100000 .f32) (x1 : IVec S100000 32) (x0 : FVec Ideal S100000x128 .f32) : FVec Ideal S256x128 .f32 :=
  Host.scatterAdd scatter_S256x128_S100000x1_S100000x128_1_0_0_1 (val_main_v50 (F := Ideal)) (val_main_v51 (F := Ideal) x1)
    (mulf (broadcastInDim S100000x128 ![0, 1] bcast_S100000x1_S100000x128_0_1 (broadcastInDim S100000x1 ![0] bcast_S100000_S100000x1_0 (hWt sv x1))) x0)

section
variable (x0 : FVec Ideal S100000x128 .f32) (x1 : IVec S100000 32) (x4 : FVec Ideal S4x128x32 .f32) (x5 : FVec Ideal S4x32 .f32) (x6 : FVec Ideal S4x32x1 .f32) (x7 : FVec Ideal S4x1 .f32)

/-- The first head. -/
theorem head0 : val_main_v52 (F := Ideal) x0 x1 x4 x5 x6 x7 = hOut (val_main_v23 (F := Ideal) x0 x4 x5 x6 x7) x1 x0 := rfl
/-- The second head. -/
theorem head1 : val_main_v99 (F := Ideal) x0 x1 x4 x5 x6 x7 = hOut (val_main_v70 (F := Ideal) x0 x4 x5 x6 x7) x1 x0 := rfl
/-- The third head. -/
theorem head2 : val_main_v146 (F := Ideal) x0 x1 x4 x5 x6 x7 = hOut (val_main_v117 (F := Ideal) x0 x4 x5 x6 x7) x1 x0 := rfl
/-- The fourth head. -/
theorem head3 : val_main_v193 (F := Ideal) x0 x1 x4 x5 x6 x7 = hOut (val_main_v164 (F := Ideal) x0 x4 x5 x6 x7) x1 x0 := rfl
end

/-- A quotient of arrays at an index. -/
theorem divf_at {s : Shape} (x y : FVec Ideal s .f32) (i : s.Idx) : Host.divf x y i = Ideal.div (x i) (y i) := rfl

variable (sv : FVec Ideal S100000 .f32) (x1 : IVec S100000 32) (x0 : FVec Ideal S100000x128 .f32)
variable (hb : ∀ n : Fin 100000, (x1 (ValueIdx.ix1 n)).toNat < 256)

include hb

/-- A segment word read signed. -/
theorem seg_int (n : Fin 100000) : (x1 (ValueIdx.ix1 n)).toInt = ((x1 (ValueIdx.ix1 n)).toNat : Int) :=
  toInt_small _ (lt_trans (hb n) (by norm_num))

/-- The wrapped segment words are the words. -/
theorem wrap_int (n : Fin 100000) : (val_main_v32 (F := Ideal) x1 (ValueIdx.ix2 n 0)).toInt = ((x1 (ValueIdx.ix1 n)).toNat : Int) := by
  have e : idx_main_v32 (ValueIdx.ix2 n 0) = ValueIdx.ix1 n := by funext a; match a with | ⟨0, _⟩ => rfl
  rw [val_main_v32_apply, e]
  refine (congrArg BitVec.toInt ?_).trans (seg_int x1 hb n)
  exact Routing.wrap_of_lt (x1 (ValueIdx.ix1 n)) _ (lt_trans (hb n) (by norm_num))

/-- The segment words down a column. -/
theorem col_int (n : Fin 100000) : (val_main_v37 (F := Ideal) x1 (ValueIdx.ix2 n 0)).toInt = ((x1 (ValueIdx.ix1 n)).toNat : Int) := by
  have e : idx_main_v37 (ValueIdx.ix2 n 0) = ValueIdx.ix1 n := by funext a; match a with | ⟨0, _⟩ => rfl
  rw [val_main_v37_apply, e]
  exact seg_int x1 hb n

/-- Membership of a row in a segment. -/
theorem mem_iff (n : Fin 100000) (g : Fin 256) : val_main_v5 (F := Ideal) x1 (ValueIdx.ix2 n g) = 1#1 ↔ (x1 (ValueIdx.ix1 n)).toNat = g.val := by
  have e : val_main_v5 (F := Ideal) x1 (ValueIdx.ix2 n g) = IntOp.cmpi .eq (x1 (ValueIdx.ix1 n)) (BitVec.ofNat 32 g.val) := by
    rw [val_main_v5_apply, val_main_v3_apply, val_main_v0_apply, val_main_v4_apply, val_main_v2_apply]
    exact congrArg₂ (IntOp.cmpi .eq) (congrArg x1 (by funext a; match a with | ⟨0, _⟩ => rfl)) rfl
  rw [e]
  show BitVec.ofBool (x1 (ValueIdx.ix1 n) == BitVec.ofNat 32 g.val) = 1#1 ↔ _
  have hx := hb n
  have hg := g.isLt
  by_cases h : x1 (ValueIdx.ix1 n) = BitVec.ofNat 32 g.val
  · rw [h]; simp; omega
  · rw [beq_eq_false_iff_ne.mpr h]
    refine ⟨fun q => absurd q (by decide), fun q => absurd (BitVec.eq_of_toNat_eq ?_) h⟩
    rw [q, BitVec.toNat_ofNat]; omega

/-- A nonempty segment's greatest score is a real. -/
theorem hMax_real (s : Fin 100000 → ℝ) (hs : ∀ n, sv (ValueIdx.ix1 n) = (s n : EReal)) (g : Fin 256) (hg : ∃ n, (x1 (ValueIdx.ix1 n)).toNat = g.val) :
    ∃ M : ℝ, hMax sv x1 (ValueIdx.ix1 g) = (M : EReal) := by
  obtain ⟨M, hM⟩ := max_real (fun n : Fin 100000 => (x1 (ValueIdx.ix1 n)).toNat = g.val) s hg
  refine ⟨M, ((colmax (N := 100000) (R := 256) _ reducesTo_S100000x256_S256_d0 h_S_ g).trans ?_).trans hM⟩
  refine Finset.fold_congr fun n _ => ?_
  have e1 : broadcastInDim S100000x256 ![0, 1] bcast_S100000x1_S100000x256_0_1 (broadcastInDim S100000x1 ![0] bcast_S100000_S100000x1_0 sv) (ValueIdx.ix2 n g) = sv (ValueIdx.ix1 n) := by
    refine (broadcastInDim_apply _ _ _ (ValueIdx.ix2 n g) (ValueIdx.ix2 n 0) fun a => ?_).trans (broadcastInDim_apply _ _ _ (ValueIdx.ix2 n 0) (ValueIdx.ix1 n) fun a => ?_)
    · match a with
      | ⟨0, _⟩ => rfl
      | ⟨1, _⟩ => rfl
    · match a with
      | ⟨0, _⟩ => rfl
  have e2 : val_main_call0_v2 (F := Ideal) (ValueIdx.ix2 n g) = (⊥ : EReal) := by
    rw [val_main_call0_v2_apply]
    exact Cert.Proof.Attn.ninf_bits
  show (if val_main_v5 (F := Ideal) x1 (ValueIdx.ix2 n g) = 1#1 then _ else _) = _
  rw [e1, e2, hs]
  exact if_congr (mem_iff x1 hb n g) rfl rfl

/-- An exponential, its segment's greatest score given. -/
theorem hExp_apply (n : Fin 100000) (g : Fin 256) (hn : (x1 (ValueIdx.ix1 n)).toNat = g.val) :
    hExp sv x1 (ValueIdx.ix1 n) = Ideal.exp (sv (ValueIdx.ix1 n) - hMax sv x1 (ValueIdx.ix1 g)) := by
  have := take1 (R := 256) (N := 100000) gather_S256_S100000x1_S100000_n_0_n_n_0_1_1 rfl rfl rfl rfl (hMax sv x1) (val_main_v32 (F := Ideal) x1) n g ((wrap_int x1 hb n).trans (by rw [hn]))
  show Ideal.exp (sv (ValueIdx.ix1 n) - Host.gather gather_S256_S100000x1_S100000_n_0_n_n_0_1_1 (hMax sv x1) (val_main_v32 (F := Ideal) x1) (ValueIdx.ix1 n)) = _
  rw [this]

/-- A segment's sum of exponentials. -/
theorem hDen_apply (g : Fin 256) :
    hDen sv x1 (ValueIdx.ix1 g) = ∑ n : Fin 100000, if (x1 (ValueIdx.ix1 n)).toNat = g.val then hExp sv x1 (ValueIdx.ix1 n) else (0 : EReal) :=
  segsum1 (R := 256) (N := 100000) scatter_S256_S100000x1_S100000_n_0_0_1 rfl rfl rfl _ _ _ g ((val_main_v36_apply (F := Ideal) _).trans zero_bits) (fun n => (x1 (ValueIdx.ix1 n)).toNat) (col_int x1 hb)

/-- A weight, its segment given. -/
theorem hWt_apply (n : Fin 100000) (g : Fin 256) (hn : (x1 (ValueIdx.ix1 n)).toNat = g.val) :
    hWt sv x1 (ValueIdx.ix1 n) = Ideal.div (hExp sv x1 (ValueIdx.ix1 n)) (hDen sv x1 (ValueIdx.ix1 g)) := by
  have := take1 (R := 256) (N := 100000) gather_S256_S100000x1_S100000_n_0_n_n_0_1_1 rfl rfl rfl rfl (hDen sv x1) (val_main_v44 (F := Ideal) x1) n g ((wrap_int x1 hb n).trans (by rw [hn]))
  unfold hWt
  exact (divf_at _ _ _).trans (congrArg (Ideal.div (hExp sv x1 (ValueIdx.ix1 n))) this)

/-- The weighted rows' sums. -/
theorem hOut_sum (g : Fin 256) (j : Fin 128) :
    hOut sv x1 x0 (ValueIdx.ix2 g j) = ∑ n : Fin 100000, if (x1 (ValueIdx.ix1 n)).toNat = g.val then hWt sv x1 (ValueIdx.ix1 n) * x0 (ValueIdx.ix2 n j) else (0 : EReal) := by
  refine (segsum2 (R := 256) (C := 128) (N := 100000) scatter_S256x128_S100000x1_S100000x128_1_0_0_1 rfl rfl rfl rfl _ _ _ g j ((val_main_v50_apply (F := Ideal) _).trans zero_bits)
    (fun n => (x1 (ValueIdx.ix1 n)).toNat) (col_int x1 hb)).trans (Finset.sum_congr rfl fun n _ => ?_)
  have e1 : broadcastInDim S100000x128 ![0, 1] bcast_S100000x1_S100000x128_0_1 (broadcastInDim S100000x1 ![0] bcast_S100000_S100000x1_0 (hWt sv x1)) (ValueIdx.ix2 n j) = hWt sv x1 (ValueIdx.ix1 n) := by
    refine (broadcastInDim_apply _ _ _ (ValueIdx.ix2 n j) (ValueIdx.ix2 n 0) fun a => ?_).trans (broadcastInDim_apply _ _ _ (ValueIdx.ix2 n 0) (ValueIdx.ix1 n) fun a => ?_)
    · match a with
      | ⟨0, _⟩ => rfl
      | ⟨1, _⟩ => rfl
    · match a with
      | ⟨0, _⟩ => rfl
  refine congrArg (fun y : EReal => if (x1 (ValueIdx.ix1 n)).toNat = g.val then y else 0) ?_
  exact congrArg (fun y : EReal => y * x0 (ValueIdx.ix2 n j)) e1

/-- One head: the softmax's weighted sum is the plain weighted sum over the weights' total. -/
theorem hOut_eq (s : Fin 100000 → ℝ) (hs : ∀ n, sv (ValueIdx.ix1 n) = (s n : EReal)) (g : Fin 256) (j : Fin 128) :
    hOut sv x1 x0 (ValueIdx.ix2 g j)
      = (∑ n : Fin 100000, if (x1 (ValueIdx.ix1 n)).toNat = g.val then Ideal.exp (sv (ValueIdx.ix1 n)) * x0 (ValueIdx.ix2 n j) else (0 : EReal))
        * (if (0 : EReal) < ∑ n : Fin 100000, (if (x1 (ValueIdx.ix1 n)).toNat = g.val then Ideal.exp (sv (ValueIdx.ix1 n)) else (0 : EReal))
            then Ideal.div 1 (∑ n : Fin 100000, if (x1 (ValueIdx.ix1 n)).toNat = g.val then Ideal.exp (sv (ValueIdx.ix1 n)) else (0 : EReal)) else 0) := by
  rw [hOut_sum sv x1 x0 hb]
  simp only [← Finset.sum_filter]
  by_cases hg : ∃ n, (x1 (ValueIdx.ix1 n)).toNat = g.val
  · obtain ⟨M, hM⟩ := hMax_real sv x1 hb s hs g hg
    have hne : (Finset.univ.filter fun n : Fin 100000 => (x1 (ValueIdx.ix1 n)).toNat = g.val).Nonempty := by
      obtain ⟨n, hn⟩ := hg
      exact ⟨n, Finset.mem_filter.mpr ⟨Finset.mem_univ _, hn⟩⟩
    have he : ∀ n, (x1 (ValueIdx.ix1 n)).toNat = g.val → hExp sv x1 (ValueIdx.ix1 n) = Ideal.exp ((s n : EReal) - (M : EReal)) := fun n hn => by
      rw [hExp_apply sv x1 hb n g hn, hM, hs]
    have hd : hDen sv x1 (ValueIdx.ix1 g) = ∑ n ∈ Finset.univ.filter (fun n : Fin 100000 => (x1 (ValueIdx.ix1 n)).toNat = g.val), Ideal.exp ((s n : EReal) - (M : EReal)) := by
      rw [hDen_apply sv x1 hb, ← Finset.sum_filter]
      exact Finset.sum_congr rfl fun n hn => he n (Finset.mem_filter.mp hn).2
    have hp := Cert.Proof.Attn.den_pos _ hne s
    simp only [hs]
    rw [if_pos hp]
    refine Eq.trans (Finset.sum_congr rfl fun n hn => ?_) (Cert.Proof.Attn.softmax_sum _ hne s M fun n => x0 (ValueIdx.ix2 n j))
    have hn' := (Finset.mem_filter.mp hn).2
    rw [hWt_apply sv x1 hb n g hn', he n hn', hd]
  · have h0 : (Finset.univ.filter fun n : Fin 100000 => (x1 (ValueIdx.ix1 n)).toNat = g.val) = ∅ :=
      Finset.filter_eq_empty_iff.mpr fun n _ h => hg ⟨n, h⟩
    rw [h0]
    simp

end Cert.ReferenceIdeal.Read

end
-- ==== Proof.RefScore.lean ====
module

public import proofs.«01_k».proof.Proof.RefHead
public import proofs.«01_k».proof.Proof.AlgIn
public import Idealize.ShloMosaic.Lib.StackMember

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo
open Cert.Proof.RefOps
open scoped BigOperators

/-! # The reference's scores, and its heads -/

/-- A bias along the rows. -/
theorem biasRow {R C : ℕ} (hR : R ≠ 1) (hC : C ≠ 1) (h1 : (⟨1, ![C]⟩ : Shape).BroadcastsInDim ⟨2, ![1, C]⟩ ![1]) (h2 : (⟨2, ![1, C]⟩ : Shape).BroadcastsInDim ⟨2, ![R, C]⟩ ![0, 1])
    (b : FVec Ideal ⟨1, ![C]⟩ .f32) (r : Fin R) (c : Fin C) :
    broadcastInDim ⟨2, ![R, C]⟩ ![0, 1] h2 (broadcastInDim ⟨2, ![1, C]⟩ ![1] h1 b) (ValueIdx.ix2 r c) = b (ValueIdx.ix1 c) := by
  refine (broadcastInDim_apply _ _ _ (ValueIdx.ix2 r c) (ValueIdx.ix2 0 c) fun a => ?_).trans (broadcastInDim_apply _ _ _ (ValueIdx.ix2 0 c) (ValueIdx.ix1 c) fun a => ?_)
  · match a with
    | ⟨0, _⟩ => rfl
    | ⟨1, _⟩ => exact (if_neg hC).symm
  · match a with
    | ⟨0, _⟩ => exact (if_neg hC).symm

/-- The scores of a head, its layers given. -/
def score (x0 : FVec Ideal S100000x128 .f32) (w : FVec Ideal S128x32 .f32) (b : FVec Ideal S32 .f32) (w2 : FVec Ideal S32x1 .f32) (b2 : FVec Ideal S1 .f32) : FVec Ideal S100000 .f32 :=
  shapeCast _ (addf (Host.dotGeneral dot_S100000x32_S32x1_S100000x1_1_0_0_1_n_n none
      (Host.tanh (addf (Host.dotGeneral dot_S100000x128_S128x32_S100000x32_1_0_0_1_n_n none x0 w) (broadcastInDim S100000x32 ![0, 1] bcast_S1x32_S100000x32_0_1 (broadcastInDim S1x32 ![1] bcast_S32_S1x32_1 b)))) w2)
    (broadcastInDim S100000x1 ![0, 1] bcast_S1x1_S100000x1_0_1 (broadcastInDim S1x1 ![1] bcast_S1_S1x1_1 b2))) shapeCasts_S100000x1_S100000

/-- A score. -/
theorem score_apply (x0 : FVec Ideal S100000x128 .f32) (w : FVec Ideal S128x32 .f32) (b : FVec Ideal S32 .f32) (w2 : FVec Ideal S32x1 .f32) (b2 : FVec Ideal S1 .f32) (n : Fin 100000) :
    score x0 w b w2 b2 (ValueIdx.ix1 n)
      = (∑ q : Fin 32, Ideal.tanh ((∑ i : Fin 128, x0 (ValueIdx.ix2 n i) * w (ValueIdx.ix2 i q)) + b (ValueIdx.ix1 q)) * w2 (ValueIdx.ix2 q 0)) + b2 (ValueIdx.ix1 0) := by
  unfold score
  refine (shapeCast_apply _ _ (ValueIdx.ix1 n) (ValueIdx.ix2 n 0) ?_).trans ?_
  · rw [Shape.rowMajor_val_two, Shape.rowMajor_val_one]
    show n.val * 1 + 0 = n.val
    omega
  refine congrArg₂ (fun x y : EReal => x + y) ((StackMember.dotGeneral_plain_apply (m := 100000) (k := 32) (n := 1) none _ w2 n 0).trans (Finset.sum_congr rfl fun q _ => ?_)) ?_
  · refine congrArg (fun x : EReal => Ideal.tanh x * w2 (ValueIdx.ix2 q 0)) ?_
    exact congrArg₂ (fun x y : EReal => x + y) (StackMember.dotGeneral_plain_apply (m := 100000) (k := 128) (n := 32) none x0 w n q) (biasRow (by decide) (by decide) _ _ b n q)
  · refine (broadcastInDim_apply _ _ _ (ValueIdx.ix2 n 0) (ValueIdx.ix2 0 0) fun a => ?_).trans (broadcastInDim_apply _ _ _ (ValueIdx.ix2 0 0) (ValueIdx.ix1 0) fun a => ?_)
    · match a with
      | ⟨0, _⟩ => rfl
      | ⟨1, _⟩ => rfl
    · match a with
      | ⟨0, _⟩ => rfl

/-- A head's first layer. -/
theorem sliceW1 (x4 : FVec Ideal S4x128x32 .f32) (k : Fin 4) (h : S4x128x32.Slices ![k.val, 0, 0] S1x128x32) (h2 : S1x128x32.ShapeCasts S128x32) (i : Fin 128) (q : Fin 32) :
    shapeCast S128x32 (extractStridedSlice S1x128x32 ![k.val, 0, 0] x4 h) h2 (ValueIdx.ix2 i q) = x4 (ValueIdx.ix3 k i q) := by
  refine (shapeCast_apply _ _ (ValueIdx.ix2 i q) (ValueIdx.ix3 0 i q) ?_).trans (extractStridedSlice_apply _ _ _ _ _ fun a => ?_)
  · rw [Shape.rowMajor_val_three, Shape.rowMajor_val_two]
    show (0 * 128 + i.val) * 32 + q.val = i.val * 32 + q.val
    omega
  · match a with
    | ⟨0, _⟩ => rfl
    | ⟨1, _⟩ => exact (Nat.zero_add _).symm
    | ⟨2, _⟩ => exact (Nat.zero_add _).symm

/-- Its bias. -/
theorem sliceB1 (x5 : FVec Ideal S4x32 .f32) (k : Fin 4) (h : S4x32.Slices ![k.val, 0] S1x32) (h2 : S1x32.ShapeCasts S32) (q : Fin 32) :
    shapeCast S32 (extractStridedSlice S1x32 ![k.val, 0] x5 h) h2 (ValueIdx.ix1 q) = x5 (ValueIdx.ix2 k q) := by
  refine (shapeCast_apply _ _ (ValueIdx.ix1 q) (ValueIdx.ix2 0 q) ?_).trans (extractStridedSlice_apply _ _ _ _ _ fun a => ?_)
  · rw [Shape.rowMajor_val_two, Shape.rowMajor_val_one]
    show 0 * 32 + q.val = q.val
    omega
  · match a with
    | ⟨0, _⟩ => rfl
    | ⟨1, _⟩ => exact (Nat.zero_add _).symm

/-- A head's second layer. -/
theorem sliceW2 (x6 : FVec Ideal S4x32x1 .f32) (k : Fin 4) (h : S4x32x1.Slices ![k.val, 0, 0] S1x32x1) (h2 : S1x32x1.ShapeCasts S32x1) (q : Fin 32) :
    shapeCast S32x1 (extractStridedSlice S1x32x1 ![k.val, 0, 0] x6 h) h2 (ValueIdx.ix2 q 0) = x6 (ValueIdx.ix3 k q 0) := by
  refine (shapeCast_apply _ _ (ValueIdx.ix2 q 0) (ValueIdx.ix3 0 q 0) ?_).trans (extractStridedSlice_apply _ _ _ _ _ fun a => ?_)
  · rw [Shape.rowMajor_val_three, Shape.rowMajor_val_two]
    show (0 * 32 + q.val) * 1 + 0 = q.val * 1 + 0
    omega
  · match a with
    | ⟨0, _⟩ => rfl
    | ⟨1, _⟩ => exact (Nat.zero_add _).symm
    | ⟨2, _⟩ => rfl

/-- Its bias. -/
theorem sliceB2 (x7 : FVec Ideal S4x1 .f32) (k : Fin 4) (h : S4x1.Slices ![k.val, 0] S1x1) (h2 : S1x1.ShapeCasts S1) :
    shapeCast S1 (extractStridedSlice S1x1 ![k.val, 0] x7 h) h2 (ValueIdx.ix1 0) = x7 (ValueIdx.ix2 k 0) := by
  refine (shapeCast_apply _ _ (ValueIdx.ix1 0) (ValueIdx.ix2 0 0) ?_).trans (extractStridedSlice_apply _ _ _ _ _ fun a => ?_)
  · rw [Shape.rowMajor_val_two, Shape.rowMajor_val_one]
    rfl
  · match a with
    | ⟨0, _⟩ => rfl
    | ⟨1, _⟩ => rfl

variable (x0 : FVec Ideal S100000x128 .f32) (x1 : IVec S100000 32) (x2 : IVec S100000 1) (x3 : IVec S100000 32) (x4 : FVec Ideal S4x128x32 .f32) (x5 : FVec Ideal S4x32 .f32)
  (x6 : FVec Ideal S4x32x1 .f32) (x7 : FVec Ideal S4x1 .f32) (x8 : FVec Ideal S512x128 .f32) (x9 : FVec Ideal S128 .f32) (x10 : FVec Ideal S32x8 .f32) (x11 : FVec Ideal S264x128 .f32)
  (x12 : FVec Ideal S128 .f32) (x13 : FVec Ideal S128x128 .f32) (x14 x15 x16 : FVec Ideal S128 .f32)

/-- The arguments. -/
abbrev args : Cert.Proof.Attn.In := Cert.Proof.Attn.ofArgs x0 x1 x2 x3 x4 x5 x6 x7 x8 x9 x10 x11 x12 x13 x14 x15 x16

/-- The four score vectors. -/
def svs (k : Fin 4) : FVec Ideal S100000 .f32 := match k with
  | 0 => val_main_v23 (F := Ideal) x0 x4 x5 x6 x7
  | 1 => val_main_v70 (F := Ideal) x0 x4 x5 x6 x7
  | 2 => val_main_v117 (F := Ideal) x0 x4 x5 x6 x7
  | 3 => val_main_v164 (F := Ideal) x0 x4 x5 x6 x7

/-- The four heads' results. -/
def heads (k : Fin 4) : FVec Ideal S256x128 .f32 := match k with
  | 0 => val_main_v52 (F := Ideal) x0 x1 x4 x5 x6 x7
  | 1 => val_main_v99 (F := Ideal) x0 x1 x4 x5 x6 x7
  | 2 => val_main_v146 (F := Ideal) x0 x1 x4 x5 x6 x7
  | 3 => val_main_v193 (F := Ideal) x0 x1 x4 x5 x6 x7

/-- A head's result is the chain over its scores. -/
theorem heads_eq (k : Fin 4) : heads x0 x1 x4 x5 x6 x7 k = hOut (svs x0 x4 x5 x6 x7 k) x1 x0 := by
  match k with
  | 0 => exact head0 x0 x1 x4 x5 x6 x7
  | 1 => exact head1 x0 x1 x4 x5 x6 x7
  | 2 => exact head2 x0 x1 x4 x5 x6 x7
  | 3 => exact head3 x0 x1 x4 x5 x6 x7

/-- A score from its layers. -/
theorem score_sc (k : Fin 4) (w : FVec Ideal S128x32 .f32) (b : FVec Ideal S32 .f32) (w2 : FVec Ideal S32x1 .f32) (b2 : FVec Ideal S1 .f32)
    (hw : ∀ i q, w (ValueIdx.ix2 i q) = x4 (ValueIdx.ix3 k i q)) (hb : ∀ q, b (ValueIdx.ix1 q) = x5 (ValueIdx.ix2 k q)) (hw2 : ∀ q, w2 (ValueIdx.ix2 q 0) = x6 (ValueIdx.ix3 k q 0))
    (hb2 : b2 (ValueIdx.ix1 0) = x7 (ValueIdx.ix2 k 0)) (n : Fin 100000) :
    score x0 w b w2 b2 (ValueIdx.ix1 n) = Cert.Proof.Attn.sc (args x0 x1 x2 x3 x4 x5 x6 x7 x8 x9 x10 x11 x12 x13 x14 x15 x16) k n := by
  rw [score_apply]
  simp only [hw, hb, hw2, hb2]
  rfl

/-- The scores. -/
theorem svs_apply (k : Fin 4) (n : Fin 100000) :
    svs x0 x4 x5 x6 x7 k (ValueIdx.ix1 n) = Cert.Proof.Attn.sc (args x0 x1 x2 x3 x4 x5 x6 x7 x8 x9 x10 x11 x12 x13 x14 x15 x16) k n := by
  match k with
  | 0 => exact score_sc x0 x1 x2 x3 x4 x5 x6 x7 x8 x9 x10 x11 x12 x13 x14 x15 x16 0 _ _ _ _ (sliceW1 x4 0 slices_S4x128x32_S1x128x32_0_0_0 shapeCasts_S1x128x32_S128x32) (sliceB1 x5 0 slices_S4x32_S1x32_0_0 shapeCasts_S1x32_S32) (sliceW2 x6 0 slices_S4x32x1_S1x32x1_0_0_0 shapeCasts_S1x32x1_S32x1) (sliceB2 x7 0 slices_S4x1_S1x1_0_0 shapeCasts_S1x1_S1) n
  | 1 => exact score_sc x0 x1 x2 x3 x4 x5 x6 x7 x8 x9 x10 x11 x12 x13 x14 x15 x16 1 _ _ _ _ (sliceW1 x4 1 slices_S4x128x32_S1x128x32_1_0_0 shapeCasts_S1x128x32_S128x32) (sliceB1 x5 1 slices_S4x32_S1x32_1_0 shapeCasts_S1x32_S32) (sliceW2 x6 1 slices_S4x32x1_S1x32x1_1_0_0 shapeCasts_S1x32x1_S32x1) (sliceB2 x7 1 slices_S4x1_S1x1_1_0 shapeCasts_S1x1_S1) n
  | 2 => exact score_sc x0 x1 x2 x3 x4 x5 x6 x7 x8 x9 x10 x11 x12 x13 x14 x15 x16 2 _ _ _ _ (sliceW1 x4 2 slices_S4x128x32_S1x128x32_2_0_0 shapeCasts_S1x128x32_S128x32) (sliceB1 x5 2 slices_S4x32_S1x32_2_0 shapeCasts_S1x32_S32) (sliceW2 x6 2 slices_S4x32x1_S1x32x1_2_0_0 shapeCasts_S1x32x1_S32x1) (sliceB2 x7 2 slices_S4x1_S1x1_2_0 shapeCasts_S1x1_S1) n
  | 3 => exact score_sc x0 x1 x2 x3 x4 x5 x6 x7 x8 x9 x10 x11 x12 x13 x14 x15 x16 3 _ _ _ _ (sliceW1 x4 3 slices_S4x128x32_S1x128x32_3_0_0 shapeCasts_S1x128x32_S128x32) (sliceB1 x5 3 slices_S4x32_S1x32_3_0 shapeCasts_S1x32_S32) (sliceW2 x6 3 slices_S4x32x1_S1x32x1_3_0_0 shapeCasts_S1x32x1_S32x1) (sliceB2 x7 3 slices_S4x1_S1x1_3_0 shapeCasts_S1x1_S1) n

/-- A head's result, the second layers finite. -/
theorem heads_apply (hb : ∀ n : Fin 100000, (x1 (ValueIdx.ix1 n)).toNat < 256) (h2 : ∀ i, x6 i ≠ ⊤ ∧ x6 i ≠ ⊥) (h3 : ∀ i, x7 i ≠ ⊤ ∧ x7 i ≠ ⊥) (k : Fin 4) (s : Fin 256) (j : Fin 128) :
    heads x0 x1 x4 x5 x6 x7 k (ValueIdx.ix2 s j)
      = Cert.Proof.Attn.num (args x0 x1 x2 x3 x4 x5 x6 x7 x8 x9 x10 x11 x12 x13 x14 x15 x16) k s.val j * Cert.Proof.Attn.rden (args x0 x1 x2 x3 x4 x5 x6 x7 x8 x9 x10 x11 x12 x13 x14 x15 x16) k s.val := by
  obtain ⟨r, hr⟩ := Cert.Proof.Attn.sc_real (args x0 x1 x2 x3 x4 x5 x6 x7 x8 x9 x10 x11 x12 x13 x14 x15 x16) (fun k q => h2 _) (fun k => h3 _) k
  have hs := svs_apply x0 x1 x2 x3 x4 x5 x6 x7 x8 x9 x10 x11 x12 x13 x14 x15 x16 k
  rw [heads_eq, hOut_eq (svs x0 x4 x5 x6 x7 k) x1 x0 hb r (fun n => (hs n).trans (hr n))]
  simp only [hs]
  rfl

end Cert.ReferenceIdeal.Read

end
-- ==== Proof.RefTail.lean ====
module

public import proofs.«01_k».proof.Proof.RefScore
public import Idealize.ShloMosaic.Lib.Routing.Ops

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo
open Cert.Proof.RefOps
open scoped BigOperators

/-! # The reference's masked means, depths and fusing layers -/

/-- A row's value spread over its columns. -/
theorem colSpread {R C : ℕ} (hR : R ≠ 1) (h1 : (⟨1, ![R]⟩ : Shape).BroadcastsInDim ⟨2, ![R, 1]⟩ ![0]) (h2 : (⟨2, ![R, 1]⟩ : Shape).BroadcastsInDim ⟨2, ![R, C]⟩ ![0, 1])
    (b : FVec Ideal ⟨1, ![R]⟩ .f32) (r : Fin R) (c : Fin C) :
    broadcastInDim ⟨2, ![R, C]⟩ ![0, 1] h2 (broadcastInDim ⟨2, ![R, 1]⟩ ![0] h1 b) (ValueIdx.ix2 r c) = b (ValueIdx.ix1 r) := by
  refine (broadcastInDim_apply _ _ _ (ValueIdx.ix2 r c) (ValueIdx.ix2 r 0) fun a => ?_).trans (broadcastInDim_apply _ _ _ (ValueIdx.ix2 r 0) (ValueIdx.ix1 r) fun a => ?_)
  · match a with
    | ⟨0, _⟩ => exact (if_neg hR).symm
    | ⟨1, _⟩ => rfl
  · match a with
    | ⟨0, _⟩ => exact (if_neg hR).symm

/-- Four blocks of 128 columns. -/
theorem four_apply (f : Fin 4 → FVec Ideal S256x128 .f32) (h : Shape.Concatenates (([⟨S256x128, f 0⟩, ⟨S256x128, f 1⟩, ⟨S256x128, f 2⟩, ⟨S256x128, f 3⟩] : List ((s : Shape) × (s.Idx → Ideal .f32))).map (·.1)) S256x512 1) (s : Fin 256) (k : Fin 4) (q : Fin 128) (c : Fin 512) (hc : c.val = 128 * k.val + q.val) :
    concatenate S256x512 1 [⟨S256x128, f 0⟩, ⟨S256x128, f 1⟩, ⟨S256x128, f 2⟩, ⟨S256x128, f 3⟩] h (ValueIdx.ix2 s c) = f k (ValueIdx.ix2 s q) := by
  match k, hc with
  | 0, hc =>
    exact concatenate_apply_piece (t := S256x512) 1 _ h (ValueIdx.ix2 s c) 0 (Nat.lt_of_lt_of_eq (by decide : 0 < 4) rfl) S256x128 (f 0) rfl rfl 0 rfl (ValueIdx.ix2 s q)
      (fun b hb => by match b with | ⟨0, _⟩ => rfl | ⟨1, _⟩ => exact absurd rfl hb) hc.symm
  | 1, hc =>
    exact concatenate_apply_piece (t := S256x512) 1 _ h (ValueIdx.ix2 s c) 1 (Nat.lt_of_lt_of_eq (by decide : 1 < 4) rfl) S256x128 (f 1) rfl rfl 128 rfl (ValueIdx.ix2 s q)
      (fun b hb => by match b with | ⟨0, _⟩ => rfl | ⟨1, _⟩ => exact absurd rfl hb) hc.symm
  | 2, hc =>
    exact concatenate_apply_piece (t := S256x512) 1 _ h (ValueIdx.ix2 s c) 2 (Nat.lt_of_lt_of_eq (by decide : 2 < 4) rfl) S256x128 (f 2) rfl rfl 256 rfl (ValueIdx.ix2 s q)
      (fun b hb => by match b with | ⟨0, _⟩ => rfl | ⟨1, _⟩ => exact absurd rfl hb) hc.symm
  | 3, hc =>
    exact concatenate_apply_piece (t := S256x512) 1 _ h (ValueIdx.ix2 s c) 3 (Nat.lt_of_lt_of_eq (by decide : 3 < 4) rfl) S256x128 (f 3) rfl rfl 384 rfl (ValueIdx.ix2 s q)
      (fun b hb => by match b with | ⟨0, _⟩ => rfl | ⟨1, _⟩ => exact absurd rfl hb) hc.symm

/-- A sum over 264 columns by its three parts. -/
theorem split264 (f : Fin 264 → EReal) : ∑ c, f c = ((∑ i : Fin 128, f ⟨i.val, by omega⟩) + ∑ i : Fin 128, f ⟨128 + i.val, by omega⟩) + ∑ e : Fin 8, f ⟨256 + e.val, by omega⟩ := by
  refine (Fin.sum_univ_add (a := 256) (b := 8) f).trans ?_
  refine congrArg₂ (fun x y : EReal => x + y) ((Fin.sum_univ_add (a := 128) (b := 128) fun i => f (Fin.castAdd 8 i)).trans ?_) rfl
  rfl

/-- Clipping a word known up to its sign. -/
theorem clip_word (r : BitVec 32) (d : ℕ) (hd : d < 32) (h1 : r.toInt ≤ (d : Int)) (h2 : 0 < d → (d : Int) ≤ r.toInt) :
    IntOp.minsi 31#32 (IntOp.maxsi 0#32 (IntOp.maxsi r 0#32)) = BitVec.ofNat 32 d := by
  have e : IntOp.maxsi r 0#32 = BitVec.ofNat 32 d := by
    unfold IntOp.maxsi
    rcases Nat.eq_zero_or_pos d with h | h
    · subst h
      rw [if_neg]
      rw [BitVec.slt]
      simpa using h1
    · have hr : r = BitVec.ofNat 32 d := BitVec.eq_of_toInt_eq (by rw [StableHlo.Predicate.toInt_ofNat_small d (by omega)]; have := h2 h; omega)
      rw [hr]
      split
      · rfl
      · rename_i hh
        exfalso
        apply hh
        rw [BitVec.slt, StableHlo.Predicate.toInt_ofNat_small d (by omega)]
        simpa using h
  rw [e]
  have : ∀ d : Fin 32, IntOp.minsi 31#32 (IntOp.maxsi 0#32 (BitVec.ofNat 32 d.val)) = BitVec.ofNat 32 d.val := by decide
  exact this ⟨d, hd⟩

variable (x0 : FVec Ideal S100000x128 .f32) (x1 : IVec S100000 32) (x2 : IVec S100000 1) (x3 : IVec S100000 32) (x4 : FVec Ideal S4x128x32 .f32) (x5 : FVec Ideal S4x32 .f32)
  (x6 : FVec Ideal S4x32x1 .f32) (x7 : FVec Ideal S4x1 .f32) (x8 : FVec Ideal S512x128 .f32) (x9 : FVec Ideal S128 .f32) (x10 : FVec Ideal S32x8 .f32) (x11 : FVec Ideal S264x128 .f32)
  (x12 : FVec Ideal S128 .f32) (x13 : FVec Ideal S128x128 .f32) (x14 x15 x16 : FVec Ideal S128 .f32)

section
variable (hb : ∀ n : Fin 100000, (x1 (ValueIdx.ix1 n)).toNat < 256)
include hb

/-- The masked mean. -/
theorem mean_apply (s : Fin 256) (j : Fin 128) : val_main_v213 (F := Ideal) x0 x1 x2 (ValueIdx.ix2 s j) = Cert.Proof.Attn.pb (args x0 x1 x2 x3 x4 x5 x6 x7 x8 x9 x10 x11 x12 x13 x14 x15 x16) s.val j := by
  unfold val_main_v213 val_main_v205 val_main_v212 val_main_v211
  refine (divf_at _ _ _).trans (congrArg₂ Ideal.div ?_ ?_)
  · refine (segsum2 (R := 256) (C := 128) (N := 100000) scatter_S256x128_S100000x1_S100000x128_1_0_0_1 rfl rfl rfl rfl _ _ _ s j ((val_main_v203_apply (F := Ideal) _).trans zero_bits)
      (fun n => (x1 (ValueIdx.ix1 n)).toNat) (col_int x1 hb)).trans (Finset.sum_congr rfl fun n _ => ?_)
    refine congrArg (fun y : EReal => if (x1 (ValueIdx.ix1 n)).toNat = s.val then y else 0) ?_
    exact congrArg (fun y : EReal => x0 (ValueIdx.ix2 n j) * y) (colSpread (by decide) bcast_S100000_S100000x1_0 bcast_S100000x1_S100000x128_0_1 (val_main_v199 (F := Ideal) x2) n j)
  · have e : idx_main_v212 (ValueIdx.ix2 s j) = ValueIdx.ix2 s 0 := by funext a; match a with | ⟨0, _⟩ => rfl | ⟨1, _⟩ => rfl
    refine (val_main_v212_apply x1 x2 (ValueIdx.ix2 s j)).trans ?_
    rw [e]
    refine congrArg₂ (fun x y : EReal => x + y) ?_ (val_main_v210_apply (F := Ideal) _)
    have e2 : idx_main_v209 (ValueIdx.ix2 s 0) = ValueIdx.ix1 s := by funext a; match a with | ⟨0, _⟩ => rfl
    rw [val_main_v209_apply, e2]
    exact segsum1 (R := 256) (N := 100000) scatter_S256_S100000x1_S100000_n_0_0_1 rfl rfl rfl _ _ _ s ((val_main_v206_apply (F := Ideal) _).trans zero_bits) (fun n => (x1 (ValueIdx.ix1 n)).toNat) (col_int x1 hb)

variable (hd : ∀ n : Fin 100000, (x3 (ValueIdx.ix1 n)).toNat < 32)
include hd

/-- The clipped depth of a segment. -/
theorem depth_word (s : Fin 256) : val_main_v219 (F := Ideal) x1 x3 (ValueIdx.ix1 s) = BitVec.ofNat 32 (Cert.Proof.Attn.dmax (args x0 x1 x2 x3 x4 x5 x6 x7 x8 x9 x10 x11 x12 x13 x14 x15 x16) s.val) := by
  have key := segmax_le (R := 256) (N := 100000) scatter_S256_S100000x1_S100000_n_0_0_1 rfl rfl rfl (val_main_v214 (F := Ideal)) (val_main_v215 (F := Ideal) x1) x3 s (fun n => (x1 (ValueIdx.ix1 n)).toNat) (col_int x1 hb)
  have hx : ∀ n, (x3 (ValueIdx.ix1 n)).toInt = ((x3 (ValueIdx.ix1 n)).toNat : Int) := fun n => toInt_small _ (lt_trans (hd n) (by norm_num))
  have h0 : (val_main_v214 (F := Ideal) (ValueIdx.ix1 s)).toInt ≤ -1 := by
    rw [val_main_v214_apply]
    exact (by decide : (2147483648#32).toInt ≤ -1)
  have hD : Cert.Proof.Attn.dmax (args x0 x1 x2 x3 x4 x5 x6 x7 x8 x9 x10 x11 x12 x13 x14 x15 x16) s.val < 32 := (Finset.sup_lt_iff (show (⊥ : ℕ) < 32 from Nat.zero_lt_succ _)).mpr fun n _ => hd n
  have hle : ∀ b : ℕ, Cert.Proof.Attn.dmax (args x0 x1 x2 x3 x4 x5 x6 x7 x8 x9 x10 x11 x12 x13 x14 x15 x16) s.val ≤ b ↔ ∀ n, (x1 (ValueIdx.ix1 n)).toNat = s.val → (x3 (ValueIdx.ix1 n)).toNat ≤ b := fun b => by
    unfold Cert.Proof.Attn.dmax
    rw [Finset.sup_le_iff]
    exact ⟨fun h n hn => h n (Finset.mem_filter.mpr ⟨Finset.mem_univ _, hn⟩), fun h n hn => h n (Finset.mem_filter.mp hn).2⟩
  generalize Cert.Proof.Attn.dmax (args x0 x1 x2 x3 x4 x5 x6 x7 x8 x9 x10 x11 x12 x13 x14 x15 x16) s.val = D at hD hle ⊢
  have e : val_main_v219 (F := Ideal) x1 x3 (ValueIdx.ix1 s) = IntOp.minsi 31#32 (IntOp.maxsi 0#32 (IntOp.maxsi (val_main_v216 (F := Ideal) x1 x3 (ValueIdx.ix1 s)) 0#32)) := by
    rw [val_main_v219_apply]
    rfl
  rw [e]
  refine clip_word _ D hD ((key D).mpr ⟨by omega, fun n hn => ?_⟩) fun hp => ?_
  · have := (hle D).mp (le_refl _) n hn
    rw [hx]; omega
  · by_contra hlt
    have h1 := (key ((D - 1 : ℕ) : Int)).mp (by unfold val_main_v216 at hlt; omega)
    have := (hle (D - 1)).mpr fun n hn => by have := h1.2 n hn; rw [hx] at this; omega
    omega

/-- The depth table's row. -/
theorem table_apply (s : Fin 256) (e : Fin 8) : val_main_v226 (F := Ideal) x1 x3 x10 (ValueIdx.ix2 s e) = Cert.Proof.Attn.pc (args x0 x1 x2 x3 x4 x5 x6 x7 x8 x9 x10 x11 x12 x13 x14 x15 x16) s.val e := by
  have hw := depth_word x0 x1 x2 x3 x4 x5 x6 x7 x8 x9 x10 x11 x12 x13 x14 x15 x16 hb hd s
  have hD : Cert.Proof.Attn.dmax (args x0 x1 x2 x3 x4 x5 x6 x7 x8 x9 x10 x11 x12 x13 x14 x15 x16) s.val < 32 := (Finset.sup_lt_iff (show (⊥ : ℕ) < 32 from Nat.zero_lt_succ _)).mpr fun n _ => hd n
  obtain ⟨D, eD⟩ : ∃ D, D = Cert.Proof.Attn.dmax (args x0 x1 x2 x3 x4 x5 x6 x7 x8 x9 x10 x11 x12 x13 x14 x15 x16) s.val := ⟨_, rfl⟩
  rw [← eD] at hw
  have hD' : D < 32 := lt_of_eq_of_lt eD hD
  unfold val_main_v226 Cert.Proof.Attn.pc
  refine (Routing.gather_row (nb := 32) (B := 8) (n := 256) gather_S32x8_S256x1_S256x8_1_0_n_n_0_1_18 rfl rfl rfl rfl rfl x10 (val_main_v225 (F := Ideal) x1 x3) s e ⟨D, hD'⟩ ?_ (by norm_num)).trans ?_
  · have e2 : idx_main_v225 (ValueIdx.ix2 s 0) = ValueIdx.ix1 s := by funext a; match a with | ⟨0, _⟩ => rfl
    rw [val_main_v225_apply, e2]
    refine Eq.trans ?_ hw
    rw [val_main_v224_apply, val_main_v221_apply, val_main_v223_apply, val_main_v220_apply]
    generalize val_main_v219 (F := Ideal) x1 x3 (ValueIdx.ix1 s) = w at hw ⊢
    exact Routing.wrap_of_lt w _ (by rw [hw, BitVec.toNat_ofNat]; omega)
  · exact congrArg (fun d : Fin 32 => x10 (ValueIdx.ix2 d e)) (Fin.ext (eD.trans (Nat.min_eq_left (Nat.le_of_lt_succ hD)).symm))

variable (h2 : ∀ i, x6 i ≠ ⊤ ∧ x6 i ≠ ⊥) (h3 : ∀ i, x7 i ≠ ⊤ ∧ x7 i ≠ ⊥)
include h2 h3

/-- The projected heads. -/
theorem proj_apply (s : Fin 256) (j : Fin 128) : val_main_v198 (F := Ideal) x0 x1 x4 x5 x6 x7 x8 x9 (ValueIdx.ix2 s j) = Cert.Proof.Attn.pa (args x0 x1 x2 x3 x4 x5 x6 x7 x8 x9 x10 x11 x12 x13 x14 x15 x16) s.val j := by
  unfold val_main_v198 val_main_v195
  refine congrArg₂ (fun x y : EReal => x + y) ((StackMember.dotGeneral_plain_apply (m := 256) (k := 512) (n := 128) none _ x8 s j).trans (Finset.sum_congr rfl fun c _ => ?_))
    (biasRow (by decide) (by decide) bcast_S128_S1x128_1 bcast_S1x128_S256x128_0_1 x9 s j)
  refine congrArg (fun x : EReal => x * x8 (ValueIdx.ix2 c j)) ?_
  refine (four_apply (heads x0 x1 x4 x5 x6 x7) concatenates_S256x128_S256x128_S256x128_S256x128_S256x512_d1 s ⟨c.val / 128, by omega⟩ ⟨c.val % 128, by omega⟩ c ?_).trans ?_
  · show c.val = 128 * (c.val / 128) + c.val % 128
    omega
  · exact heads_apply x0 x1 x2 x3 x4 x5 x6 x7 x8 x9 x10 x11 x12 x13 x14 x15 x16 hb h2 h3 _ s _

/-- The first fusing layer. -/
theorem pre_apply (s : Fin 256) (j : Fin 128) : val_main_v231 (F := Ideal) x0 x1 x2 x3 x4 x5 x6 x7 x8 x9 x10 x11 x12 (ValueIdx.ix2 s j) = Cert.Proof.Attn.pre (args x0 x1 x2 x3 x4 x5 x6 x7 x8 x9 x10 x11 x12 x13 x14 x15 x16) s.val j := by
  unfold val_main_v231 val_main_v228 val_main_v227 Cert.Proof.Attn.pre
  refine congrArg₂ (fun x y : EReal => x + y) ((StackMember.dotGeneral_plain_apply (m := 256) (k := 264) (n := 128) none _ x11 s j).trans ((split264 _).trans ?_))
    (biasRow (by decide) (by decide) bcast_S128_S1x128_1 bcast_S1x128_S256x128_0_1 x12 s j)
  refine congrArg₂ (fun x y : EReal => x + y) (congrArg₂ (fun x y : EReal => x + y) (Finset.sum_congr rfl fun i _ => ?_) (Finset.sum_congr rfl fun i _ => ?_)) (Finset.sum_congr rfl fun i _ => ?_)
  · refine congrArg (fun x : EReal => x * x11 (ValueIdx.ix2 ⟨i.val, by omega⟩ j)) ?_
    refine (concatenate_apply_piece (t := S256x264) 1 _ _ (ValueIdx.ix2 s ⟨i.val, by omega⟩) 0 (Nat.lt_of_lt_of_eq (by decide : 0 < 3) rfl) S256x128 (val_main_v198 (F := Ideal) x0 x1 x4 x5 x6 x7 x8 x9) rfl rfl 0 rfl (ValueIdx.ix2 s i)
      (fun b hb => by match b with | ⟨0, _⟩ => rfl | ⟨1, _⟩ => exact absurd rfl hb) (Nat.zero_add _)).trans ?_
    exact proj_apply x0 x1 x2 x3 x4 x5 x6 x7 x8 x9 x10 x11 x12 x13 x14 x15 x16 hb hd h2 h3 s i
  · refine congrArg (fun x : EReal => x * x11 (ValueIdx.ix2 ⟨128 + i.val, by omega⟩ j)) ?_
    refine (concatenate_apply_piece (t := S256x264) 1 _ _ (ValueIdx.ix2 s ⟨128 + i.val, by omega⟩) 1 (Nat.lt_of_lt_of_eq (by decide : 1 < 3) rfl) S256x128 (val_main_v213 (F := Ideal) x0 x1 x2) rfl rfl 128 rfl (ValueIdx.ix2 s i)
      (fun b hb => by match b with | ⟨0, _⟩ => rfl | ⟨1, _⟩ => exact absurd rfl hb) rfl).trans ?_
    exact mean_apply x0 x1 x2 x3 x4 x5 x6 x7 x8 x9 x10 x11 x12 x13 x14 x15 x16 hb s i
  · refine congrArg (fun x : EReal => x * x11 (ValueIdx.ix2 ⟨256 + i.val, by omega⟩ j)) ?_
    refine (concatenate_apply_piece (t := S256x264) 1 _ _ (ValueIdx.ix2 s ⟨256 + i.val, by omega⟩) 2 (Nat.lt_of_lt_of_eq (by decide : 2 < 3) rfl) S256x8 (val_main_v226 (F := Ideal) x1 x3 x10) rfl rfl 256 rfl (ValueIdx.ix2 s i)
      (fun b hb => by match b with | ⟨0, _⟩ => rfl | ⟨1, _⟩ => exact absurd rfl hb) rfl).trans ?_
    exact table_apply x0 x1 x2 x3 x4 x5 x6 x7 x8 x9 x10 x11 x12 x13 x14 x15 x16 hb hd s i

/-- The second fusing layer. -/
theorem out_apply (s : Fin 256) (j : Fin 128) : val_main_v242 (F := Ideal) x0 x1 x2 x3 x4 x5 x6 x7 x8 x9 x10 x11 x12 x13 x14 (ValueIdx.ix2 s j) = Cert.Proof.Attn.out (args x0 x1 x2 x3 x4 x5 x6 x7 x8 x9 x10 x11 x12 x13 x14 x15 x16) (Cert.Proof.Attn.pre (args x0 x1 x2 x3 x4 x5 x6 x7 x8 x9 x10 x11 x12 x13 x14 x15 x16) s.val) j := by
  unfold val_main_v242 val_main_v239 Cert.Proof.Attn.out
  refine congrArg₂ (fun x y : EReal => x + y) ((StackMember.dotGeneral_plain_apply (m := 256) (k := 128) (n := 128) none _ x13 s j).trans (Finset.sum_congr rfl fun k _ => ?_))
    (biasRow (by decide) (by decide) bcast_S128_S1x128_1 bcast_S1x128_S256x128_0_1 x14 s j)
  refine congrArg (fun x : EReal => x * x13 (ValueIdx.ix2 k j)) ?_
  rw [← pre_apply x0 x1 x2 x3 x4 x5 x6 x7 x8 x9 x10 x11 x12 x13 x14 x15 x16 hb hd h2 h3 s k]
  unfold val_main_v238 val_main_v237 val_main_v236 val_main_v234 val_main_v233
  generalize val_main_v231 (F := Ideal) x0 x1 x2 x3 x4 x5 x6 x7 x8 x9 x10 x11 x12 = y
  have e1 : val_main_v232 (F := Ideal) (ValueIdx.ix2 s k) = Ideal.ofBits .f32 0x3F000000#32 := val_main_v232_apply (F := Ideal) _
  have e2 : val_main_v235 (F := Ideal) (ValueIdx.ix2 s k) = Ideal.ofBits .f32 0x3F3504F3#32 := val_main_v235_apply (F := Ideal) _
  show (val_main_v232 (F := Ideal) (ValueIdx.ix2 s k) * y (ValueIdx.ix2 s k)) * Ideal.erfc (-(y (ValueIdx.ix2 s k)) * val_main_v235 (F := Ideal) (ValueIdx.ix2 s k)) = _
  rw [e1, e2, neg_mul, Ideal.erfc_neg, Cert.Proof.Attn.gel, Cert.Proof.Attn.one_bits]

end

/-! ## The normalisation -/

/-- A row before it is normalised. -/
abbrev row (s : Fin 256) : Fin 128 → EReal := fun j => val_main_v242 (F := Ideal) x0 x1 x2 x3 x4 x5 x6 x7 x8 x9 x10 x11 x12 x13 x14 (ValueIdx.ix2 s j)

/-- A row's mean. -/
theorem mean_row (s : Fin 256) : val_main_v246 (F := Ideal) x0 x1 x2 x3 x4 x5 x6 x7 x8 x9 x10 x11 x12 x13 x14 (ValueIdx.ix2 s 0) = Cert.Proof.Attn.mean (row x0 x1 x2 x3 x4 x5 x6 x7 x8 x9 x10 x11 x12 x13 x14 s) := by
  have e : idx_main_v244 (ValueIdx.ix2 s 0) = ValueIdx.ix1 s := by funext a; match a with | ⟨0, _⟩ => rfl
  unfold val_main_v246
  refine (divf_at _ _ _).trans (congrArg₂ Ideal.div ?_ (val_main_v245_apply (F := Ideal) _))
  rw [val_main_v244_apply, e, val_main_v243_apply]
  refine (congrArg₂ (fun x y : EReal => x + y) zero_bits (Finset.sum_congr rfl fun k _ => congrArg (val_main_v242 (F := Ideal) x0 x1 x2 x3 x4 x5 x6 x7 x8 x9 x10 x11 x12 x13 x14) ?_)).trans (zero_add _)
  funext a; match a with | ⟨0, _⟩ => rfl | ⟨1, _⟩ => rfl

/-- The same mean, as the variance takes it. -/
theorem mean_row' (s : Fin 256) : val_main_call5_v3 (F := Ideal) x0 x1 x2 x3 x4 x5 x6 x7 x8 x9 x10 x11 x12 x13 x14 (ValueIdx.ix2 s 0) = Cert.Proof.Attn.mean (row x0 x1 x2 x3 x4 x5 x6 x7 x8 x9 x10 x11 x12 x13 x14 s) :=
  mean_row x0 x1 x2 x3 x4 x5 x6 x7 x8 x9 x10 x11 x12 x13 x14 s

/-- The number of columns. -/
theorem cols (i : S_.Idx) : val_main_call5_v8 (F := Ideal) i = Ideal.ofBits .f32 0x43000000#32 := by
  show Ideal.ofBits .f32 0x43000000#32 - (((0#32 : BitVec 32).toInt : ℝ) : EReal) = _
  rw [show ((0#32 : BitVec 32).toInt : ℝ) = 0 by norm_num, EReal.coe_zero, sub_zero]

/-- A row's variance. -/
theorem vari_row (s : Fin 256) : val_main_v247 (F := Ideal) x0 x1 x2 x3 x4 x5 x6 x7 x8 x9 x10 x11 x12 x13 x14 (ValueIdx.ix2 s 0) = Cert.Proof.Attn.vari (row x0 x1 x2 x3 x4 x5 x6 x7 x8 x9 x10 x11 x12 x13 x14 s) := by
  have ec : broadcastInDim S256x1 ![] bcast_S_S256x1 (val_main_call5_v13 (F := Ideal)) (ValueIdx.ix2 s 0) = 1#1 := by
    refine (broadcastInDim_apply _ _ _ (ValueIdx.ix2 s 0) (Shape.Idx.first h_S_) fun a => a.elim0).trans ?_
    rw [val_main_call5_v13_apply, cols, Cert.Proof.Attn.n128_bits]
    show BitVec.ofBool (decide (((128 : ℝ) : EReal) > Ideal.ofBits .f32 0x00000000#32)) = 1#1
    rw [show Ideal.ofBits .f32 0x00000000#32 = 0 from zero_bits, decide_eq_true (by exact_mod_cast (by norm_num : (0 : ℝ) < 128))]
    rfl
  unfold val_main_v247
  show Scalar.select (broadcastInDim S256x1 ![] bcast_S_S256x1 (val_main_call5_v13 (F := Ideal)) (ValueIdx.ix2 s 0)) (val_main_call5_v12 (F := Ideal) x0 x1 x2 x3 x4 x5 x6 x7 x8 x9 x10 x11 x12 x13 x14 (ValueIdx.ix2 s 0)) _ = _
  rw [ec]
  refine (if_pos rfl).trans ?_
  have e : idx_main_call5_v10 (ValueIdx.ix2 s 0) = ValueIdx.ix1 s := by funext a; match a with | ⟨0, _⟩ => rfl
  unfold val_main_call5_v12
  refine (divf_at _ _ _).trans (congrArg₂ Ideal.div ?_ ((val_main_call5_v11_apply (F := Ideal) _).trans (cols _)))
  rw [val_main_call5_v10_apply, e, val_main_call5_v9_apply]
  refine (congrArg₂ (fun x y : EReal => x + y) zero_bits (Finset.sum_congr rfl fun k _ => ?_)).trans (zero_add _)
  have e1 : idx_main_call5_v9 (ValueIdx.ix1 s) k = ValueIdx.ix2 s k := by funext a; match a with | ⟨0, _⟩ => rfl | ⟨1, _⟩ => rfl
  have e2 : idx_main_call5_v4 (ValueIdx.ix2 s k) = ValueIdx.ix2 s 0 := by funext a; match a with | ⟨0, _⟩ => rfl | ⟨1, _⟩ => rfl
  have e5 : val_main_call5_v5 (F := Ideal) x0 x1 x2 x3 x4 x5 x6 x7 x8 x9 x10 x11 x12 x13 x14 (ValueIdx.ix2 s k) = row x0 x1 x2 x3 x4 x5 x6 x7 x8 x9 x10 x11 x12 x13 x14 s k - Cert.Proof.Attn.mean (row x0 x1 x2 x3 x4 x5 x6 x7 x8 x9 x10 x11 x12 x13 x14 s) := by
    rw [val_main_call5_v5_apply, val_main_call5_v4_apply, e2, mean_row']
    rfl
  rw [e1, val_main_call5_v6_apply, e5]
  rfl

/-- A value's distance from the mean. -/
theorem dist_apply (s : Fin 256) (j : Fin 128) : val_main_v249 (F := Ideal) x0 x1 x2 x3 x4 x5 x6 x7 x8 x9 x10 x11 x12 x13 x14 (ValueIdx.ix2 s j) = row x0 x1 x2 x3 x4 x5 x6 x7 x8 x9 x10 x11 x12 x13 x14 s j - Cert.Proof.Attn.mean (row x0 x1 x2 x3 x4 x5 x6 x7 x8 x9 x10 x11 x12 x13 x14 s) := by
  have e1 : idx_main_v248 (ValueIdx.ix2 s j) = ValueIdx.ix2 s 0 := by funext a; match a with | ⟨0, _⟩ => rfl | ⟨1, _⟩ => rfl
  rw [val_main_v249_apply, val_main_v248_apply, e1, mean_row]
  rfl

/-- The guarded deviation. -/
theorem dev_apply (s : Fin 256) (j : Fin 128) : val_main_v253 (F := Ideal) x0 x1 x2 x3 x4 x5 x6 x7 x8 x9 x10 x11 x12 x13 x14 (ValueIdx.ix2 s j) = Ideal.sqrt (Cert.Proof.Attn.vari (row x0 x1 x2 x3 x4 x5 x6 x7 x8 x9 x10 x11 x12 x13 x14 s) + Ideal.ofBits .f32 0x3727C5AC#32) := by
  have e2 : idx_main_v253 (ValueIdx.ix2 s j) = ValueIdx.ix2 s 0 := by funext a; match a with | ⟨0, _⟩ => rfl | ⟨1, _⟩ => rfl
  rw [val_main_v253_apply, e2, val_main_v252_apply, val_main_v251_apply, vari_row, val_main_v250_apply]
  rfl

/-- The normalised row before it is scaled. -/
theorem unit_apply (s : Fin 256) (j : Fin 128) : val_main_v254 (F := Ideal) x0 x1 x2 x3 x4 x5 x6 x7 x8 x9 x10 x11 x12 x13 x14 (ValueIdx.ix2 s j)
    = (row x0 x1 x2 x3 x4 x5 x6 x7 x8 x9 x10 x11 x12 x13 x14 s j - Cert.Proof.Attn.mean (row x0 x1 x2 x3 x4 x5 x6 x7 x8 x9 x10 x11 x12 x13 x14 s)) * Ideal.rsqrt (Cert.Proof.Attn.vari (row x0 x1 x2 x3 x4 x5 x6 x7 x8 x9 x10 x11 x12 x13 x14 s) + Ideal.ofBits .f32 0x3727C5AC#32) := by
  unfold val_main_v254
  refine (divf_at _ _ _).trans ?_
  rw [dist_apply, dev_apply]
  exact Cert.Proof.Attn.div_sqrt _ _ (Cert.Proof.Attn.vari_pos _)

/-- The normalised row. -/
theorem norm_apply (s : Fin 256) (j : Fin 128) : val_main_v260 (F := Ideal) x0 x1 x2 x3 x4 x5 x6 x7 x8 x9 x10 x11 x12 x13 x14 x15 x16 (ValueIdx.ix2 s j) = Cert.Proof.Attn.norm (args x0 x1 x2 x3 x4 x5 x6 x7 x8 x9 x10 x11 x12 x13 x14 x15 x16) (row x0 x1 x2 x3 x4 x5 x6 x7 x8 x9 x10 x11 x12 x13 x14 s) j := by
  rw [val_main_v260_apply, val_main_v257_apply, unit_apply]
  exact congrArg₂ (fun x y : EReal => (row x0 x1 x2 x3 x4 x5 x6 x7 x8 x9 x10 x11 x12 x13 x14 s j - Cert.Proof.Attn.mean (row x0 x1 x2 x3 x4 x5 x6 x7 x8 x9 x10 x11 x12 x13 x14 s)) * Ideal.rsqrt (Cert.Proof.Attn.vari (row x0 x1 x2 x3 x4 x5 x6 x7 x8 x9 x10 x11 x12 x13 x14 s) + Ideal.ofBits .f32 0x3727C5AC#32) * x + y)
    (biasRow (by decide) (by decide) bcast_S128_S1x128_1 bcast_S1x128_S256x128_0_1 x15 s j)
    (biasRow (by decide) (by decide) bcast_S128_S1x128_1 bcast_S1x128_S256x128_0_1 x16 s j)

/-- The reference's result. -/
theorem result_apply (hb : ∀ n : Fin 100000, (x1 (ValueIdx.ix1 n)).toNat < 256) (hd : ∀ n : Fin 100000, (x3 (ValueIdx.ix1 n)).toNat < 32)
    (h2 : ∀ i, x6 i ≠ ⊤ ∧ x6 i ≠ ⊥) (h3 : ∀ i, x7 i ≠ ⊤ ∧ x7 i ≠ ⊥) (s : Fin 256) (j : Fin 128) :
    val_main_v260 (F := Ideal) x0 x1 x2 x3 x4 x5 x6 x7 x8 x9 x10 x11 x12 x13 x14 x15 x16 (ValueIdx.ix2 s j) = Cert.Proof.Attn.res (args x0 x1 x2 x3 x4 x5 x6 x7 x8 x9 x10 x11 x12 x13 x14 x15 x16) s.val j := by
  have e : row x0 x1 x2 x3 x4 x5 x6 x7 x8 x9 x10 x11 x12 x13 x14 s = Cert.Proof.Attn.out (args x0 x1 x2 x3 x4 x5 x6 x7 x8 x9 x10 x11 x12 x13 x14 x15 x16) (Cert.Proof.Attn.pre (args x0 x1 x2 x3 x4 x5 x6 x7 x8 x9 x10 x11 x12 x13 x14 x15 x16) s.val) := funext fun j => out_apply x0 x1 x2 x3 x4 x5 x6 x7 x8 x9 x10 x11 x12 x13 x14 x15 x16 hb hd h2 h3 s j
  rw [norm_apply, e]
  rfl

end Cert.ReferenceIdeal.Read

end
-- ==== Proof.RefFrame.lean ====
module

public import proofs.«01_k».proof.Proof.Gen.ReferenceIdeal.Run
public import Idealize.ShloMosaic.Lib.Quiescent

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The reference leaves its arguments unchanged and every semaphore at zero. -/
theorem frame_all (m : (ℓ : Loc nD τ sig) → Buf (Elt F) ℓ) (ρ : Dev nD → PrngReg) :
    θ_run defs (onTc (τ := τ) (main (F := F))) ⟨m, fun _ => 0, ρ⟩ fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14) ∧ r.2.mem ((c.tc : Thread nD τ).loc main_arg15) = m ((c.tc : Thread nD τ).loc main_arg15) ∧ r.2.mem ((c.tc : Thread nD τ).loc main_arg16) = m ((c.tc : Thread nD τ).loc main_arg16)) ∧ r.2.sem = fun _ => 0 :=
  (θ_run defs _ _).mono (fun r h => ⟨fun c => (h c).2, sem_eq_zero_of_no_sems rfl r.2⟩) (run m ρ)

end Cert.ReferenceIdeal.Value

end
-- ==== Proof.lean ====
module

public import proofs.«01_k».proof.Defs
public import proofs.«01_k».proof.Proof.PreFacts
public import proofs.«01_k».proof.Proof.PreFin
public import proofs.«01_k».proof.Proof.KITab
public import proofs.«01_k».proof.Proof.KTab
public import proofs.«01_k».proof.Proof.KFrame
public import proofs.«01_k».proof.Proof.KIRes
public import proofs.«01_k».proof.Proof.RefTail
public import proofs.«01_k».proof.Proof.RefFrame
public import proofs.«01_k».proof.Proof.Gen.Pre_drawn
public import proofs.«01_k».proof.Proof.Gen.Pre_drawn_finite
public import proofs.«01_k».proof.Proof.Gen.ReferenceIdeal.Run
public import proofs.«01_k».proof.Proof.Gen.ReferenceIdeal.Read

@[expose] public section

noncomputable section

namespace Cert.Proof

open Idealize.ShloMosaic Idealize.SL.Sem Idealize.ShloMosaic.StableHlo

/-! ## Frames -/

/-- The kernel's frame, from drawn arguments. -/
theorem frame_K : @Cert.quiescent_Kernel Cert.Kernel.Gen.facts Cert.Pre_drawn.Gen.facts := fun m g h =>
  (θ_run _ _ _).mono (fun _ r => ⟨r.1.2, r.2⟩) (Cert.Kernel.Body.run_all m g (Cert.Kernel.Body.Tok_of m (drawn_of _ _ _ _ _ _ _ _ _ _ _ _ _ _ _ _ _ (h 0)).bat_lt))

/-- The idealised kernel's frame, from drawn arguments. -/
theorem frame_KI : @Cert.quiescent_KernelIdeal Cert.KernelIdeal.Gen.facts Cert.Pre_drawn.Gen.facts := fun m g h =>
  (θ_run _ _ _).mono (fun _ r => ⟨r.1.2, r.2⟩) (Cert.KernelIdeal.Body.run_all m g (Cert.KernelIdeal.Body.Tok_of m (drawn_of _ _ _ _ _ _ _ _ _ _ _ _ _ _ _ _ _ (h 0)).bat_lt))

/-- The idealised kernel's frame, from drawn arguments with finite score weights. -/
theorem frame_KI' : @Cert.quiescent_KernelIdeal_pre_drawn_finite Cert.KernelIdeal.Gen.facts Cert.Pre_drawn_finite.Gen.facts := fun m g h =>
  (θ_run _ _ _).mono (fun _ r => ⟨r.1.2, r.2⟩) (Cert.KernelIdeal.Body.run_all m g (Cert.KernelIdeal.Body.Tok_of m (drawn_of_finite _ _ _ _ _ _ _ _ _ _ _ _ _ _ _ _ _ (h 0)).1.bat_lt))

/-- The reference's frame. -/
theorem frame_RI : @Cert.quiescent_ReferenceIdeal Cert.ReferenceIdeal.Gen.facts Cert.Pre_drawn.Gen.facts := fun m g _ =>
  Cert.ReferenceIdeal.Value.frame_all m g

/-- The reference's frame, whatever its precondition. -/
theorem frame_RI' : @Cert.quiescent_ReferenceIdeal_pre_drawn_finite Cert.ReferenceIdeal.Gen.facts Cert.Pre_drawn_finite.Gen.facts := fun m g _ =>
  Cert.ReferenceIdeal.Value.frame_all m g

/-! ## The equality of the results -/

/-- Numbers that never fall from one place to the next never fall. -/
theorem sorted_of_step (f : Fin 100000 → ℕ) (h : ∀ i : Fin 99999, f ⟨i.val, by omega⟩ ≤ f ⟨1 + i.val, by omega⟩) (i j : Fin 100000) (hij : i ≤ j) : f i ≤ f j := by
  have key : ∀ (d a : ℕ) (hd : a + d < 100000), f ⟨a, by omega⟩ ≤ f ⟨a + d, hd⟩ := by
    intro d
    induction d with
    | zero => exact fun a hd => le_refl _
    | succ d ih =>
      exact fun a hd => (ih a (by omega)).trans ((h ⟨a + d, by omega⟩).trans (le_of_eq (congrArg f (Fin.ext (show 1 + (a + d) = a + (d + 1) by omega)))))
  have hij' : i.val ≤ j.val := hij
  exact (key (j.val - i.val) i.val (by omega)).trans (le_of_eq (congrArg f (Fin.ext (show i.val + (j.val - i.val) = j.val by omega))))

attribute [local instance] Cert.KernelIdeal.Gen.facts Cert.ReferenceIdeal.Gen.facts Cert.Pre_drawn_finite.Gen.facts

variable (m : (ℓ : Loc Cert.KernelIdeal.nD Cert.KernelIdeal.τ Cert.KernelIdeal.sig) → Buf (Elt Ideal) ℓ)

/-- The reference's result at the kernel's arguments is the kernel's result. -/
theorem value_eq (h : Cert.Pre_KernelIdeal_drawn_finite m) (hT : Cert.KernelIdeal.Body.Tok m)
    (a0 : FVec Ideal Cert.ReferenceIdeal.S100000x128 .f32) (a1 : IVec Cert.ReferenceIdeal.S100000 32) (a2 : IVec Cert.ReferenceIdeal.S100000 1) (a3 : IVec Cert.ReferenceIdeal.S100000 32)
    (a4 : FVec Ideal Cert.ReferenceIdeal.S4x128x32 .f32) (a5 : FVec Ideal Cert.ReferenceIdeal.S4x32 .f32) (a6 : FVec Ideal Cert.ReferenceIdeal.S4x32x1 .f32) (a7 : FVec Ideal Cert.ReferenceIdeal.S4x1 .f32)
    (a8 : FVec Ideal Cert.ReferenceIdeal.S512x128 .f32) (a9 : FVec Ideal Cert.ReferenceIdeal.S128 .f32) (a10 : FVec Ideal Cert.ReferenceIdeal.S32x8 .f32) (a11 : FVec Ideal Cert.ReferenceIdeal.S264x128 .f32)
    (a12 : FVec Ideal Cert.ReferenceIdeal.S128 .f32) (a13 : FVec Ideal Cert.ReferenceIdeal.S128x128 .f32) (a14 a15 a16 : FVec Ideal Cert.ReferenceIdeal.S128 .f32)
    (e0 : a0 = m (((0 : Dev Cert.KernelIdeal.nD).tc : Thread Cert.KernelIdeal.nD Cert.KernelIdeal.τ).loc Cert.KernelIdeal.main_arg0))
    (e1 : a1 = m (((0 : Dev Cert.KernelIdeal.nD).tc : Thread Cert.KernelIdeal.nD Cert.KernelIdeal.τ).loc Cert.KernelIdeal.main_arg1))
    (e2 : a2 = m (((0 : Dev Cert.KernelIdeal.nD).tc : Thread Cert.KernelIdeal.nD Cert.KernelIdeal.τ).loc Cert.KernelIdeal.main_arg2))
    (e3 : a3 = m (((0 : Dev Cert.KernelIdeal.nD).tc : Thread Cert.KernelIdeal.nD Cert.KernelIdeal.τ).loc Cert.KernelIdeal.main_arg3))
    (e4 : a4 = m (((0 : Dev Cert.KernelIdeal.nD).tc : Thread Cert.KernelIdeal.nD Cert.KernelIdeal.τ).loc Cert.KernelIdeal.main_arg4))
    (e5 : a5 = m (((0 : Dev Cert.KernelIdeal.nD).tc : Thread Cert.KernelIdeal.nD Cert.KernelIdeal.τ).loc Cert.KernelIdeal.main_arg5))
    (e6 : a6 = m (((0 : Dev Cert.KernelIdeal.nD).tc : Thread Cert.KernelIdeal.nD Cert.KernelIdeal.τ).loc Cert.KernelIdeal.main_arg6))
    (e7 : a7 = m (((0 : Dev Cert.KernelIdeal.nD).tc : Thread Cert.KernelIdeal.nD Cert.KernelIdeal.τ).loc Cert.KernelIdeal.main_arg7))
    (e8 : a8 = m (((0 : Dev Cert.KernelIdeal.nD).tc : Thread Cert.KernelIdeal.nD Cert.KernelIdeal.τ).loc Cert.KernelIdeal.main_arg8))
    (e9 : a9 = m (((0 : Dev Cert.KernelIdeal.nD).tc : Thread Cert.KernelIdeal.nD Cert.KernelIdeal.τ).loc Cert.KernelIdeal.main_arg9))
    (e10 : a10 = m (((0 : Dev Cert.KernelIdeal.nD).tc : Thread Cert.KernelIdeal.nD Cert.KernelIdeal.τ).loc Cert.KernelIdeal.main_arg10))
    (e11 : a11 = m (((0 : Dev Cert.KernelIdeal.nD).tc : Thread Cert.KernelIdeal.nD Cert.KernelIdeal.τ).loc Cert.KernelIdeal.main_arg11))
    (e12 : a12 = m (((0 : Dev Cert.KernelIdeal.nD).tc : Thread Cert.KernelIdeal.nD Cert.KernelIdeal.τ).loc Cert.KernelIdeal.main_arg12))
    (e13 : a13 = m (((0 : Dev Cert.KernelIdeal.nD).tc : Thread Cert.KernelIdeal.nD Cert.KernelIdeal.τ).loc Cert.KernelIdeal.main_arg13))
    (e14 : a14 = m (((0 : Dev Cert.KernelIdeal.nD).tc : Thread Cert.KernelIdeal.nD Cert.KernelIdeal.τ).loc Cert.KernelIdeal.main_arg14))
    (e15 : a15 = m (((0 : Dev Cert.KernelIdeal.nD).tc : Thread Cert.KernelIdeal.nD Cert.KernelIdeal.τ).loc Cert.KernelIdeal.main_arg15))
    (e16 : a16 = m (((0 : Dev Cert.KernelIdeal.nD).tc : Thread Cert.KernelIdeal.nD Cert.KernelIdeal.τ).loc Cert.KernelIdeal.main_arg16)) :
    Cert.ReferenceIdeal.Read.val_main_v260 (F := Ideal) a0 a1 a2 a3 a4 a5 a6 a7 a8 a9 a10 a11 a12 a13 a14 a15 a16 = Cert.KernelIdeal.Body.result m hT 0 := by
  obtain ⟨hD, h6, h7⟩ := drawn_of_finite _ _ _ _ _ _ _ _ _ _ _ _ _ _ _ _ _ (h 0)
  have hb : ∀ i : Fin 100000, Cert.KernelIdeal.Body.batN m i < 256 := hD.bat_lt
  have hle : ∀ i j : Fin 100000, i ≤ j → Cert.KernelIdeal.Body.batN m i ≤ Cert.KernelIdeal.Body.batN m j := sorted_of_step _ hD.bat_le
  have hdep : ∀ n : Fin 100000, (a3 (ValueIdx.ix1 n)).toNat < 32 := fun n => by
    rw [e3, ← Cert.Proof.Attn.ix1_eq]; exact hD.dep_lt n
  have hbat : ∀ n : Fin 100000, (a1 (ValueIdx.ix1 n)).toNat < 256 := fun n => by
    rw [e1, ← Cert.Proof.Attn.ix1_eq]; exact hD.bat_lt n
  have h2 : ∀ i, a6 i ≠ ⊤ ∧ a6 i ≠ ⊥ := fun i => by
    rw [e6]; exact real_of_abs _ (h6 i)
  have h3 : ∀ i, a7 i ≠ ⊤ ∧ a7 i ≠ ⊥ := fun i => by
    rw [e7]; exact real_of_abs _ (h7 i)
  have hI : Cert.ReferenceIdeal.Read.args a0 a1 a2 a3 a4 a5 a6 a7 a8 a9 a10 a11 a12 a13 a14 a15 a16 = Cert.KernelIdeal.Body.inp m 0 := by
    rw [e0, e1, e2, e3, e4, e5, e6, e7, e8, e9, e10, e11, e12, e13, e14, e15, e16]; rfl
  funext i
  obtain ⟨s, j, rfl⟩ : ∃ s j, i = ValueIdx.ix2 s j := ⟨_, _, ValueIdx.eq_ix2 i⟩
  refine (Cert.ReferenceIdeal.Read.result_apply a0 a1 a2 a3 a4 a5 a6 a7 a8 a9 a10 a11 a12 a13 a14 a15 a16 hbat hdep h2 h3 s j).trans ?_
  rw [hI]
  refine (Cert.KernelIdeal.Body.result_eq m hb hle ?_ hT s j).symm
  rw [← hI]
  exact hdep

/-- Both programs end with the same result. -/
theorem equal : @Cert.algebraic_KernelIdeal_ReferenceIdeal_pre_drawn_finite Cert.KernelIdeal.Gen.facts Cert.ReferenceIdeal.Gen.facts Cert.Pre_drawn_finite.Gen.facts := fun m g m' g' h hA => by
  have hT : Cert.KernelIdeal.Body.Tok m := Cert.KernelIdeal.Body.Tok_of m (drawn_of_finite _ _ _ _ _ _ _ _ _ _ _ _ _ _ _ _ _ (h 0)).1.bat_lt
  refine ⟨Cert.KernelIdeal.Body.result m hT, (θ_run _ _ _).mono (fun _ r c => ⟨r.1.1 c, r.1.2 c⟩) (Cert.KernelIdeal.Body.run_all m g hT),
    (θ_run _ _ _).mono (fun _ r c => ⟨(r c).1.trans ?_, (r c).2⟩) (Cert.ReferenceIdeal.Value.run m' g')⟩
  obtain rfl : c = 0 := Subsingleton.elim (α := Fin 1) _ _
  obtain ⟨e0, e1, e2, e3, e4, e5, e6, e7, e8, e9, e10, e11, e12, e13, e14, e15, e16⟩ := hA 0
  exact (Cert.ReferenceIdeal.Read.val_main_v260_eq (launchContents m' 0)).trans (value_eq m h hT _ _ _ _ _ _ _ _ _ _ _ _ _ _ _ _ _ e0 e1 e2 e3 e4 e5 e6 e7 e8 e9 e10 e11 e12 e13 e14 e15 e16)

/-- The claim. -/
theorem claim : Cert.Claim := ⟨Cert.Kernel.Gen.facts, Cert.KernelIdeal.Gen.facts, Cert.ReferenceIdeal.Gen.facts, Cert.Pre_drawn.Gen.facts, Cert.Pre_drawn_finite.Gen.facts,
  frame_K, frame_KI, frame_KI', frame_RI, frame_RI', trivial, equal⟩

end Cert.Proof

end
